-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite15 [hPre_finite15 : Cert.Pre_finite15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite15 [hPre_finite15 : Cert.Pre_finite15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Kernel15Ideal_pre_finite15 [hKernel15Ideal : Cert.Kernel15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite15 m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Reference15Ideal_pre_finite15 [hReference15Ideal : Cert.Reference15Ideal.Facts] [hPre_finite15 : Cert.Pre_finite15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)) (v2 : (c : Dev Cert.KernelIdeal.nD) → Buf (Elt Ideal) ((c.tc : Thread Cert.KernelIdeal.nD Cert.KernelIdeal.τ).loc Cert.KernelIdeal.main_v20_2)) (v3 : (c : Dev Cert.KernelIdeal.nD) → Buf (Elt Ideal) ((c.tc : Thread Cert.KernelIdeal.nD Cert.KernelIdeal.τ).loc Cert.KernelIdeal.main_v20_3)) (v4 : (c : Dev Cert.KernelIdeal.nD) → Buf (Elt Ideal) ((c.tc : Thread Cert.KernelIdeal.nD Cert.KernelIdeal.τ).loc Cert.KernelIdeal.main_v20_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_v20_2) = v2 c
          ∧ r.2.mem ((c.tc : Thread Cert.KernelIdeal.nD Cert.KernelIdeal.τ).loc Cert.KernelIdeal.main_v20_3) = v3 c
          ∧ r.2.mem ((c.tc : Thread Cert.KernelIdeal.nD Cert.KernelIdeal.τ).loc Cert.KernelIdeal.main_v20_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_v169) = v1 c
          ∧ r.2.mem ((c.tc : Thread Cert.ReferenceIdeal.nD Cert.ReferenceIdeal.τ).loc Cert.ReferenceIdeal.main_v138) = v2 c
          ∧ r.2.mem ((c.tc : Thread Cert.ReferenceIdeal.nD Cert.ReferenceIdeal.τ).loc Cert.ReferenceIdeal.main_v170) = v3 c
          ∧ r.2.mem ((c.tc : Thread Cert.ReferenceIdeal.nD Cert.ReferenceIdeal.τ).loc Cert.ReferenceIdeal.main_v171) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_v17) = v1 c
          ∧ r.2.mem ((c.tc : Thread Cert.Reference12Ideal.nD Cert.Reference12Ideal.τ).loc Cert.Reference12Ideal.main_v32) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_v17) = v1 c
          ∧ r.2.mem ((c.tc : Thread Cert.Reference13Ideal.nD Cert.Reference13Ideal.τ).loc Cert.Reference13Ideal.main_v32) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_v21) = v1 c
          ∧ r.2.mem ((c.tc : Thread Cert.Reference14Ideal.nD Cert.Reference14Ideal.τ).loc Cert.Reference14Ideal.main_v36) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def preserves_Kernel15_Kernel15Ideal : Prop :=
  True

def algebraic_Kernel15Ideal_Reference15Ideal_pre_finite15 [hKernel15Ideal : Cert.Kernel15Ideal.Facts] [hReference15Ideal : Cert.Reference15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite15 m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)) (v4 : (c : Dev Cert.Kernel15Ideal.nD) → Buf (Elt Ideal) ((c.tc : Thread Cert.Kernel15Ideal.nD Cert.Kernel15Ideal.τ).loc Cert.Kernel15Ideal.main_v0_4)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_v0_4) = v4 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_v35) = v1 c
          ∧ r.2.mem ((c.tc : Thread Cert.Reference15Ideal.nD Cert.Reference15Ideal.τ).loc Cert.Reference15Ideal.main_v57) = v2 c
          ∧ r.2.mem ((c.tc : Thread Cert.Reference15Ideal.nD Cert.Reference15Ideal.τ).loc Cert.Reference15Ideal.main_v56) = v3 c
          ∧ r.2.mem ((c.tc : Thread Cert.Reference15Ideal.nD Cert.Reference15Ideal.τ).loc Cert.Reference15Ideal.main_v58) = v4 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite : Cert.Pre_finite.Facts) (hPre_finite15 : Cert.Pre_finite15.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_finite15 (hKernel15Ideal := hKernel15Ideal) (hPre_finite15 := hPre_finite15)
    ∧ quiescent_Reference15Ideal (hReference15Ideal := hReference15Ideal)
    ∧ quiescent_Reference15Ideal_pre_finite15 (hReference15Ideal := hReference15Ideal) (hPre_finite15 := hPre_finite15)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_finite15 (hKernel15Ideal := hKernel15Ideal) (hReference15Ideal := hReference15Ideal) (hPre_finite15 := hPre_finite15)
-- ==== Pre_finite.lean ====
abbrev S8192x1280 : Shape := ⟨2, ![8192, 1280]⟩
abbrev S2x8 : Shape := ⟨2, ![2, 8]⟩
abbrev S8192x1024 : Shape := ⟨2, ![8192, 1024]⟩
abbrev S_ : Shape := ⟨0, ![]⟩

class Facts : Prop where
  bcast_S_S8192x1280 : S_.BroadcastsInDim S8192x1280 (![] : Fin 0 → Fin S8192x1280.rank)
  reducesTo_S8192x1280_S_d0_1 : S8192x1280.ReducesTo [0, 1] S_
  h_S_ : 0 < S_.numel
  bcast_S_S2x8 : S_.BroadcastsInDim S2x8 (![] : Fin 0 → Fin S2x8.rank)
  reducesTo_S2x8_S_d0_1 : S2x8.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_arg2 : FVec F S8192x1024 .f32) (main_v12 : IVec S_ 1) (main_v14 : IVec S8192x1024 1) (main_v15 : FVec F S8192x1024 .f32) : IVec S_ 1 :=
  let main_v16 : IVec S8192x1024 1 := cmpf .olt main_arg2 main_v15
  let main_v17 : IVec S8192x1024 1 := andi main_v14 main_v16
  let main_c_6 : IVec S_ 1 := constantI S_ 1 1#1
  let main_v18 : IVec S_ 1 := (fun x v => Host.reduce IntOp.andi x v reducesTo_S8192x1024_S_d0_1 h_S_) main_v17 main_c_6
  let main_v19 : IVec S_ 1 := andi main_v12 main_v18
  main_v19

def fn {F : FTy → Type} [FloatOps F] (main_arg0 : FVec F S8192x1280 .f32) (main_arg1 : FVec F S2x8 .f32) (main_arg2 : FVec F S8192x1024 .f32) : IVec S_ 1 :=
  let main_cst : FVec F S_ .f32 := constant S_ .f32 0xFF800000#32
  let main_v0 : FVec F S8192x1280 .f32 := broadcastInDim S8192x1280 ![] bcast_S_S8192x1280 main_cst
  let main_v1 : IVec S8192x1280 1 := cmpf .ogt main_arg0 main_v0
  let main_cst_0 : FVec F S_ .f32 := constant S_ .f32 0x7F800000#32
  let main_v2 : FVec F S8192x1280 .f32 := broadcastInDim S8192x1280 ![] bcast_S_S8192x1280 main_cst_0
  let main_v3 : IVec S8192x1280 1 := cmpf .olt main_arg0 main_v2
  let main_v4 : IVec S8192x1280 1 := andi main_v1 main_v3
  let main_c : IVec S_ 1 := constantI S_ 1 1#1
  let main_v5 : IVec S_ 1 := (fun x v => Host.reduce IntOp.andi x v reducesTo_S8192x1280_S_d0_1 h_S_) main_v4 main_c
  let main_cst_1 : FVec F S_ .f32 := constant S_ .f32 0xFF800000#32
  let main_v6 : FVec F S2x8 .f32 := broadcastInDim S2x8 ![] bcast_S_S2x8 main_cst_1
  let main_v7 : IVec S2x8 1 := cmpf .ogt main_arg1 main_v6
  let main_cst_2 : FVec F S_ .f32 := constant S_ .f32 0x7F800000#32
  let main_v8 : FVec F S2x8 .f32 := broadcastInDim S2x8 ![] bcast_S_S2x8 main_cst_2
  let main_v9 : IVec S2x8 1 := cmpf .olt main_arg1 main_v8
  let main_v10 : IVec S2x8 1 := andi main_v7 main_v9
  let main_c_3 : IVec S_ 1 := constantI S_ 1 1#1
  let main_v11 : IVec S_ 1 := (fun x v => Host.reduce IntOp.andi x v reducesTo_S2x8_S_d0_1 h_S_) main_v10 main_c_3
  let main_v12 : IVec S_ 1 := andi main_v5 main_v11
  let main_cst_4 : FVec F S_ .f32 := constant S_ .f32 0xFF800000#32
  let main_v13 : FVec F S8192x1024 .f32 := broadcastInDim S8192x1024 ![] bcast_S_S8192x1024 main_cst_4
  let main_v14 : IVec S8192x1024 1 := cmpf .ogt main_arg2 main_v13
  let main_cst_5 : FVec F S_ .f32 := constant S_ .f32 0x7F800000#32
  let main_v15 : FVec F S8192x1024 .f32 := broadcastInDim S8192x1024 ![] bcast_S_S8192x1024 main_cst_5
  fn_part1 (F := F) main_arg2 main_v12 main_v14 main_v15
-- ==== Pre_finite15.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_v28 : IVec S_ 1) (main_v33 : IVec S1x1024 1) : IVec S_ 1 :=
  let main_c_12 : IVec S_ 1 := constantI S_ 1 1#1
  let main_v34 : IVec S_ 1 := (fun x v => Host.reduce IntOp.andi x v reducesTo_S1x1024_S_d0_1 h_S_) main_v33 main_c_12
  let main_v35 : IVec S_ 1 := andi main_v28 main_v34
  main_v35

def fn_part1 {F : FTy → Type} [FloatOps F] (main_arg2 : FVec F S8192x1024 .f32) (main_arg3 : FVec F S8192x1024 .f32) (main_arg4 : FVec F S1x1024 .f32) (main_v14 : IVec S_ 1) (main_v16 : IVec S8192x1024 1) : IVec S_ 1 :=
  let main_cst_5 : FVec F S_ .f32 := constant S_ .f32 0x7F800000#32
  let main_v17 : FVec F S8192x1024 .f32 := broadcastInDim S8192x1024 ![] bcast_S_S8192x1024 main_cst_5
  let main_v18 : IVec S8192x1024 1 := cmpf .olt main_arg2 main_v17
  let main_v19 : IVec S8192x1024 1 := andi main_v16 main_v18
  let main_c_6 : IVec S_ 1 := constantI S_ 1 1#1
  let main_v20 : IVec S_ 1 := (fun x v => Host.reduce IntOp.andi x v reducesTo_S8192x1024_S_d0_1 h_S_) main_v19 main_c_6
  let main_v21 : IVec S_ 1 := andi main_v14 main_v20
  let main_cst_7 : FVec F S_ .f32 := constant S_ .f32 0xFF800000#32
  let main_v22 : FVec F S8192x1024 .f32 := broadcastInDim S8192x1024 ![] bcast_S_S8192x1024 main_cst_7
  let main_v23 : IVec S8192x1024 1 := cmpf .ogt main_arg3 main_v22
  let main_cst_8 : FVec F S_ .f32 := constant S_ .f32 0x7F800000#32
  let main_v24 : FVec F S8192x1024 .f32 := broadcastInDim S8192x1024 ![] bcast_S_S8192x1024 main_cst_8
  let main_v25 : IVec S8192x1024 1 := cmpf .olt main_arg3 main_v24
  let main_v26 : IVec S8192x1024 1 := andi main_v23 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v21 main_v27
  let main_cst_10 : FVec F S_ .f32 := constant S_ .f32 0xFF800000#32
  let main_v29 : FVec F S1x1024 .f32 := broadcastInDim S1x1024 ![] bcast_S_S1x1024 main_cst_10
  let main_v30 : IVec S1x1024 1 := cmpf .ogt main_arg4 main_v29
  let main_cst_11 : FVec F S_ .f32 := constant S_ .f32 0x7F800000#32
  let main_v31 : FVec F S1x1024 .f32 := broadcastInDim S1x1024 ![] bcast_S_S1x1024 main_cst_11
  let main_v32 : IVec S1x1024 1 := cmpf .olt main_arg4 main_v31
  let main_v33 : IVec S1x1024 1 := andi main_v30 main_v32
  fn_part2 (F := F) main_v28 main_v33

def fn {F : FTy → Type} [FloatOps F] (main_arg0 : FVec F S8192x2816 .bf16) (main_arg1 : FVec F S2816x1024 .bf16) (main_arg2 : FVec F S8192x1024 .f32) (main_arg3 : FVec F S8192x1024 .f32) (main_arg4 : FVec F S1x1024 .f32) : IVec S_ 1 :=
  let main_v0 : FVec F S8192x2816 .f32 := (extf .f32 · bitsLt_bf16_f32) main_arg0
  let main_v1 : FVec F S2816x1024 .f32 := (extf .f32 · bitsLt_bf16_f32) main_arg1
  let main_cst : FVec F S_ .f32 := constant S_ .f32 0xFF800000#32
  let main_v2 : FVec F S8192x2816 .f32 := broadcastInDim S8192x2816 ![] bcast_S_S8192x2816 main_cst
  let main_v3 : IVec S8192x2816 1 := cmpf .ogt main_v0 main_v2
  let main_cst_0 : FVec F S_ .f32 := constant S_ .f32 0x7F800000#32
  let main_v4 : FVec F S8192x2816 .f32 := broadcastInDim S8192x2816 ![] bcast_S_S8192x2816 main_cst_0
  let main_v5 : IVec S8192x2816 1 := cmpf .olt main_v0 main_v4
  let main_v6 : IVec S8192x2816 1 := andi main_v3 main_v5
  let main_c : IVec S_ 1 := constantI S_ 1 1#1
  let main_v7 : IVec S_ 1 := (fun x v => Host.reduce IntOp.andi x v reducesTo_S8192x2816_S_d0_1 h_S_) main_v6 main_c
  let main_cst_1 : FVec F S_ .f32 := constant S_ .f32 0xFF800000#32
  let main_v8 : FVec F S2816x1024 .f32 := broadcastInDim S2816x1024 ![] bcast_S_S2816x1024 main_cst_1
  let main_v9 : IVec S2816x1024 1 := cmpf .ogt main_v1 main_v8
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v1 main_v10
  let main_v12 : IVec S2816x1024 1 := andi main_v9 main_v11
  let main_c_3 : IVec S_ 1 := constantI S_ 1 1#1
  let main_v13 : IVec S_ 1 := (fun x v => Host.reduce IntOp.andi x v reducesTo_S2816x1024_S_d0_1 h_S_) main_v12 main_c_3
  let main_v14 : IVec S_ 1 := andi main_v7 main_v13
  let main_cst_4 : FVec F S_ .f32 := constant S_ .f32 0xFF800000#32
  let main_v15 : FVec F S8192x1024 .f32 := broadcastInDim S8192x1024 ![] bcast_S_S8192x1024 main_cst_4
  let main_v16 : IVec S8192x1024 1 := cmpf .ogt main_arg2 main_v15
  fn_part1 (F := F) main_arg2 main_arg3 main_arg4 main_v14 main_v16
-- ==== Kernel.lean ====
abbrev S8192x1280 : Shape := ⟨2, ![8192, 1280]⟩
abbrev S2x8 : Shape := ⟨2, ![2, 8]⟩
abbrev S8192x1024 : Shape := ⟨2, ![8192, 1024]⟩
abbrev S1024x256 : Shape := ⟨2, ![1024, 256]⟩
abbrev S_ : Shape := ⟨0, ![]⟩
abbrev S1x1024x256 : Shape := ⟨3, ![1, 1024, 256]⟩
abbrev S2x1024x256 : Shape := ⟨3, ![2, 1024, 256]⟩
abbrev S8192x256 : Shape := ⟨2, ![8192, 256]⟩
abbrev S1x1024 : Shape := ⟨2, ![1, 1024]⟩
abbrev S1x256 : Shape := ⟨2, ![1, 256]⟩
abbrev S128x1024 : Shape := ⟨2, ![128, 1024]⟩
abbrev S128x256 : Shape := ⟨2, ![128, 256]⟩
abbrev S256x128 : Shape := ⟨2, ![256, 128]⟩
abbrev S128x128 : Shape := ⟨2, ![128, 128]⟩
abbrev S1x8 : Shape := ⟨2, ![1, 8]⟩
abbrev S512x128 : Shape := ⟨2, ![512, 128]⟩
abbrev S512x256 : Shape := ⟨2, ![512, 256]⟩
abbrev S1024x8 : Shape := ⟨2, ![1024, 8]⟩
abbrev S1024 : Shape := ⟨1, ![1024]⟩
abbrev S1024x1 : Shape := ⟨2, ![1024, 1]⟩
abbrev S384x128 : Shape := ⟨2, ![384, 128]⟩
abbrev S8 : Shape := ⟨1, ![8]⟩
abbrev S1x128 : Shape := ⟨2, ![1, 128]⟩
abbrev S128 : Shape := ⟨1, ![128]⟩
abbrev S256x256 : Shape := ⟨2, ![256, 256]⟩
abbrev S256 : Shape := ⟨1, ![256]⟩

abbrev nBuf : Space → Nat
  | .hbm => 37
  | .vmem => 19
  | .smem => 0
  | _ => 0

abbrev bufTy : (tb : Table) → Fin (tcTables nBuf tb) → BufTy
  | .hbm, ⟨0, _⟩ => ⟨S8192x1280, .f32⟩
  | .hbm, ⟨1, _⟩ => ⟨S2x8, .f32⟩
  | .hbm, ⟨2, _⟩ => ⟨S8192x1024, .f32⟩
  | .hbm, ⟨3, _⟩ => ⟨S1024x256, .i32⟩
  | .hbm, ⟨4, _⟩ => ⟨S_, .i32⟩
  | .hbm, ⟨5, _⟩ => ⟨S1024x256, .i32⟩
  | .hbm, ⟨6, _⟩ => ⟨S1024x256, .i32⟩
  | .hbm, ⟨7, _⟩ => ⟨S1024x256, .i32⟩
  | .hbm, ⟨8, _⟩ => ⟨S_, .i32⟩
  | .hbm, ⟨9, _⟩ => ⟨S1024x256, .i32⟩
  | .hbm, ⟨10, _⟩ => ⟨S1024x256, .i32⟩
  | .hbm, ⟨11, _⟩ => ⟨S1024x256, .i32⟩
  | .hbm, ⟨12, _⟩ => ⟨S_, .i32⟩
  | .hbm, ⟨13, _⟩ => ⟨S1024x256, .i32⟩
  | .hbm, ⟨14, _⟩ => ⟨S1024x256, .i1⟩
  | .hbm, ⟨15, _⟩ => ⟨S_, .i32⟩
  | .hbm, ⟨16, _⟩ => ⟨S1024x256, .i32⟩
  | .hbm, ⟨17, _⟩ => ⟨S1024x256, .i1⟩
  | .hbm, ⟨18, _⟩ => ⟨S1024x256, .i1⟩
  | .hbm, ⟨19, _⟩ => ⟨S_, .i32⟩
  | .hbm, ⟨20, _⟩ => ⟨S1024x256, .i32⟩
  | .hbm, ⟨21, _⟩ => ⟨S1024x256, .i1⟩
  | .hbm, ⟨22, _⟩ => ⟨S1024x256, .i1⟩
  | .hbm, ⟨23, _⟩ => ⟨S1x1024x256, .i1⟩
  | .hbm, ⟨24, _⟩ => ⟨S1x1024x256, .i1⟩
  | .hbm, ⟨25, _⟩ => ⟨S2x1024x256, .i1⟩
  | .hbm, ⟨26, _⟩ => ⟨S_, .f32⟩
  | .hbm, ⟨27, _⟩ => ⟨S_, .f32⟩
  | .hbm, ⟨28, _⟩ => ⟨S2x1024x256, .f32⟩
  | .hbm, ⟨29, _⟩ => ⟨S2x1024x256, .f32⟩
  | .hbm, ⟨30, _⟩ => ⟨S2x1024x256, .f32⟩
  | .hbm, ⟨31, _⟩ => ⟨S2x1024x256, .f32⟩
  | .hbm, ⟨32, _⟩ => ⟨S8192x1024, .bf16⟩
  | .hbm, ⟨33, _⟩ => ⟨S8192x256, .bf16⟩
  | .hbm, ⟨34, _⟩ => ⟨S2x8, .f32⟩
  | .hbm, ⟨35, _⟩ => ⟨S1x1024, .f32⟩
  | .hbm, ⟨36, _⟩ => ⟨S1x256, .f32⟩
  | .local _ .vmem, ⟨0, _⟩ => ⟨S128x1024, .f32⟩
  | .local _ .vmem, ⟨1, _⟩ => ⟨S128x1024, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S2x8, .f32⟩
  | .local _ .vmem, ⟨7, _⟩ => ⟨S128x1024, .f32⟩
  | .local _ .vmem, ⟨8, _⟩ => ⟨S128x1024, .f32⟩
  | .local _ .vmem, ⟨9, _⟩ => ⟨S1x1024x256, .f32⟩
  | .local _ .vmem, ⟨10, _⟩ => ⟨S1x1024x256, .f32⟩
  | .local _ .vmem, ⟨11, _⟩ => ⟨S128x1024, .bf16⟩
  | .local _ .vmem, ⟨12, _⟩ => ⟨S128x1024, .bf16⟩
  | .local _ .vmem, ⟨13, _⟩ => ⟨S128x256, .bf16⟩
  | .local _ .vmem, ⟨14, _⟩ => ⟨S128x256, .bf16⟩
  | .local _ .vmem, ⟨15, _⟩ => ⟨S2x8, .f32⟩
  | .local _ .vmem, ⟨16, _⟩ => ⟨S1x1024, .f32⟩
  | .local _ .vmem, ⟨17, _⟩ => ⟨S1x256, .f32⟩
  | .local _ .vmem, ⟨18, _⟩ => ⟨S128x256, .f32⟩
  | _, _ => ⟨S8192x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v18 : Ref sig .tc := ⟨.hbm, 30, rfl⟩
abbrev main_v19 : Ref sig .tc := ⟨.hbm, 31, rfl⟩
abbrev main_v20_0 : Ref sig .tc := ⟨.hbm, 32, rfl⟩
abbrev main_v20_1 : Ref sig .tc := ⟨.hbm, 33, rfl⟩
abbrev main_v20_2 : Ref sig .tc := ⟨.hbm, 34, rfl⟩
abbrev main_v20_3 : Ref sig .tc := ⟨.hbm, 35, rfl⟩
abbrev main_v20_4 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c64_i32 : BitVec 32 := 64#32
  let v3 : BitVec 1 := Scalar.cmpi .slt arg0 c64_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c64_i32_2 : BitVec 32 := 64#32
  let v6 : BitVec 1 := Scalar.cmpi .eq arg0 c64_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c63_i32 : BitVec 32 := 63#32
  let v1 : BitVec 32 := Scalar.maxsi c0_i32 v0
  let v2 : BitVec 32 := Scalar.minsi c63_i32 v1
  let c4_i32 : BitVec 32 := 4#32
  let c0_i32_0 : BitVec 32 := 0#32
  ![v2.toNat, c4_i32.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c4_i32 : BitVec 32 := 4#32
  let c0_i32 : BitVec 32 := 0#32
  ![v0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c0_i32 : BitVec 32 := 0#32
  let v0 : BitVec 1 := Scalar.cmpi .eq arg0 c0_i32
  let c1_i32 : BitVec 32 := 1#32
  let c0_i32_0 : BitVec 32 := 0#32
  let v1 : BitVec 32 := Scalar.select v0 c1_i32 c0_i32_0
  let c0_i32_1 : BitVec 32 := 0#32
  let c0_i32_2 : BitVec 32 := 0#32
  let c0_i32_3 : BitVec 32 := 0#32
  ![v1.toNat, c0_i32_1.toNat, c0_i32_2.toNat]

def cc0_transform_6 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S8192x1280 : Shape := ⟨2, ![8192, 1280]⟩
abbrev S2x8 : Shape := ⟨2, ![2, 8]⟩
abbrev S8192x1024 : Shape := ⟨2, ![8192, 1024]⟩
abbrev S1x8192x1280 : Shape := ⟨3, ![1, 8192, 1280]⟩
abbrev S1x8192x1024 : Shape := ⟨3, ![1, 8192, 1024]⟩
abbrev S1x8192x128 : Shape := ⟨3, ![1, 8192, 128]⟩
abbrev S1x64x128x2x8x64 : Shape := ⟨6, ![1, 64, 128, 2, 8, 64]⟩
abbrev S_ : Shape := ⟨0, ![]⟩
abbrev S1x64x128x2x64 : Shape := ⟨5, ![1, 64, 128, 2, 64]⟩
abbrev S1x1x128x2x64 : Shape := ⟨5, ![1, 1, 128, 2, 64]⟩
abbrev S1x63x128x2x64 : Shape := ⟨5, ![1, 63, 128, 2, 64]⟩
abbrev S1x64x256x2x64 : Shape := ⟨5, ![1, 64, 256, 2, 64]⟩
abbrev S1x64x2x256x128x8 : Shape := ⟨6, ![1, 64, 2, 256, 128, 8]⟩
abbrev S1x64x2x8x128x256 : Shape := ⟨6, ![1, 64, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S1x64x1x1x128x256 : Shape := ⟨6, ![1, 64, 1, 1, 128, 256]⟩
abbrev S1x1x2x8x1x1 : Shape := ⟨6, ![1, 1, 2, 8, 1, 1]⟩
abbrev S1x64x2x8x128 : Shape := ⟨5, ![1, 64, 2, 8, 128]⟩
abbrev S1x64x2x8x128x1 : Shape := ⟨6, ![1, 64, 2, 8, 128, 1]⟩
abbrev S1x64x2x64x8x128 : Shape := ⟨6, ![1, 64, 2, 64, 8, 128]⟩
abbrev S1x64x2x64x256 : Shape := ⟨5, ![1, 64, 2, 64, 256]⟩
abbrev S1x2x8x1 : Shape := ⟨4, ![1, 2, 8, 1]⟩
abbrev S64x2x8x128 : Shape := ⟨4, ![64, 2, 8, 128]⟩
abbrev S1x64x2x128x8x64 : Shape := ⟨6, ![1, 64, 2, 128, 8, 64]⟩
abbrev S1x64x2x256x64 : Shape := ⟨5, ![1, 64, 2, 256, 64]⟩
abbrev S1280 : Shape := ⟨1, ![1280]⟩
abbrev S1x1280 : Shape := ⟨2, ![1, 1280]⟩
abbrev S8192x256 : Shape := ⟨2, ![8192, 256]⟩
abbrev S1x1024 : Shape := ⟨2, ![1, 1024]⟩

abbrev nBuf : Space → Nat
  | .hbm => 215
  | .vmem => 0
  | .smem => 0
  | _ => 0

abbrev hbmTy0_0 (i : Nat) : BufTy := match i % 128 with
  | 0 => ⟨S8192x1280, .f32⟩
  | 1 => ⟨S2x8, .f32⟩
  | 2 => ⟨S8192x1024, .f32⟩
  | 3 => ⟨S1x8192x1280, .f32⟩
  | 4 => ⟨S1x8192x1024, .f32⟩
  | 5 => ⟨S1x8192x128, .f32⟩
  | 6 => ⟨S1x8192x128, .f32⟩
  | 7 => ⟨S1x64x128x2x8x64, .f32⟩
  | 8 => ⟨S_, .f32⟩
  | 9 => ⟨S1x64x128x2x8x64, .f32⟩
  | 10 => ⟨S1x64x128x2x8x64, .f32⟩
  | 11 => ⟨S1x64x128x2x64, .f32⟩
  | 12 => ⟨S1x64x128x2x64, .f32⟩
  | 13 => ⟨S1x1x128x2x64, .f32⟩
  | 14 => ⟨S_, .f32⟩
  | 15 => ⟨S1x1x128x2x64, .f32⟩
  | 16 => ⟨S1x63x128x2x64, .f32⟩
  | 17 => ⟨S1x64x128x2x64, .f32⟩
  | 18 => ⟨S_, .f32⟩
  | 19 => ⟨S1x1x128x2x64, .f32⟩
  | 20 => ⟨S1x64x256x2x64, .f32⟩
  | 21 => ⟨S1x1x128x2x64, .f32⟩
  | 22 => ⟨S_, .f32⟩
  | 23 => ⟨S1x1x128x2x64, .f32⟩
  | 24 => ⟨S1x63x128x2x64, .f32⟩
  | 25 => ⟨S1x64x128x2x64, .f32⟩
  | 26 => ⟨S_, .f32⟩
  | 27 => ⟨S1x1x128x2x64, .f32⟩
  | 28 => ⟨S1x64x256x2x64, .f32⟩
  | 29 => ⟨S1x64x2x256x128x8, .f32⟩
  | 30 => ⟨S1x64x2x8x128x256, .f32⟩
  | 31 => ⟨S128, .i32⟩
  | 32 => ⟨S128x1, .i32⟩
  | 33 => ⟨S256, .i32⟩
  | 34 => ⟨S1x256, .i32⟩
  | 35 => ⟨S_, .i32⟩
  | 36 => ⟨S1x256, .i32⟩
  | 37 => ⟨S1x256, .i32⟩
  | 38 => ⟨S128x256, .i32⟩
  | 39 => ⟨S128x256, .i32⟩
  | 40 => ⟨S128x256, .i32⟩
  | 41 => ⟨S_, .i32⟩
  | 42 => ⟨S128x256, .i32⟩
  | 43 => ⟨S128x256, .i1⟩
  | 44 => ⟨S_, .i32⟩
  | 45 => ⟨S128x256, .i32⟩
  | 46 => ⟨S128x256, .i1⟩
  | 47 => ⟨S128x256, .i1⟩
  | 48 => ⟨S64, .i32⟩
  | 49 => ⟨S64x1x1, .i32⟩
  | 50 => ⟨S_, .i32⟩
  | 51 => ⟨S64x1x1, .i32⟩
  | 52 => ⟨S64x1x1, .i32⟩
  | 53 => ⟨S1x1x256, .i32⟩
  | 54 => ⟨S64x1x256, .i32⟩
  | 55 => ⟨S64x1x256, .i32⟩
  | 56 => ⟨S64x1x256, .i32⟩
  | 57 => ⟨S_, .i32⟩
  | 58 => ⟨S64x1x256, .i32⟩
  | 59 => ⟨S64x1x256, .i32⟩
  | 60 => ⟨S1x128x256, .i1⟩
  | 61 => ⟨S_, .i32⟩
  | 62 => ⟨S64x1x256, .i32⟩
  | 63 => ⟨S64x1x256, .i1⟩
  | 64 => ⟨S64x128x256, .i1⟩
  | 65 => ⟨S64x128x256, .i1⟩
  | 66 => ⟨S64x128x256, .i1⟩
  | 67 => ⟨S1x64x1x1x128x256, .i1⟩
  | 68 => ⟨S_, .f32⟩
  | 69 => ⟨S_, .f32⟩
  | 70 => ⟨S1x64x2x8x128x256, .i1⟩
  | 71 => ⟨S1x64x2x8x128x256, .f32⟩
  | 72 => ⟨S1x64x2x8x128x256, .f32⟩
  | 73 => ⟨S_, .f32⟩
  | 74 => ⟨S1x64x2x8x128x256, .f32⟩
  | 75 => ⟨S1x1x2x8x1x1, .f32⟩
  | 76 => ⟨S_, .f32⟩
  | 77 => ⟨S1x64x2x8x128, .f32⟩
  | 78 => ⟨S1x64x2x8x128x1, .f32⟩
  | 79 => ⟨S1x64x2x8x128x256, .f32⟩
  | 80 => ⟨S1x64x2x8x128x256, .i1⟩
  | 81 => ⟨S1x64x2x8x128x256, .f32⟩
  | 82 => ⟨S_, .f32⟩
  | 83 => ⟨S1x64x2x8x128, .f32⟩
  | 84 => ⟨S1x64x2x8x128x1, .f32⟩
  | 85 => ⟨S1x64x2x8x128x1, .f32⟩
  | 86 => ⟨S1x64x2x8x128x1, .f32⟩
  | 87 => ⟨S1x64x2x8x128x1, .f32⟩
  | 88 => ⟨S1x64x2x8x128x1, .i1⟩
  | 89 => ⟨S1x64x2x8x128x1, .f32⟩
  | 90 => ⟨S1x64x2x8x128x1, .i1⟩
  | 91 => ⟨S_, .f32⟩
  | 92 => ⟨S1x64x2x8x128x1, .f32⟩
  | 93 => ⟨S_, .f32⟩
  | 94 => ⟨S1x64x2x8x128x1, .f32⟩
  | 95 => ⟨S_, .f32⟩
  | 96 => ⟨S1x64x2x8x128x1, .f32⟩
  | 97 => ⟨S1x64x2x8x128x1, .f32⟩
  | 98 => ⟨S1x64x2x8x128x1, .f32⟩
  | 99 => ⟨S1x64x2x8x128x1, .f32⟩
  | 100 => ⟨S1x64x2x8x128x1, .i1⟩
  | 101 => ⟨S1x64x2x8x128x1, .f32⟩
  | 102 => ⟨S1x64x2x8x128x1, .i1⟩
  | 103 => ⟨S_, .f32⟩
  | 104 => ⟨S1x64x2x8x128x1, .f32⟩
  | 105 => ⟨S_, .f32⟩
  | 106 => ⟨S1x64x2x8x128x1, .f32⟩
  | 107 => ⟨S_, .f32⟩
  | 108 => ⟨S1x64x2x8x128x1, .f32⟩
  | 109 => ⟨S1x64x2x8x128x1, .f32⟩
  | 110 => ⟨S1x64x2x8x128x1, .f32⟩
  | 111 => ⟨S1x64x2x8x128x256, .f32⟩
  | 112 => ⟨S1x64x2x8x128x256, .f32⟩
  | 113 => ⟨S1x64x2x8x128x256, .f32⟩
  | 114 => ⟨S_, .f32⟩
  | 115 => ⟨S1x64x2x8x128, .f32⟩
  | 116 => ⟨S1x64x2x8x128x1, .f32⟩
  | 117 => ⟨S1x64x2x8x128x1, .f32⟩
  | 118 => ⟨S1x64x2x8x128x1, .f32⟩
  | 119 => ⟨S1x64x2x8x128x1, .f32⟩
  | 120 => ⟨S1x64x2x8x128x1, .f32⟩
  | 121 => ⟨S1x64x2x8x128x256, .f32⟩
  | 122 => ⟨S1x64x2x8x128x256, .f32⟩
  | 123 => ⟨S1x64x2x8x128x1, .f32⟩
  | 124 => ⟨S_, .f32⟩
  | 125 => ⟨S1x64x2x8x128x1, .f32⟩
  | 126 => ⟨S1x64x2x8x128x1, .f32⟩
  | 127 => ⟨S1x64x2x64x8x128, .f32⟩
  | _ => ⟨S8192x1280, .f32⟩

abbrev hbmTy0_1 (i : Nat) : BufTy := match i % 128 with
  | 0 => ⟨S1x64x128x2x8x64, .f32⟩
  | 1 => ⟨S1x8192x1024, .f32⟩
  | 2 => ⟨S1x8192x1024, .f32⟩
  | 3 => ⟨S1x64x128x2x8x64, .f32⟩
  | 4 => ⟨S1x64x2x64x8x128, .f32⟩
  | 5 => ⟨S1x64x2x8x128x256, .f32⟩
  | 6 => ⟨S1x64x2x64x256, .f32⟩
  | 7 => ⟨S1x64x256x2x64, .f32⟩
  | 8 => ⟨S1x64x2x8x128x256, .f32⟩
  | 9 => ⟨S1x64x2x8x128x256, .f32⟩
  | 10 => ⟨S1x64x2x8x128x256, .f32⟩
  | 11 => ⟨S_, .f32⟩
  | 12 => ⟨S1x64x2x8x128, .f32⟩
  | 13 => ⟨S1x64x2x8x128x1, .f32⟩
  | 14 => ⟨S1x64x2x8x128x1, .f32⟩
  | 15 => ⟨S1x64x2x8x128x256, .f32⟩
  | 16 => ⟨S1x64x2x8x128x256, .f32⟩
  | 17 => ⟨S1x64x2x8x128x1, .f32⟩
  | 18 => ⟨S_, .f32⟩
  | 19 => ⟨S1x2x8x1, .f32⟩
  | 20 => ⟨S1x1x2x8x1x1, .f32⟩
  | 21 => ⟨S1x64x2x8x128x1, .f32⟩
  | 22 => ⟨S_, .f32⟩
  | 23 => ⟨S64x2x8x128, .f32⟩
  | 24 => ⟨S1x64x2x8x128, .f32⟩
  | 25 => ⟨S1x64x2x8x128x256, .f32⟩
  | 26 => ⟨S1x64x2x8x128x256, .f32⟩
  | 27 => ⟨S1x64x2x8x128x256, .f32⟩
  | 28 => ⟨S1x64x2x8x128x256, .f32⟩
  | 29 => ⟨S_, .f32⟩
  | 30 => ⟨S1x64x2x8x128, .f32⟩
  | 31 => ⟨S1x64x2x8x128x1, .f32⟩
  | 32 => ⟨S1x64x2x8x128x1, .f32⟩
  | 33 => ⟨S1x64x2x8x128x1, .f32⟩
  | 34 => ⟨S_, .f32⟩
  | 35 => ⟨S1x2x8x1, .f32⟩
  | 36 => ⟨S1x1x2x8x1x1, .f32⟩
  | 37 => ⟨S1x1x2x8x1x1, .f32⟩
  | 38 => ⟨S1x64x2x8x128x1, .f32⟩
  | 39 => ⟨S_, .f32⟩
  | 40 => ⟨S64x2x8x128, .f32⟩
  | 41 => ⟨S1x64x2x8x128, .f32⟩
  | 42 => ⟨S1x64x2x8x128, .f32⟩
  | 43 => ⟨S1x64x2x8x128x256, .f32⟩
  | 44 => ⟨S1x64x2x8x128x256, .f32⟩
  | 45 => ⟨S1x64x2x8x128x256, .f32⟩
  | 46 => ⟨S2x8, .f32⟩
  | 47 => ⟨S_, .f32⟩
  | 48 => ⟨S1x64x2x8x128x256, .f32⟩
  | 49 => ⟨S1x64x2x8x128x256, .f32⟩
  | 50 => ⟨S1x64x2x256x128x8, .f32⟩
  | 51 => ⟨S1x64x2x128x8x64, .f32⟩
  | 52 => ⟨S1x64x128x2x8x64, .f32⟩
  | 53 => ⟨S1x64x2x256x64, .f32⟩
  | 54 => ⟨S1x64x256x2x64, .f32⟩
  | 55 => ⟨S1x64x128x2x64, .f32⟩
  | 56 => ⟨S1x64x128x2x64, .f32⟩
  | 57 => ⟨S1x1x128x2x64, .f32⟩
  | 58 => ⟨S1x63x128x2x64, .f32⟩
  | 59 => ⟨S_, .f32⟩
  | 60 => ⟨S1x64x128x2x64, .f32⟩
  | 61 => ⟨S1x64x128x2x64, .f32⟩
  | 62 => ⟨S1x64x128x2x64, .f32⟩
  | 63 => ⟨S1x64x128x2x64, .f32⟩
  | 64 => ⟨S1x1x128x2x64, .f32⟩
  | 65 => ⟨S1x63x128x2x64, .f32⟩
  | 66 => ⟨S_, .f32⟩
  | 67 => ⟨S1x64x128x2x64, .f32⟩
  | 68 => ⟨S1x64x128x2x64, .f32⟩
  | 69 => ⟨S1x8192x128, .f32⟩
  | 70 => ⟨S1x8192x128, .f32⟩
  | 71 => ⟨S_, .f32⟩
  | 72 => ⟨S1x64x128x2x8x64, .f32⟩
  | 73 => ⟨S1x64x128x2x8x64, .f32⟩
  | 74 => ⟨S1x8192x1024, .f32⟩
  | 75 => ⟨S1x8192x1280, .f32⟩
  | 76 => ⟨S_, .f32⟩
  | 77 => ⟨S8192x1280, .f32⟩
  | 78 => ⟨S_, .f32⟩
  | 79 => ⟨S1280, .f32⟩
  | 80 => ⟨S1x1280, .f32⟩
  | 81 => ⟨S8192x1024, .f32⟩
  | 82 => ⟨S8192x1024, .bf16⟩
  | 83 => ⟨S8192x256, .f32⟩
  | 84 => ⟨S8192x256, .bf16⟩
  | 85 => ⟨S1x1024, .f32⟩
  | 86 => ⟨S1x256, .f32⟩
  | _ => ⟨S8192x1280, .f32⟩

abbrev hbmTy (i : Nat) : BufTy := match i / 128 with
  | 0 => hbmTy0_0 i
  | 1 => hbmTy0_1 i
  | _ => ⟨S8192x1280, .f32⟩

abbrev bufTy : (tb : Table) → Fin (tcTables nBuf tb) → BufTy
  | .hbm, ⟨i, _⟩ => hbmTy i
  | _, _ => ⟨S8192x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c_4 : Ref sig .tc := ⟨.hbm, 41, rfl⟩
abbrev main_v32 : Ref sig .tc := ⟨.hbm, 42, rfl⟩
abbrev main_v33 : Ref sig .tc := ⟨.hbm, 43, rfl⟩
abbrev main_c_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_c_6 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_c_7 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c_8 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_9 : Ref sig .tc := ⟨.hbm, 68, rfl⟩
abbrev main_call0_v0 : Ref sig .tc := ⟨.hbm, 69, rfl⟩
abbrev main_v54_1 : Ref sig .tc := ⟨.hbm, 70, rfl⟩
abbrev main_call0_v2 : Ref sig .tc := ⟨.hbm, 71, rfl⟩
abbrev main_v54_0 : Ref sig .tc := ⟨.hbm, 72, rfl⟩
abbrev main_call0_cst : Ref sig .tc := ⟨.hbm, 73, rfl⟩
abbrev main_v54_2 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_11 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_12 : Ref sig .tc := ⟨.hbm, 91, rfl⟩
abbrev main_v69 : Ref sig .tc := ⟨.hbm, 92, rfl⟩
abbrev main_cst_13 : Ref sig .tc := ⟨.hbm, 93, rfl⟩
abbrev main_v70 : Ref sig .tc := ⟨.hbm, 94, rfl⟩
abbrev main_cst_14 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_15 : Ref sig .tc := ⟨.hbm, 103, rfl⟩
abbrev main_v78 : Ref sig .tc := ⟨.hbm, 104, rfl⟩
abbrev main_cst_16 : Ref sig .tc := ⟨.hbm, 105, rfl⟩
abbrev main_v79 : Ref sig .tc := ⟨.hbm, 106, rfl⟩
abbrev main_cst_17 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_18 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_cst_19 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_cst_20 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_cst_21 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_cst_22 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_cst_23 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_cst_24 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_cst_25 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_call1_cst : Ref sig .tc := ⟨.hbm, 175, rfl⟩
abbrev main_call1_v0 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_cst_26 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_cst_27 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_cst_28 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_cst_29 : Ref sig .tc := ⟨.hbm, 204, rfl⟩
abbrev main_v163 : Ref sig .tc := ⟨.hbm, 205, rfl⟩
abbrev main_cst_30 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩

abbrev nD : Nat := 1
abbrev τ : Topo := Topo.v7x

variable {F : FTy → Type} [FloatOps F]
-- ==== Kernel2.lean ====
abbrev S8192x1024 : Shape := ⟨2, ![8192, 1024]⟩
abbrev S8192x5632 : Shape := ⟨2, ![8192, 5632]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S4x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S1024x1408 : Shape := ⟨2, ![1024, 1408]⟩
abbrev S1x1024x1408 : Shape := ⟨3, ![1, 1024, 1408]⟩
abbrev S4x1024x1408 : Shape := ⟨3, ![4, 1024, 1408]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S8192x1024, .f32⟩
  | .hbm, ⟨3, _⟩ => ⟨S_, .f32⟩
  | .hbm, ⟨4, _⟩ => ⟨S1024x5632, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S1024x1408, .f32⟩
  | .hbm, ⟨10, _⟩ => ⟨S1024x1408, .f32⟩
  | .hbm, ⟨11, _⟩ => ⟨S1024x1408, .f32⟩
  | .hbm, ⟨12, _⟩ => ⟨S1024x1408, .f32⟩
  | .hbm, ⟨13, _⟩ => ⟨S1x1024x1408, .f32⟩
  | .hbm, ⟨14, _⟩ => ⟨S1x1024x1408, .f32⟩
  | .hbm, ⟨15, _⟩ => ⟨S1x1024x1408, .f32⟩
  | .hbm, ⟨16, _⟩ => ⟨S1x1024x1408, .f32⟩
  | .hbm, ⟨17, _⟩ => ⟨S4x1024x1408, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel3.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S_, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S8192x1024 : Shape := ⟨2, ![8192, 1024]⟩
abbrev S2816x1024 : Shape := ⟨2, ![2816, 1024]⟩
abbrev S8192x2816 : Shape := ⟨2, ![8192, 2816]⟩
abbrev S2048x1024 : Shape := ⟨2, ![2048, 1024]⟩
abbrev S1408x1024 : Shape := ⟨2, ![1408, 1024]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .f32⟩
  | .local _ .vmem, ⟨0, _⟩ => ⟨S2048x1024, .bf16⟩
  | .local _ .vmem, ⟨1, _⟩ => ⟨S2048x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2048x1408, .f32⟩
  | .local _ .vmem, ⟨5, _⟩ => ⟨S2048x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .f32⟩
  | .hbm, ⟨3, _⟩ => ⟨S_, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S8192x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S8192x1024 : Shape := ⟨2, ![8192, 1024]⟩
abbrev S4x2048x1408 : Shape := ⟨3, ![4, 2048, 1408]⟩
abbrev S8192x5632 : Shape := ⟨2, ![8192, 5632]⟩
abbrev S2048x1024 : Shape := ⟨2, ![2048, 1024]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S4x2048x1408, .bf16⟩
  | .hbm, ⟨2, _⟩ => ⟨S8192x5632, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S2048x1408, .f32⟩
  | .local _ .vmem, ⟨5, _⟩ => ⟨S2048x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![arg1.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S4x2048x1408 : Shape := ⟨3, ![4, 2048, 1408]⟩
abbrev S4x1024x1408 : Shape := ⟨3, ![4, 1024, 1408]⟩
abbrev S1x1024x1408 : Shape := ⟨3, ![1, 1024, 1408]⟩
abbrev S1024x1408 : Shape := ⟨2, ![1024, 1408]⟩
abbrev S1024x5632 : Shape := ⟨2, ![1024, 5632]⟩
abbrev S8192x5632 : Shape := ⟨2, ![8192, 5632]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x2048x1408, .bf16⟩
  | .hbm, ⟨2, _⟩ => ⟨S8192x1024, .f32⟩
  | .hbm, ⟨3, _⟩ => ⟨S4x2048x1408, .f32⟩
  | .hbm, ⟨4, _⟩ => ⟨S4x1024x1408, .f32⟩
  | .hbm, ⟨5, _⟩ => ⟨S1x1024x1408, .f32⟩
  | .hbm, ⟨6, _⟩ => ⟨S1024x1408, .f32⟩
  | .hbm, ⟨7, _⟩ => ⟨S1x1024x1408, .f32⟩
  | .hbm, ⟨8, _⟩ => ⟨S1024x1408, .f32⟩
  | .hbm, ⟨9, _⟩ => ⟨S1x1024x1408, .f32⟩
  | .hbm, ⟨10, _⟩ => ⟨S1024x1408, .f32⟩
  | .hbm, ⟨11, _⟩ => ⟨S1x1024x1408, .f32⟩
  | .hbm, ⟨12, _⟩ => ⟨S1024x1408, .f32⟩
  | .hbm, ⟨13, _⟩ => ⟨S1024x5632, .f32⟩
  | .hbm, ⟨14, _⟩ => ⟨S8192x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== Kernel6.lean ====
abbrev S8192x1024 : Shape := ⟨2, ![8192, 1024]⟩
abbrev S4x2048x1408 : Shape := ⟨3, ![4, 2048, 1408]⟩
abbrev S8192x5632 : Shape := ⟨2, ![8192, 5632]⟩
abbrev S2048x1024 : Shape := ⟨2, ![2048, 1024]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S4x2048x1408, .bf16⟩
  | .hbm, ⟨2, _⟩ => ⟨S8192x5632, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S2048x1408, .f32⟩
  | .local _ .vmem, ⟨5, _⟩ => ⟨S2048x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg2
  let c0_i32 : BitVec 32 := 0#32
  let c0_i32_0 : BitVec 32 := 0#32
  ![arg1.toNat, v0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S4x2048x1408 : Shape := ⟨3, ![4, 2048, 1408]⟩
abbrev S4x1024x1408 : Shape := ⟨3, ![4, 1024, 1408]⟩
abbrev S1x1024x1408 : Shape := ⟨3, ![1, 1024, 1408]⟩
abbrev S1024x1408 : Shape := ⟨2, ![1024, 1408]⟩
abbrev S1024x5632 : Shape := ⟨2, ![1024, 5632]⟩
abbrev S8192x5632 : Shape := ⟨2, ![8192, 5632]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x2048x1408, .bf16⟩
  | .hbm, ⟨2, _⟩ => ⟨S8192x1024, .f32⟩
  | .hbm, ⟨3, _⟩ => ⟨S4x2048x1408, .f32⟩
  | .hbm, ⟨4, _⟩ => ⟨S4x1024x1408, .f32⟩
  | .hbm, ⟨5, _⟩ => ⟨S1x1024x1408, .f32⟩
  | .hbm, ⟨6, _⟩ => ⟨S1024x1408, .f32⟩
  | .hbm, ⟨7, _⟩ => ⟨S1x1024x1408, .f32⟩
  | .hbm, ⟨8, _⟩ => ⟨S1024x1408, .f32⟩
  | .hbm, ⟨9, _⟩ => ⟨S1x1024x1408, .f32⟩
  | .hbm, ⟨10, _⟩ => ⟨S1024x1408, .f32⟩
  | .hbm, ⟨11, _⟩ => ⟨S1x1024x1408, .f32⟩
  | .hbm, ⟨12, _⟩ => ⟨S1024x1408, .f32⟩
  | .hbm, ⟨13, _⟩ => ⟨S1024x5632, .f32⟩
  | .hbm, ⟨14, _⟩ => ⟨S8192x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== Kernel7.lean ====
abbrev S8192x1024 : Shape := ⟨2, ![8192, 1024]⟩
abbrev S1024x3200 : Shape := ⟨2, ![1024, 3200]⟩
abbrev S8192x3200 : Shape := ⟨2, ![8192, 3200]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x3200, .bf16⟩
  | .hbm, ⟨2, _⟩ => ⟨S8192x3200, .f32⟩
  | .local _ .vmem, ⟨0, _⟩ => ⟨S1024x1024, .bf16⟩
  | .local _ .vmem, ⟨1, _⟩ => ⟨S1024x1024, .bf16⟩
  | .local _ .vmem, ⟨2, _⟩ => ⟨S1024x3200, .bf16⟩
  | .local _ .vmem, ⟨3, _⟩ => ⟨S1024x3200, .f32⟩
  | .local _ .vmem, ⟨4, _⟩ => ⟨S1024x3200, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S1024x3200 : Shape := ⟨2, ![1024, 3200]⟩
abbrev S8192x3200 : Shape := ⟨2, ![8192, 3200]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3200, .bf16⟩
  | .hbm, ⟨2, _⟩ => ⟨S8192x1024, .f32⟩
  | .hbm, ⟨3, _⟩ => ⟨S1024x3200, .f32⟩
  | .hbm, ⟨4, _⟩ => ⟨S8192x3200, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S8192x1024 : Shape := ⟨2, ![8192, 1024]⟩
abbrev S8192x3200 : Shape := ⟨2, ![8192, 3200]⟩
abbrev S1024x3200 : Shape := ⟨2, ![1024, 3200]⟩
abbrev S1024x512 : Shape := ⟨2, ![1024, 512]⟩
abbrev S512x3200 : Shape := ⟨2, ![512, 3200]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3200, .bf16⟩
  | .hbm, ⟨2, _⟩ => ⟨S1024x3200, .f32⟩
  | .local _ .vmem, ⟨0, _⟩ => ⟨S1024x512, .bf16⟩
  | .local _ .vmem, ⟨1, _⟩ => ⟨S1024x512, .bf16⟩
  | .local _ .vmem, ⟨2, _⟩ => ⟨S1024x3200, .bf16⟩
  | .local _ .vmem, ⟨3, _⟩ => ⟨S1024x3200, .bf16⟩
  | .local _ .vmem, ⟨4, _⟩ => ⟨S512x3200, .f32⟩
  | .local _ .vmem, ⟨5, _⟩ => ⟨S512x3200, .f32⟩
  | .local _ .vmem, ⟨6, _⟩ => ⟨S512x3200, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3200 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S8192x3200 : Shape := ⟨2, ![8192, 3200]⟩
abbrev S_ : Shape := ⟨0, ![]⟩
abbrev S1024x3200 : Shape := ⟨2, ![1024, 3200]⟩
abbrev S3200x1024 : Shape := ⟨2, ![3200, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3200, .bf16⟩
  | .hbm, ⟨2, _⟩ => ⟨S8192x1024, .f32⟩
  | .hbm, ⟨3, _⟩ => ⟨S_, .f32⟩
  | .hbm, ⟨4, _⟩ => ⟨S1024x3200, .f32⟩
  | .hbm, ⟨5, _⟩ => ⟨S8192x3200, .f32⟩
  | .hbm, ⟨6, _⟩ => ⟨S8192x3200, .f32⟩
  | .hbm, ⟨7, _⟩ => ⟨S3200x1024, .f32⟩
  | .hbm, ⟨8, _⟩ => ⟨S1024x3200, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S8192x1024 : Shape := ⟨2, ![8192, 1024]⟩
abbrev S1024x1280 : Shape := ⟨2, ![1024, 1280]⟩
abbrev S1x1280 : Shape := ⟨2, ![1, 1280]⟩
abbrev S8192x1280 : Shape := ⟨2, ![8192, 1280]⟩
abbrev S2048x1024 : Shape := ⟨2, ![2048, 1024]⟩
abbrev S2048x1280 : Shape := ⟨2, ![2048, 1280]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1280, .bf16⟩
  | .hbm, ⟨2, _⟩ => ⟨S1x1280, .f32⟩
  | .hbm, ⟨3, _⟩ => ⟨S8192x1280, .f32⟩
  | .local _ .vmem, ⟨0, _⟩ => ⟨S2048x1024, .bf16⟩
  | .local _ .vmem, ⟨1, _⟩ => ⟨S2048x1024, .bf16⟩
  | .local _ .vmem, ⟨2, _⟩ => ⟨S1024x1280, .bf16⟩
  | .local _ .vmem, ⟨3, _⟩ => ⟨S1x1280, .f32⟩
  | .local _ .vmem, ⟨4, _⟩ => ⟨S2048x1280, .f32⟩
  | .local _ .vmem, ⟨5, _⟩ => ⟨S2048x1280, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S2048x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S8192x1024 : Shape := ⟨2, ![8192, 1024]⟩
abbrev S1024x1280 : Shape := ⟨2, ![1024, 1280]⟩
abbrev S1x1280 : Shape := ⟨2, ![1, 1280]⟩
abbrev S8192x1280 : Shape := ⟨2, ![8192, 1280]⟩
abbrev S1280 : Shape := ⟨1, ![1280]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1280, .bf16⟩
  | .hbm, ⟨2, _⟩ => ⟨S1x1280, .f32⟩
  | .hbm, ⟨3, _⟩ => ⟨S8192x1024, .f32⟩
  | .hbm, ⟨4, _⟩ => ⟨S1024x1280, .f32⟩
  | .hbm, ⟨5, _⟩ => ⟨S8192x1280, .f32⟩
  | .hbm, ⟨6, _⟩ => ⟨S1280, .f32⟩
  | .hbm, ⟨7, _⟩ => ⟨S1x1280, .f32⟩
  | .hbm, ⟨8, _⟩ => ⟨S8192x1280, .f32⟩
  | .hbm, ⟨9, _⟩ => ⟨S8192x1280, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== Reference12Ideal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 44
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x2816, .f32⟩
  | .hbm, ⟨6, _⟩ => ⟨S2816x1024, .f32⟩
  | .hbm, ⟨7, _⟩ => ⟨S8192x1024, .f32⟩
  | .hbm, ⟨8, _⟩ => ⟨S1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 8
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== Reference13Ideal.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 44
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S1024x1024, .f32⟩
  | .hbm, ⟨7, _⟩ => ⟨S8192x1024, .f32⟩
  | .hbm, ⟨8, _⟩ => ⟨S1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel14.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 9
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== Reference14Ideal.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S1024x1024, .f32⟩
  | .hbm, ⟨8, _⟩ => ⟨S8192x1024, .f32⟩
  | .hbm, ⟨9, _⟩ => ⟨S1024, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel15.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1 : Shape := ⟨1, ![1]⟩
abbrev S1x1 : Shape := ⟨2, ![1, 1]⟩

abbrev nBuf : Space → Nat
  | .hbm => 10
  | .vmem => 16
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | .hbm, ⟨8, _⟩ => ⟨S1x1024, .f32⟩
  | .hbm, ⟨9, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]
-- ==== Reference15Ideal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 81
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x2816, .f32⟩
  | .hbm, ⟨6, _⟩ => ⟨S2816x1024, .f32⟩
  | .hbm, ⟨7, _⟩ => ⟨S8192x1024, .f32⟩
  | .hbm, ⟨8, _⟩ => ⟨S1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S1x1024, .f32⟩
  | .hbm, ⟨79, _⟩ => ⟨S8192x1024, .bf16⟩
  | .hbm, ⟨80, _⟩ => ⟨S1x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_cst_8 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_cst_10 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_11 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_12 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_14 : Ref sig .tc := ⟨.hbm, 68, rfl⟩
abbrev main_v48 : Ref sig .tc := ⟨.hbm, 69, rfl⟩
abbrev main_v49 : Ref sig .tc := ⟨.hbm, 70, rfl⟩
abbrev main_cst_15 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== Proof.Attn.Conds.lean ====
/- What the attention gradient's body is run with: the kit's generated launch, skeleton and grid facts, the body's three
   branch conditions in closed form over the grid's points, and its operands. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Ring
public import Idealize.ShloMosaic.Lib.Tactic
public import Idealize.ShloMosaic.Lib.WordCmp

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The body starts a run of the grid: the accumulators are cleared. -/
abbrev atFirst (i : grid0.Coords) : Prop := k0_cond1 i = 1#1
/-- The body has a query block to work on. -/
abbrev atBlock (i : grid0.Coords) : Prop := k0_cond2 i = 1#1
/-- The body is past the last query block: only the kept half is written. -/
abbrev atEnd (i : grid0.Coords) : Prop := k0_cond3 i = 1#1

theorem atFirst_iff : ∀ t : Fin cfg0.N, atFirst (grid0.coords t) ↔ t.val = 0 :=
  (by decide +kernel : ∀ t : Fin grid0.N, atFirst (grid0.coords t) ↔ t.val = 0)
theorem atBlock_iff : ∀ t : Fin cfg0.N, atBlock (grid0.coords t) ↔ t.val < 64 :=
  (by decide +kernel : ∀ t : Fin grid0.N, atBlock (grid0.coords t) ↔ t.val < 64)
theorem atEnd_iff : ∀ t : Fin cfg0.N, atEnd (grid0.coords t) ↔ t.val = 64 :=
  (by decide +kernel : ∀ t : Fin grid0.N, atEnd (grid0.coords t) ↔ t.val = 64)

/-- The scratch buffer that keeps a block's half of the key and value gradients for the next point. -/
abbrev keepM : Memref sig .tc .vmem S128x256 .f32 := Memref.whole cc0_scratch0

/-- The region's invariant with the scratch as a memref owned at some contents. -/
theorem rest_eq (c : Dev nD) :
    (Pipeline.ΦA spec0 c : sProp 𝕄)
      = iprop(iprop((∃ d, owns (c : Thread nD τ) keepM fullShare d)) ∗ (∃ r, prngReg c r)) := by
  unfold Pipeline.ΦA; rw [scopedRest0_eq]; simp only [keepM, owns_whole]; try rfl

end Cert.KernelIdeal.Attn

end
-- ==== Proof.Attn.Block.lean ====
/- One grid point's arithmetic of the attention gradient, as a chain of named values of the six input blocks: the values
   the body passes from one of its parts to the next, each the generated payload at the values before it. -/
module

public import proofs.«01_k».proof.Proof.Attn.Conds

@[expose] public section

set_option maxRecDepth 16384

noncomputable section

namespace Cert.KernelIdeal.Attn

open Cert.KernelIdeal Cert.KernelIdeal.Gen
open Idealize.ShloMosaic Idealize.ShloMosaic.TcCoe

variable {F : FTy → Type} [FloatOps F]

/-- What a grid point reads: the query rows, the key and value rows of the block before and of its own, the sinks, the
    cotangent rows and the band's mask. -/
structure BlockIn (F : FTy → Type) where
  q : Vec F S128x1024 .f32
  kvp : Vec F S128x256 .f32
  kvc : Vec F S128x256 .f32
  sinks : Vec F S2x8 .f32
  dO : Vec F S128x1024 .f32
  bias : Vec F S1x1024x256 .f32

namespace BlockIn

variable (x : BlockIn F)

def q0 : Vec F S128x128 .f32 := View.ld x.q (Rect.unit (s := S128x1024) ![0, 0] S128x128.size inb_S128x1024_S128x128_0_0)
def q1 : Vec F S128x128 .f32 := View.ld x.q (Rect.unit (s := S128x1024) ![0, 128] S128x128.size inb_S128x1024_S128x128_0_128)
def q2 : Vec F S128x128 .f32 := View.ld x.q (Rect.unit (s := S128x1024) ![0, 256] S128x128.size inb_S128x1024_S128x128_0_256)
def q3 : Vec F S128x128 .f32 := View.ld x.q (Rect.unit (s := S128x1024) ![0, 384] S128x128.size inb_S128x1024_S128x128_0_384)
def q4 : Vec F S128x128 .f32 := View.ld x.q (Rect.unit (s := S128x1024) ![0, 512] S128x128.size inb_S128x1024_S128x128_0_512)
def q5 : Vec F S128x128 .f32 := View.ld x.q (Rect.unit (s := S128x1024) ![0, 640] S128x128.size inb_S128x1024_S128x128_0_640)
def q6 : Vec F S128x128 .f32 := View.ld x.q (Rect.unit (s := S128x1024) ![0, 768] S128x128.size inb_S128x1024_S128x128_0_768)
def q7 : Vec F S128x128 .f32 := View.ld x.q (Rect.unit (s := S128x1024) ![0, 896] S128x128.size inb_S128x1024_S128x128_0_896)
def d0 : Vec F S128x128 .f32 := View.ld x.dO (Rect.unit (s := S128x1024) ![0, 0] S128x128.size inb_S128x1024_S128x128_0_0)
def d1 : Vec F S128x128 .f32 := View.ld x.dO (Rect.unit (s := S128x1024) ![0, 128] S128x128.size inb_S128x1024_S128x128_0_128)
def d2 : Vec F S128x128 .f32 := View.ld x.dO (Rect.unit (s := S128x1024) ![0, 256] S128x128.size inb_S128x1024_S128x128_0_256)
def d3 : Vec F S128x128 .f32 := View.ld x.dO (Rect.unit (s := S128x1024) ![0, 384] S128x128.size inb_S128x1024_S128x128_0_384)
def d4 : Vec F S128x128 .f32 := View.ld x.dO (Rect.unit (s := S128x1024) ![0, 512] S128x128.size inb_S128x1024_S128x128_0_512)
def d5 : Vec F S128x128 .f32 := View.ld x.dO (Rect.unit (s := S128x1024) ![0, 640] S128x128.size inb_S128x1024_S128x128_0_640)
def d6 : Vec F S128x128 .f32 := View.ld x.dO (Rect.unit (s := S128x1024) ![0, 768] S128x128.size inb_S128x1024_S128x128_0_768)
def d7 : Vec F S128x128 .f32 := View.ld x.dO (Rect.unit (s := S128x1024) ![0, 896] S128x128.size inb_S128x1024_S128x128_0_896)
def kp : Vec F S128x128 .f32 := View.ld x.kvp (Rect.unit (s := S128x256) ![0, 0] S128x128.size inb_S128x256_S128x128_0_0)
def kc : Vec F S128x128 .f32 := View.ld x.kvc (Rect.unit (s := S128x256) ![0, 0] S128x128.size inb_S128x256_S128x128_0_0)
def vp : Vec F S128x128 .f32 := View.ld x.kvp (Rect.unit (s := S128x256) ![0, 128] S128x128.size inb_S128x256_S128x128_0_128)
def vc : Vec F S128x128 .f32 := View.ld x.kvc (Rect.unit (s := S128x256) ![0, 128] S128x128.size inb_S128x256_S128x128_0_128)
def s0 : Vec F S1x8 .f32 := View.ld x.sinks (Rect.unit (s := S2x8) ![0, 0] S1x8.size inb_S2x8_S1x8_0_0)
def s1 : Vec F S1x8 .f32 := View.ld x.sinks (Rect.unit (s := S2x8) ![1, 0] S1x8.size inb_S2x8_S1x8_1_0)
def b9 : Vec F S1x1024x256 .f32 := View.ld x.bias (Rect.unit (s := S1x1024x256) ![0, 0, 0] S1x1024x256.size inb_S1x1024x256_S1x1024x256_0_0_0)
def b10 : Vec F S1024x256 .f32 := k0_pay12 x.b9
def b23 : Vec F S256x128 .f32 := k0_pay16 x.kp x.kc
def b25 : Vec F S256x128 .f32 := k0_pay17 x.vp x.vc
def b26 : Vec F S256x128 .f32 := k0_pay18 x.kp x.kc
def b27 : Vec F S256x128 .f32 := k0_pay19 x.vp x.vc
def b35 : Vec F S512x128 .f32 := k0_pay20 x.q0 x.q1 x.q2 x.q3
def b38 : Vec F S512x256 .f32 := k0_pay21 x.kp x.kc x.q0 x.q1 x.q2 x.q3
def b76 : Vec F S1024x256 .f32 := k0_pay29 x.b10 x.b26 x.s0 x.b35 x.b38
def b77 : Vec F S1024x1 .f32 := k0_pay30 x.b10 x.b26 x.s0 x.b35 x.b38
def b78 : Vec F S512x256 .f32 := k0_pay31 x.b10 x.b26 x.s0 x.b35 x.b38
def b79 : Vec F S512x256 .f32 := k0_pay32 x.b10 x.b26 x.s0 x.b35 x.b38
def b108 : Vec F S256x128 .f32 := k0_pay34 x.b79 x.d0 x.d1 x.d2 x.d3
def b116 : Vec F S256x128 .f32 := k0_pay35 x.b78 x.d0 x.d1 x.d2 x.d3
def b125 : Vec F S1024x256 .f32 := k0_pay38 x.b25 x.b27 x.b76 x.d0 x.d1 x.d2 x.d3
def b128 : Vec F S1024x8 .f32 := k0_pay39 x.b25 x.b27 x.b76 x.b77 x.d0 x.d1 x.d2 x.d3
def b135 : Vec F S1x8 .f32 := k0_pay40 k0_pay23 x.b128
def b143 : Vec F S256x128 .f32 := k0_pay43 x.b35 x.b125
def b149 : Vec F S256x128 .f32 := k0_pay44 x.b35 x.b125
def b155 : Vec F S128x128 .f32 := k0_pay48 x.b23 x.b26 x.b125
def b156 : Vec F S128x128 .f32 := k0_pay49 x.b23 x.b26 x.b125
def b195 : Vec F S256x128 .f32 := k0_pay60 k0_pay13 k0_pay15 x.b143 x.b149
def b202 : Vec F S256x128 .f32 := k0_pay61 k0_pay14 k0_pay15 x.b108 x.b116
def b214 : Vec F S256x128 .f32 := k0_pay63 x.kp x.kc
def b216 : Vec F S256x128 .f32 := k0_pay64 x.vp x.vc
def b217 : Vec F S256x128 .f32 := k0_pay65 x.kp x.kc
def b218 : Vec F S256x128 .f32 := k0_pay66 x.vp x.vc
def b226 : Vec F S512x128 .f32 := k0_pay67 x.q4 x.q5 x.q6 x.q7
def b230 : Vec F S1024x256 .f32 := k0_pay68 x.b10 x.kp x.kc x.q4 x.q5 x.q6 x.q7
def b267 : Vec F S1024x256 .f32 := k0_pay75 x.s1 x.b230 (iota .tc S1024x8 32 [0] iota_S1024x8_d0_w32)
def b268 : Vec F S1024x1 .f32 := k0_pay76 x.s1 x.b230 (iota .tc S1024x8 32 [0] iota_S1024x8_d0_w32)
def b269 : Vec F S512x256 .f32 := k0_pay77 x.s1 x.b230 (iota .tc S1024x8 32 [0] iota_S1024x8_d0_w32)
def b270 : Vec F S512x256 .f32 := k0_pay78 x.s1 x.b230 (iota .tc S1024x8 32 [0] iota_S1024x8_d0_w32)
def b272 : Vec F S512x128 .f32 := k0_pay79 x.d7
def b299 : Vec F S256x128 .f32 := k0_pay81 x.b270 x.d4 x.d5 x.d6 x.b272 (Scalar.ofBits .f32 0x00000000#32)
def b307 : Vec F S256x128 .f32 := k0_pay82 x.b269 x.d4 x.d5 x.d6 x.b272 (Scalar.ofBits .f32 0x00000000#32)
def b316 : Vec F S1024x256 .f32 := k0_pay85 x.b216 x.b218 x.b267 x.d4 x.d5 x.d6 x.b272 (Scalar.ofBits .f32 0x00000000#32)
def b326 : Vec F S1x8 .f32 := k0_pay86 x.b216 x.b218 (k0_pay69 (iota .tc S1024x8 32 [0] iota_S1024x8_d0_w32)) x.b267 x.b268 x.d4 x.d5 x.d6 x.b272 (Scalar.ofBits .f32 0x00000000#32)
def b319 : Vec F S512x256 .f32 := k0_pay87 x.b216 x.b218 x.b267 x.d4 x.d5 x.d6 x.b272 (Scalar.ofBits .f32 0x00000000#32)
def b334 : Vec F S256x128 .f32 := k0_pay89 x.b226 x.b316
def b340 : Vec F S256x128 .f32 := k0_pay90 x.b226 x.b319
def b346 : Vec F S128x128 .f32 := k0_pay94 x.b214 x.b217 x.b316 x.b319
def b347 : Vec F S128x128 .f32 := k0_pay95 x.b214 x.b217 x.b316 x.b319
def b386 : Vec F S256x128 .f32 := k0_pay104 x.b195 k0_pay62 x.b334 x.b340
def b389 : Vec F S256x128 .f32 := k0_pay105 x.b202 k0_pay62 x.b299 x.b307

/-- The pieces of the query gradient's block, one per column of head pairs, the last stored first. -/
def dqPieces : List (View.Piece (Elt F) S128x1024 .bf16) :=
  [⟨Rect.unit (s := S128x1024) ![0, 896] S128x128.size inb_S128x1024_S128x128_0_896, k0_pay102 x.b347⟩,
   ⟨Rect.unit (s := S128x1024) ![0, 768] S128x128.size inb_S128x1024_S128x128_0_768, k0_pay100 x.b214 x.b217 x.b316 x.b319⟩,
   ⟨Rect.unit (s := S128x1024) ![0, 640] S128x128.size inb_S128x1024_S128x128_0_640, k0_pay98 x.b214 x.b217 x.b316 x.b319⟩,
   ⟨Rect.unit (s := S128x1024) ![0, 512] S128x128.size inb_S128x1024_S128x128_0_512, k0_pay96 x.b214 x.b217 x.b316 x.b319⟩,
   ⟨Rect.unit (s := S128x1024) ![0, 384] S128x128.size inb_S128x1024_S128x128_0_384, k0_pay58 x.b156⟩,
   ⟨Rect.unit (s := S128x1024) ![0, 256] S128x128.size inb_S128x1024_S128x128_0_256, k0_pay56 x.b155⟩,
   ⟨Rect.unit (s := S128x1024) ![0, 128] S128x128.size inb_S128x1024_S128x128_0_128, k0_pay52 x.b23 x.b26 x.b125⟩,
   ⟨Rect.unit (s := S128x1024) ![0, 0] S128x128.size inb_S128x1024_S128x128_0_0, k0_pay50 x.b23 x.b26 x.b125⟩]
/-- The query gradient's block. -/
def dq : Vec F S128x1024 .bf16 := View.canon x.dqPieces
/-- The pieces of the running sums over the rows of the query gradient, from the sums `y` so far. -/
def cqPieces (y : Vec F S1x1024 .f32) : List (View.Piece (Elt F) S1x1024 .f32) :=
  [⟨Rect.unit (s := S1x1024) ![0, 896] S1x128.size inb_S1x1024_S1x128_0_896, k0_pay103 x.b347 (View.ld y (Rect.unit (s := S1x1024) ![0, 896] S1x128.size inb_S1x1024_S1x128_0_896))⟩,
   ⟨Rect.unit (s := S1x1024) ![0, 768] S1x128.size inb_S1x1024_S1x128_0_768, k0_pay101 x.b346 (View.ld y (Rect.unit (s := S1x1024) ![0, 768] S1x128.size inb_S1x1024_S1x128_0_768))⟩,
   ⟨Rect.unit (s := S1x1024) ![0, 640] S1x128.size inb_S1x1024_S1x128_0_640, k0_pay99 x.b214 x.b217 x.b316 x.b319 (View.ld y (Rect.unit (s := S1x1024) ![0, 640] S1x128.size inb_S1x1024_S1x128_0_640))⟩,
   ⟨Rect.unit (s := S1x1024) ![0, 512] S1x128.size inb_S1x1024_S1x128_0_512, k0_pay97 x.b214 x.b217 x.b316 x.b319 (View.ld y (Rect.unit (s := S1x1024) ![0, 512] S1x128.size inb_S1x1024_S1x128_0_512))⟩,
   ⟨Rect.unit (s := S1x1024) ![0, 384] S1x128.size inb_S1x1024_S1x128_0_384, k0_pay59 x.b156 (View.ld y (Rect.unit (s := S1x1024) ![0, 384] S1x128.size inb_S1x1024_S1x128_0_384))⟩,
   ⟨Rect.unit (s := S1x1024) ![0, 256] S1x128.size inb_S1x1024_S1x128_0_256, k0_pay57 x.b155 (View.ld y (Rect.unit (s := S1x1024) ![0, 256] S1x128.size inb_S1x1024_S1x128_0_256))⟩,
   ⟨Rect.unit (s := S1x1024) ![0, 128] S1x128.size inb_S1x1024_S1x128_0_128, k0_pay55 (k0_pay53 (View.ld y (Rect.unit (s := S1x1024) ![0, 128] S1x128.size inb_S1x1024_S1x128_0_128))) (k0_pay54 x.b23 x.b26 x.b125)⟩,
   ⟨Rect.unit (s := S1x1024) ![0, 0] S1x128.size inb_S1x1024_S1x128_0_0, k0_pay51 x.b23 x.b26 x.b125 (View.ld y (Rect.unit (s := S1x1024) ![0, 0] S1x128.size inb_S1x1024_S1x128_0_0))⟩]
def cq (y : Vec F S1x1024 .f32) : Vec F S1x1024 .f32 := View.canon (x.cqPieces y)
/-- The sinks' gradient added to the running sums `y`. -/
def ds (y : Vec F S2x8 .f32) : Vec F S2x8 .f32 := k0_pay106 x.b135 x.b326 y
/-- The key and value gradient of the block before, finished: the half kept from the point before and this point's first half. -/
def dkv (k : Vec F S128x256 .f32) : Vec F S128x256 .bf16 := k0_pay7 x.b386 x.b389 k
def ckv (k : Vec F S128x256 .f32) (y : Vec F S1x256 .f32) : Vec F S1x256 .f32 := k0_pay8 x.b386 x.b389 k y
/-- The half of the key and value gradient kept for the next point. -/
def keep : Vec F S128x256 .f32 := k0_pay9 x.b386 x.b389

theorem dq_cover (y : S128x1024.Idx) : ∃ p ∈ x.dqPieces, y ∈ p.1.set :=
  View.cover_of_tiled x.dqPieces (![128, 128] : Fin 2 → ℕ) (by rfl) y
theorem cq_cover (z : Vec F S1x1024 .f32) (y : S1x1024.Idx) : ∃ p ∈ x.cqPieces z, y ∈ p.1.set :=
  View.cover_of_tiled (x.cqPieces z) (![1, 128] : Fin 2 → ℕ) (by rfl) y

end BlockIn

end Cert.KernelIdeal.Attn

end
-- ==== Proof.Attn.Whole.lean ====
/- The offsets of a whole access, and what a buffer reads after one. -/
module

public import proofs.«01_k».proof.Proof.Attn.Block
public import Idealize.ShloMosaic.Lib.Pipeline.Value
public import Idealize.ShloMosaic.Lib.Pipeline.ReadBack

@[expose] public section

noncomputable section

namespace Cert.KernelIdeal.Attn

open Idealize.ShloMosaic

/-- The offsets of a whole access are zero. -/
theorem zeros2 : (![0, 0] : Fin 2 → ℕ) = fun _ => 0 := by funext a; fin_cases a <;> rfl

/-- A buffer whose last write stores the whole of it reads that write's value. -/
theorem read_whole {sig : RefSig} {κ : Kind} {sp : Space} {S : Shape} {e : EltTy} {Val : EltTy → Type}
    [∀ e, Nonempty (Val e)] (v : View sig κ sp S e) (f : v.ty.Contents Val) {off : Fin S.rank → ℕ}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ fun y => ⟨_, List.mem_cons_self, ?_⟩, View.canon_cons_unit_zero h]
  subst h
  have h : y ∈ (Rect.unit (fun _ => 0) S.size inb).set :=
    Rect.mem_set_unit.mpr fun a => ⟨Nat.zero_le _, by rw [Nat.zero_add]; exact (y a).isLt⟩
  exact h

/-- What writes that cover an index leave there does not depend on the writes made before them. -/
theorem canon_append_of_cover {S : Shape} {e : EltTy} {Val : EltTy → Type} [∀ e, Nonempty (Val e)]
    (L' : List (View.Piece Val S e)) (y : S.Idx) :
    ∀ (L : List (View.Piece Val S e)) (_ : ∃ p ∈ L, y ∈ p.1.set), View.canon (L ++ L') y = View.canon L y
  | [], h => by obtain ⟨p, hp, _⟩ := h; simp at hp
  | p :: L, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      obtain ⟨q, hq, hy⟩ := h
      rcases List.mem_cons.mp hq with rfl | hq'
      · exact absurd hy hm
      · exact canon_append_of_cover L' y L ⟨q, hq', hy⟩

/-- So a covering list of writes leaves its canon over any earlier writes. -/
theorem read_writes_append {sig : RefSig} {κ : Kind} {sp : Space} {S : Shape} {e : EltTy} {Val : EltTy → Type}
    [∀ e, Nonempty (Val e)] (v : View sig κ sp S e) (f : v.ty.Contents Val) (L L' : List (View.Piece Val S e))
    (h : ∀ y, ∃ p ∈ L, y ∈ p.1.set) : v.read Val (v.writes Val f (L ++ L')) = View.canon L := by
  rw [View.read_writes_eq_canon v f _ fun y => by
    obtain ⟨p, hp, hy⟩ := h y; exact ⟨p, List.mem_append_left _ hp, hy⟩]
  funext y; exact canon_append_of_cover L' y L (h y)

open Cert.KernelIdeal Cert.KernelIdeal.Gen

variable {F : FTy → Type} [FloatOps F]

/-- A load of the whole of a buffer reads its contents: the kept half, -/
theorem ld_keep (k : Vec F S128x256 .f32) :
    View.ld k (Rect.unit ![0, 0] ![128, 256] inb_S128x256_S128x256_0_0) = k := View.ld_unit_zero zeros2 _ k
/-- the sinks' gradient, -/
theorem ld_ds (y : Vec F S2x8 .f32) : View.ld y (Rect.unit ![0, 0] ![2, 8] inb_S2x8_S2x8_0_0) = y :=
  View.ld_unit_zero zeros2 _ y
/-- the key and value column sums. -/
theorem ld_ckv (y : Vec F S1x256 .f32) : View.ld y (Rect.unit ![0, 0] ![1, 256] inb_S1x256_S1x256_0_0) = y :=
  View.ld_unit_zero zeros2 _ y

/-- A load of the query column sums after their fill reads a part of the fill. -/
theorem readCov_zero_cq (v : View sig .tc .vmem S1x1024 .f32) (k : Vec F S1x1024 .f32) (r : Rect S1x1024) :
    v.readCov [⟨Rect.unit ![0, 0] ![1, 1024] inb_S1x1024_S1x1024_0_0, k⟩] r.toLoadRect = View.ld k r :=
  View.readCov_fill v inb_S1x1024_S1x1024_0_0 k [] r fun a => by fin_cases a <;> rfl

end Cert.KernelIdeal.Attn

end
-- ==== Proof.Attn.BodyFirst.lean ====
/- The attention gradient's body, run at a generic grid point in each of its three cases: on whole staging memrefs it
   leaves the inputs as they were and the outputs and the scratch at the values `BlockIn` names. -/
module

public import proofs.«01_k».proof.Proof.Attn.Whole

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at the first point: the scratch and the three accumulators start at zero. -/
theorem body_first (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S2x8 .f32) (harg4 : arg4.IsWhole) (arg5 : Memref sig .tc .vmem S128x1024 .f32) (harg5 : arg5.IsWhole) (arg6 : Memref sig .tc .vmem S1x1024x256 .f32) (harg6 : arg6.IsWhole) (arg7 : Memref sig .tc .vmem S128x1024 .bf16) (harg7 : arg7.IsWhole) (arg8 : Memref sig .tc .vmem S128x256 .bf16) (harg8 : arg8.IsWhole) (arg9 : Memref sig .tc .vmem S2x8 .f32) (harg9 : arg9.IsWhole) (arg10 : Memref sig .tc .vmem S1x1024 .f32) (harg10 : arg10.IsWhole) (arg11 : Memref sig .tc .vmem S1x256 .f32) (harg11 : arg11.IsWhole) (arg12 : Memref sig .tc .vmem S128x256 .f32) (harg12 : arg12.IsWhole)
    (hc0 : atFirst i) (hc1 : atBlock i) (hc2 : ¬atEnd i)
    (x : BlockIn F)  :
      ∀ (E : Set ℕ) (K : PUnit → sProp 𝕄),
        iprop(owns (c : Thread nD τ) arg1 fullShare x.q ∗ owns (c : Thread nD τ) arg2 fullShare x.kvp ∗ owns (c : Thread nD τ) arg3 fullShare x.kvc ∗ owns (c : Thread nD τ) arg4 fullShare x.sinks ∗ owns (c : Thread nD τ) arg5 fullShare x.dO ∗ owns (c : Thread nD τ) arg6 fullShare x.bias ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x.q ∗ owns (c : Thread nD τ) arg2 fullShare x.kvp ∗ owns (c : Thread nD τ) arg3 fullShare x.kvc ∗ owns (c : Thread nD τ) arg4 fullShare x.sinks ∗ owns (c : Thread nD τ) arg5 fullShare x.dO ∗ owns (c : Thread nD τ) arg6 fullShare x.bias ∗ owns (c : Thread nD τ) arg7 fullShare x.dq ∗ owns (c : Thread nD τ) arg8 fullShare (x.dkv (k0_pay1 (F := F))) ∗ owns (c : Thread nD τ) arg9 fullShare (x.ds (k0_pay2 (F := F))) ∗ owns (c : Thread nD τ) arg10 fullShare (x.cq (k0_pay3 (F := F))) ∗ owns (c : Thread nD τ) arg11 fullShare (x.ckv (k0_pay1 (F := F)) (k0_pay4 (F := F))) ∗ owns (c : Thread nD τ) arg12 fullShare x.keep) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12) K := by
    intro E K
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      sl_unfold_words
      simp only [View.readAt_eq_ld, harg1.read_unread, harg2.read_unread, harg3.read_unread, harg4.read_unread, harg5.read_unread, harg6.read_unread, harg9.read_unread, harg10.read_unread, harg11.read_unread, harg12.read_unread]
      exact View.read_writes_eq_canon _ _ _ x.dq_cover
    isplitl [H7]
    · iexists _; isplitr; swap; · iexact H7
      ipureintro
      rw [read_whole _ _ zeros2]
      sl_unfold_words
      simp only [View.readAt_eq_ld, harg1.read_unread, harg2.read_unread, harg3.read_unread, harg4.read_unread, harg5.read_unread, harg6.read_unread, harg9.read_unread, harg10.read_unread, harg11.read_unread, harg12.read_unread]
      exact congrArg (k0_pay7 x.b386 x.b389) (View.readCov_cons_toLoadRect _ _ _ _)
    isplitl [H8]
    · iexists _; isplitr; swap; · iexact H8
      ipureintro
      rw [read_whole _ _ zeros2]
      sl_unfold_words
      simp only [View.readAt_eq_ld, harg1.read_unread, harg2.read_unread, harg3.read_unread, harg4.read_unread, harg5.read_unread, harg6.read_unread, harg9.read_unread, harg10.read_unread, harg11.read_unread, harg12.read_unread]
      exact congrArg (k0_pay106 x.b135 x.b326) (View.readCov_cons_toLoadRect _ _ _ _)
    isplitl [H9]
    · iexists _; isplitr; swap; · iexact H9
      ipureintro
      sl_unfold_words
      simp (discharger := decide) only [↓readCov_zero_cq, ↓View.readCov_skip]
      simp only [View.readAt_eq_ld, harg1.read_unread, harg2.read_unread, harg3.read_unread, harg4.read_unread, harg5.read_unread, harg6.read_unread, harg9.read_unread, harg10.read_unread, harg11.read_unread, harg12.read_unread]
      exact read_writes_append _ _ (x.cqPieces (k0_pay3 (F := F))) _ (x.cq_cover _)
    isplitl [H10]
    · iexists _; isplitr; swap; · iexact H10
      ipureintro
      rw [read_whole _ _ zeros2]
      sl_unfold_words
      simp only [View.readAt_eq_ld, harg1.read_unread, harg2.read_unread, harg3.read_unread, harg4.read_unread, harg5.read_unread, harg6.read_unread, harg9.read_unread, harg10.read_unread, harg11.read_unread, harg12.read_unread]
      exact congrArg₂ (k0_pay8 x.b386 x.b389) (View.readCov_cons_toLoadRect _ _ _ _) (View.readCov_cons_toLoadRect _ _ _ _)
    iexists _; isplitr; swap; · iexact H11
    ipureintro
    rw [read_whole _ _ zeros2]
    sl_unfold_words
    simp only [View.readAt_eq_ld, harg1.read_unread, harg2.read_unread, harg3.read_unread, harg4.read_unread, harg5.read_unread, harg6.read_unread, harg9.read_unread, harg10.read_unread, harg11.read_unread, harg12.read_unread]
    rfl

end Cert.KernelIdeal.Attn

end
-- ==== Proof.Attn.BodyBlock.lean ====
/- The attention gradient's body, run at a generic grid point in each of its three cases: on whole staging memrefs it
   leaves the inputs as they were and the outputs and the scratch at the values `BlockIn` names. -/
module

public import proofs.«01_k».proof.Proof.Attn.Whole

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a point with a query block, after the first. -/
theorem body_block (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S2x8 .f32) (harg4 : arg4.IsWhole) (arg5 : Memref sig .tc .vmem S128x1024 .f32) (harg5 : arg5.IsWhole) (arg6 : Memref sig .tc .vmem S1x1024x256 .f32) (harg6 : arg6.IsWhole) (arg7 : Memref sig .tc .vmem S128x1024 .bf16) (harg7 : arg7.IsWhole) (arg8 : Memref sig .tc .vmem S128x256 .bf16) (harg8 : arg8.IsWhole) (arg9 : Memref sig .tc .vmem S2x8 .f32) (harg9 : arg9.IsWhole) (arg10 : Memref sig .tc .vmem S1x1024 .f32) (harg10 : arg10.IsWhole) (arg11 : Memref sig .tc .vmem S1x256 .f32) (harg11 : arg11.IsWhole) (arg12 : Memref sig .tc .vmem S128x256 .f32) (harg12 : arg12.IsWhole)
    (hc0 : ¬atFirst i) (hc1 : atBlock i) (hc2 : ¬atEnd i)
    (x : BlockIn F) (y8 : Vec F S2x8 .f32) (y9 : Vec F S1x1024 .f32) (y10 : Vec F S1x256 .f32) (k : Vec F S128x256 .f32) :
      ∀ (E : Set ℕ) (K : PUnit → sProp 𝕄),
        iprop(owns (c : Thread nD τ) arg1 fullShare x.q ∗ owns (c : Thread nD τ) arg2 fullShare x.kvp ∗ owns (c : Thread nD τ) arg3 fullShare x.kvc ∗ owns (c : Thread nD τ) arg4 fullShare x.sinks ∗ owns (c : Thread nD τ) arg5 fullShare x.dO ∗ owns (c : Thread nD τ) arg6 fullShare x.bias ∗ (∃ d, owns (c : Thread nD τ) arg7 fullShare d) ∗ (∃ d, owns (c : Thread nD τ) arg8 fullShare d) ∗ owns (c : Thread nD τ) arg9 fullShare y8 ∗ owns (c : Thread nD τ) arg10 fullShare y9 ∗ owns (c : Thread nD τ) arg11 fullShare y10 ∗ owns (c : Thread nD τ) arg12 fullShare k
            ∗ (iprop(owns (c : Thread nD τ) arg1 fullShare x.q ∗ owns (c : Thread nD τ) arg2 fullShare x.kvp ∗ owns (c : Thread nD τ) arg3 fullShare x.kvc ∗ owns (c : Thread nD τ) arg4 fullShare x.sinks ∗ owns (c : Thread nD τ) arg5 fullShare x.dO ∗ owns (c : Thread nD τ) arg6 fullShare x.bias ∗ owns (c : Thread nD τ) arg7 fullShare x.dq ∗ owns (c : Thread nD τ) arg8 fullShare (x.dkv k) ∗ owns (c : Thread nD τ) arg9 fullShare (x.ds y8) ∗ owns (c : Thread nD τ) arg10 fullShare (x.cq y9) ∗ owns (c : Thread nD τ) arg11 fullShare (x.ckv k y10) ∗ owns (c : Thread nD τ) arg12 fullShare x.keep) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12) K := by
    intro E K
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, ⟨%f10, %hf10, H10⟩, ⟨%f11, %hf11, H11⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg9.eq_unread hf8
    obtain rfl := harg10.eq_unread hf9
    obtain rfl := harg11.eq_unread hf10
    obtain rfl := harg12.eq_unread hf11
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      sl_unfold_words
      simp only [View.readAt_eq_ld, harg1.read_unread, harg2.read_unread, harg3.read_unread, harg4.read_unread, harg5.read_unread, harg6.read_unread, harg9.read_unread, harg10.read_unread, harg11.read_unread, harg12.read_unread]
      exact View.read_writes_eq_canon _ _ _ x.dq_cover
    isplitl [H7]
    · iexists _; isplitr; swap; · iexact H7
      ipureintro
      rw [read_whole _ _ zeros2]
      sl_unfold_words
      simp only [View.readAt_eq_ld, harg1.read_unread, harg2.read_unread, harg3.read_unread, harg4.read_unread, harg5.read_unread, harg6.read_unread, harg9.read_unread, harg10.read_unread, harg11.read_unread, harg12.read_unread]
      simp only [ld_keep, ld_ds, ld_ckv]
      rfl
    isplitl [H8]
    · iexists _; isplitr; swap; · iexact H8
      ipureintro
      rw [read_whole _ _ zeros2]
      sl_unfold_words
      simp only [View.readAt_eq_ld, harg1.read_unread, harg2.read_unread, harg3.read_unread, harg4.read_unread, harg5.read_unread, harg6.read_unread, harg9.read_unread, harg10.read_unread, harg11.read_unread, harg12.read_unread]
      simp only [ld_keep, ld_ds, ld_ckv]
      rfl
    isplitl [H9]
    · iexists _; isplitr; swap; · iexact H9
      ipureintro
      sl_unfold_words
      simp only [View.readAt_eq_ld, harg1.read_unread, harg2.read_unread, harg3.read_unread, harg4.read_unread, harg5.read_unread, harg6.read_unread, harg9.read_unread, harg10.read_unread, harg11.read_unread, harg12.read_unread]
      exact View.read_writes_eq_canon _ _ _ (x.cq_cover y9)
    isplitl [H10]
    · iexists _; isplitr; swap; · iexact H10
      ipureintro
      rw [read_whole _ _ zeros2]
      sl_unfold_words
      simp only [View.readAt_eq_ld, harg1.read_unread, harg2.read_unread, harg3.read_unread, harg4.read_unread, harg5.read_unread, harg6.read_unread, harg9.read_unread, harg10.read_unread, harg11.read_unread, harg12.read_unread]
      simp only [ld_keep, ld_ds, ld_ckv]
      rfl
    iexists _; isplitr; swap; · iexact H11
    ipureintro
    rw [read_whole _ _ zeros2]
    sl_unfold_words
    simp only [View.readAt_eq_ld, harg1.read_unread, harg2.read_unread, harg3.read_unread, harg4.read_unread, harg5.read_unread, harg6.read_unread, harg9.read_unread, harg10.read_unread, harg11.read_unread, harg12.read_unread]
    rfl

end Cert.KernelIdeal.Attn

end
-- ==== Proof.Attn.BodyEnd.lean ====
/- The attention gradient's body, run at a generic grid point in each of its three cases: on whole staging memrefs it
   leaves the inputs as they were and the outputs and the scratch at the values `BlockIn` names. -/
module

public import proofs.«01_k».proof.Proof.Attn.Whole

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at the last point: what the scratch keeps is written out. -/
theorem body_end (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S2x8 .f32) (harg4 : arg4.IsWhole) (arg5 : Memref sig .tc .vmem S128x1024 .f32) (harg5 : arg5.IsWhole) (arg6 : Memref sig .tc .vmem S1x1024x256 .f32) (harg6 : arg6.IsWhole) (arg7 : Memref sig .tc .vmem S128x1024 .bf16) (harg7 : arg7.IsWhole) (arg8 : Memref sig .tc .vmem S128x256 .bf16) (harg8 : arg8.IsWhole) (arg9 : Memref sig .tc .vmem S2x8 .f32) (harg9 : arg9.IsWhole) (arg10 : Memref sig .tc .vmem S1x1024 .f32) (harg10 : arg10.IsWhole) (arg11 : Memref sig .tc .vmem S1x256 .f32) (harg11 : arg11.IsWhole) (arg12 : Memref sig .tc .vmem S128x256 .f32) (harg12 : arg12.IsWhole)
    (hc0 : ¬atFirst i) (hc1 : ¬atBlock i) (hc2 : atEnd i)
    (x : BlockIn F) (y6 : Vec F S128x1024 .bf16) (y8 : Vec F S2x8 .f32) (y9 : Vec F S1x1024 .f32) (y10 : Vec F S1x256 .f32) (k : Vec F S128x256 .f32) :
      ∀ (E : Set ℕ) (K : PUnit → sProp 𝕄),
        iprop(owns (c : Thread nD τ) arg1 fullShare x.q ∗ owns (c : Thread nD τ) arg2 fullShare x.kvp ∗ owns (c : Thread nD τ) arg3 fullShare x.kvc ∗ owns (c : Thread nD τ) arg4 fullShare x.sinks ∗ owns (c : Thread nD τ) arg5 fullShare x.dO ∗ owns (c : Thread nD τ) arg6 fullShare x.bias ∗ owns (c : Thread nD τ) arg7 fullShare y6 ∗ (∃ d, owns (c : Thread nD τ) arg8 fullShare d) ∗ owns (c : Thread nD τ) arg9 fullShare y8 ∗ owns (c : Thread nD τ) arg10 fullShare y9 ∗ owns (c : Thread nD τ) arg11 fullShare y10 ∗ owns (c : Thread nD τ) arg12 fullShare k
            ∗ (iprop(owns (c : Thread nD τ) arg1 fullShare x.q ∗ owns (c : Thread nD τ) arg2 fullShare x.kvp ∗ owns (c : Thread nD τ) arg3 fullShare x.kvc ∗ owns (c : Thread nD τ) arg4 fullShare x.sinks ∗ owns (c : Thread nD τ) arg5 fullShare x.dO ∗ owns (c : Thread nD τ) arg6 fullShare x.bias ∗ owns (c : Thread nD τ) arg7 fullShare y6 ∗ owns (c : Thread nD τ) arg8 fullShare (k0_pay10 k) ∗ owns (c : Thread nD τ) arg9 fullShare y8 ∗ owns (c : Thread nD τ) arg10 fullShare y9 ∗ owns (c : Thread nD τ) arg11 fullShare (k0_pay11 k y10) ∗ owns (c : Thread nD τ) arg12 fullShare k) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12) K := by
    intro E K
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg9.eq_unread hf8
    obtain rfl := harg10.eq_unread hf9
    obtain rfl := harg11.eq_unread hf10
    obtain rfl := harg12.eq_unread hf11
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; swap; · iexact H7
      ipureintro
      rw [read_whole _ _ zeros2]
      sl_unfold_words
      simp only [View.readAt_eq_ld, harg1.read_unread, harg2.read_unread, harg3.read_unread, harg4.read_unread, harg5.read_unread, harg6.read_unread, harg9.read_unread, harg10.read_unread, harg11.read_unread, harg12.read_unread]
      exact congrArg _ (ld_keep k)
    isplitl [H8]
    · iexists _; isplitr; · ipureintro; exact harg9.read_unread _
      iexact H8
    isplitl [H9]
    · iexists _; isplitr; · ipureintro; exact harg10.read_unread _
      iexact H9
    isplitl [H10]
    · iexists _; isplitr; swap; · iexact H10
      ipureintro
      rw [read_whole _ _ zeros2]
      sl_unfold_words
      simp only [View.readAt_eq_ld, harg1.read_unread, harg2.read_unread, harg3.read_unread, harg4.read_unread, harg5.read_unread, harg6.read_unread, harg9.read_unread, harg10.read_unread, harg11.read_unread, harg12.read_unread]
      exact congrArg₂ _ (ld_keep k) (ld_ckv y10)
    iexists _; isplitr; · ipureintro; exact harg12.read_unread _
    iexact H11

end Cert.KernelIdeal.Attn

end
-- ==== Proof.Attn.Run.lean ====
/- The run of the attention gradient's kernel, for any float values: what every window and the scratch hold at every point,
   the body obligation from the body's three cases, and the launch. -/
module

public import proofs.«01_k».proof.Proof.Attn.BodyFirst
public import proofs.«01_k».proof.Proof.Attn.BodyBlock
public import proofs.«01_k».proof.Proof.Attn.BodyEnd
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

abbrev ms0_0 (t : Fin cfg0.N) : Memref sig .tc .vmem S128x1024 .f32 := win0_0.stage (cfg0.slots t 0)
abbrev ms0_1 (t : Fin cfg0.N) : Memref sig .tc .vmem S128x256 .f32 := win0_1.stage (cfg0.slots t 1)
abbrev ms0_2 (t : Fin cfg0.N) : Memref sig .tc .vmem S128x256 .f32 := win0_2.stage (cfg0.slots t 2)
abbrev ms0_3 (t : Fin cfg0.N) : Memref sig .tc .vmem S2x8 .f32 := win0_3.stage (cfg0.slots t 3)
abbrev ms0_4 (t : Fin cfg0.N) : Memref sig .tc .vmem S128x1024 .f32 := win0_4.stage (cfg0.slots t 4)
abbrev ms0_5 (t : Fin cfg0.N) : Memref sig .tc .vmem S1x1024x256 .f32 := win0_5.stage (cfg0.slots t 5)
abbrev ms0_6 (t : Fin cfg0.N) : Memref sig .tc .vmem S128x1024 .bf16 := win0_6.stage (cfg0.slots t 6)
abbrev ms0_7 (t : Fin cfg0.N) : Memref sig .tc .vmem S128x256 .bf16 := win0_7.stage (cfg0.slots t 7)
abbrev ms0_8 (t : Fin cfg0.N) : Memref sig .tc .vmem S2x8 .f32 := win0_8.stage (cfg0.slots t 8)
abbrev ms0_9 (t : Fin cfg0.N) : Memref sig .tc .vmem S1x1024 .f32 := win0_9.stage (cfg0.slots t 9)
abbrev ms0_10 (t : Fin cfg0.N) : Memref sig .tc .vmem S1x256 .f32 := win0_10.stage (cfg0.slots t 10)

variable (m : (ℓ : Loc nD τ sig) → Buf (Elt F) ℓ) (ρ : Dev nD → PrngReg)

/-! ## What the points compute -/

/-- The point of a number, the last one from there on. -/
def pt (n : ℕ) : Fin cfg0.N := ⟨min n 64, lt_of_lt_of_eq (by omega : min n 64 < 65) N_0.symm⟩
theorem pt_num (n : ℕ) (h : n ≤ 64) : (pt n).val = n := by unfold pt; exact min_eq_left h
theorem pt_val (t : Fin cfg0.N) : pt t.val = t := by
  have hN : t.val < 65 := lt_of_lt_of_eq t.isLt N_0
  exact Fin.ext (pt_num t.val (by omega))

/-- What the body reads at a point. -/
def blockIn (c : Dev nD) (t : Fin cfg0.N) : BlockIn F :=
  ⟨X0_0 m c t, iblk m c 1 t, iblk m c 2 t, iblk m c 3 t, iblk m c 4 t, iblk m c 5 t⟩

/-- The scratch before point `n`, -/
def keepAt (c : Dev nD) : ℕ → Vec F S128x256 .f32
  | 0 => k0_pay1
  | n + 1 => (blockIn m c (pt n)).keep
/-- the sinks' gradient, -/
def dsAt (c : Dev nD) : ℕ → Vec F S2x8 .f32
  | 0 => k0_pay2
  | n + 1 => (blockIn m c (pt n)).ds (dsAt c n)
/-- the query gradient's column sums -/
def cqAt (c : Dev nD) : ℕ → Vec F S1x1024 .f32
  | 0 => k0_pay3
  | n + 1 => (blockIn m c (pt n)).cq (cqAt c n)
/-- and the key and value gradients' column sums there. -/
def ckvAt (c : Dev nD) : ℕ → Vec F S1x256 .f32
  | 0 => k0_pay4
  | n + 1 => (blockIn m c (pt n)).ckv (keepAt m c n) (ckvAt c n)

/-- What the query gradient's window holds after point `t`: the last point leaves the block before it. -/
def dqOut (c : Dev nD) (t : Fin cfg0.N) : Vec F S128x1024 .bf16 := (blockIn m c (pt (min t.val 63))).dq
/-- The key and value gradients' window: the last point writes what the scratch keeps. -/
def dkvOut (c : Dev nD) (t : Fin cfg0.N) : Vec F S128x256 .bf16 :=
  if t.val < 64 then (blockIn m c t).dkv (keepAt m c t.val) else k0_pay10 (keepAt m c 64)
/-- The sinks' gradient: the last point adds nothing. -/
def dsOut (c : Dev nD) (t : Fin cfg0.N) : Vec F S2x8 .f32 := dsAt m c (min (t.val + 1) 64)
/-- The query column sums: likewise. -/
def cqOut (c : Dev nD) (t : Fin cfg0.N) : Vec F S1x1024 .f32 := cqAt m c (min (t.val + 1) 64)
/-- The key and value column sums: the last point adds those of what the scratch keeps. -/
def ckvOut (c : Dev nD) (t : Fin cfg0.N) : Vec F S1x256 .f32 :=
  if t.val < 64 then ckvAt m c (t.val + 1) else k0_pay11 (keepAt m c 64) (ckvAt m c 64)

/-! ## The pipeline's proof data -/

/-- The region's invariant before point `n`: at the start the scratch at some contents, afterwards at the half kept. -/
def inv (c : Dev nD) (n : ℕ) : sProp 𝕄 :=
  if n = 0 then Pipeline.ΦA spec0 c
  else iprop(owns (c : Thread nD τ) keepM fullShare (keepAt m c (min n 64)) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqOut m c t
    | ⟨7, _⟩ => dkvOut m c t
    | ⟨8, _⟩ => dsOut m c t
    | ⟨9, _⟩ => cqOut m c t
    | ⟨10, _⟩ => ckvOut m c t
  Φ t := inv m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = dqOut m c t := by dsimp only [dats]
theorem after0_7 (c : Dev nD) (t : Fin cfg0.N) : (dats m 0 c).after 7 t = dkvOut m c t := by dsimp only [dats]
theorem after0_8 (c : Dev nD) (t : Fin cfg0.N) : (dats m 0 c).after 8 t = dsOut m c t := by dsimp only [dats]
theorem after0_9 (c : Dev nD) (t : Fin cfg0.N) : (dats m 0 c).after 9 t = cqOut m c t := by dsimp only [dats]
theorem after0_10 (c : Dev nD) (t : Fin cfg0.N) : (dats m 0 c).after 10 t = ckvOut m c t := by dsimp only [dats]

theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- An output's window, where the point before neither wrote it back nor was idle for it, holds what that point left. -/
theorem before_out (c : Dev nD) (w : Fin cfg0.W) (hw : (cfg0.win w).isOut = true) (t : Fin cfg0.N) (ht : t.val ≠ 0)
    (hfl : (cfg0.win w).flush (pt (t.val - 1)) = false) (hlive : cfg0.idle w (cfg0.grid.coords (pt (t.val - 1))) = false)
    (hclip : ∀ (i : cfg0.grid.Coords) a, (cfg0.win w).clip i a = none) (d) :
    (dats m 0 c).before w t d = (dats m 0 c).after w (pt (t.val - 1)) := by
  have e : (⟨t.val - 1, Nat.lt_of_le_of_lt (Nat.sub_le _ _) t.isLt⟩ : Fin cfg0.N) = pt (t.val - 1) := by
    have hN : t.val < 65 := lt_of_lt_of_eq t.isLt N_0
    exact Fin.ext (pt_num (t.val - 1) (by omega)).symm
  rw [(dats m 0 c).before_of_pos w t ht ((cfg0.win w).fetch_out hw t), e, hfl, if_neg Bool.false_ne_true]
  unfold Dat.left; rw [hlive]
  show (dats m 0 c).kept w _ d = _
  unfold Dat.kept
  rw [Pipeline.fill_of_clip_none w _ (hclip _) d ((dats m 0 c).after w _), Pipeline.Window.fill_cut]

theorem idle6 : ∀ t : Fin cfg0.N, cfg0.idle 6 (cfg0.grid.coords t) = false ↔ t.val < 64 :=
  (by decide +kernel : ∀ t : Fin grid0.N, cfg0.idle 6 (grid0.coords t) = false ↔ t.val < 64)
theorem idle8 : ∀ t : Fin cfg0.N, cfg0.idle 8 (cfg0.grid.coords t) = false ↔ t.val < 64 :=
  (by decide +kernel : ∀ t : Fin grid0.N, cfg0.idle 8 (grid0.coords t) = false ↔ t.val < 64)
theorem idle9 : ∀ t : Fin cfg0.N, cfg0.idle 9 (cfg0.grid.coords t) = false ↔ t.val < 64 :=
  (by decide +kernel : ∀ t : Fin grid0.N, cfg0.idle 9 (grid0.coords t) = false ↔ t.val < 64)
theorem idle_iff (w : Fin cfg0.W) (hw : w = 6 ∨ w = 8 ∨ w = 9) (t : Fin cfg0.N) :
    cfg0.idle w (cfg0.grid.coords t) = false ↔ t.val < 64 := by
  rcases hw with rfl | rfl | rfl
  · exact idle6 t
  · exact idle8 t
  · exact idle9 t
theorem live7 : ∀ t : Fin cfg0.N, cfg0.idle 7 (cfg0.grid.coords t) = false :=
  (by decide +kernel : ∀ t : Fin grid0.N, cfg0.idle 7 (grid0.coords t) = false)
theorem live10 : ∀ t : Fin cfg0.N, cfg0.idle 10 (cfg0.grid.coords t) = false :=
  (by decide +kernel : ∀ t : Fin grid0.N, cfg0.idle 10 (grid0.coords t) = false)
theorem flush6_iff : ∀ t : Fin cfg0.N, (cfg0.win 6).flush t = true ↔ t.val ≠ 63 :=
  (by decide +kernel : ∀ t : Fin grid0.N, (cfg0.win 6).flush t = true ↔ t.val ≠ 63)

/-- The accumulators' windows after the first point hold what the point before left, -/
theorem before_acc (c : Dev nD) (w : Fin cfg0.W) (hw : w = 8 ∨ w = 9 ∨ w = 10) (t : Fin cfg0.N) (ht : t.val ≠ 0) (d) :
    (dats m 0 c).before w t d = (dats m 0 c).after w (pt (t.val - 1)) := by
  have hN : t.val < 65 := lt_of_lt_of_eq t.isLt N_0
  have hp : (pt (t.val - 1)).val = t.val - 1 := pt_num _ (by omega)
  have hf : ∀ b, (b = true ↔ (pt (t.val - 1)).val % 65 = 64) → b = false := fun b hb => by
    rw [← Bool.not_eq_true, hb, hp]; omega
  rcases hw with rfl | rfl | rfl
  · exact before_out m c 8 rfl t ht (hf _ (flush0_8 _)) ((idle_iff 8 (.inr (.inl rfl)) _).mpr (by omega)) (fun _ _ => rfl) d
  · exact before_out m c 9 rfl t ht (hf _ (flush0_9 _)) ((idle_iff 9 (.inr (.inr rfl)) _).mpr (by omega)) (fun _ _ => rfl) d
  · exact before_out m c 10 rfl t ht (hf _ (flush0_10 _)) (live10 _) (fun _ _ => rfl) d
/-- and the query gradient's window at the last point the last block's. -/
theorem before_dq (c : Dev nD) (t : Fin cfg0.N) (ht : t.val = 64) (d) :
    (dats m 0 c).before 6 t d = dqOut m c t := by
  have hp : (pt (t.val - 1)).val = 63 := by rw [pt_num _ (by omega), ht]
  rw [before_out m c 6 rfl t (by omega) (by rw [← Bool.not_eq_true, flush6_iff, hp]; simp)
    ((idle_iff 6 (.inl rfl) _).mpr (by omega)) (fun _ _ => rfl) d, after0_6]
  unfold dqOut; rw [hp, ht, min_self, min_eq_right (by omega)]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem leaves_eq (c : Dev nD) (w : Fin cfg0.W) (t : Fin cfg0.N) :
    (dats m 0 c).leavesExact w t
      = owns (c : Thread nD τ) ((cfg0.win w).stage (cfg0.slots t w)) fullShare ((dats m 0 c).after w t) := by
  have hN : t.val < 65 := lt_of_lt_of_eq t.isLt N_0
  have live : ∀ (h : cfg0.idle w (cfg0.grid.coords t) = false ∨ (cfg0.win w).flush t = true),
      (dats m 0 c).leavesExact w t
      = owns (c : Thread nD τ) ((cfg0.win w).stage (cfg0.slots t w)) fullShare ((dats m 0 c).after w t) := by
    intro h
    unfold Dat.leavesExact
    rcases h with h | h
    · rw [h]
    · rw [h]; cases cfg0.idle w (cfg0.grid.coords t) <;> rfl
  apply live
  have acc : ∀ w : Fin cfg0.W, (w = 6 ∨ w = 8 ∨ w = 9) → (t.val = 64 → (cfg0.win w).flush t = true) →
      cfg0.idle w (cfg0.grid.coords t) = false ∨ (cfg0.win w).flush t = true := fun w hw hf => by
    by_cases h : t.val < 64
    · exact .inl ((idle_iff w hw t).mpr h)
    · exact .inr (hf (by omega))
  match w with
  | ⟨0, _⟩ => exact .inl rfl
  | ⟨1, _⟩ => exact .inl rfl
  | ⟨2, _⟩ => exact .inl rfl
  | ⟨3, _⟩ => exact .inl rfl
  | ⟨4, _⟩ => exact .inl rfl
  | ⟨5, _⟩ => exact .inl rfl
  | ⟨6, _⟩ => exact acc 6 (.inl rfl) fun h => (flush6_iff t).mpr (by omega)
  | ⟨7, _⟩ => exact .inl (live7 t)
  | ⟨8, _⟩ => exact acc 8 (.inr (.inl rfl)) fun h => (flush0_8 t).mpr (by omega)
  | ⟨9, _⟩ => exact acc 9 (.inr (.inr rfl)) fun h => (flush0_9 t).mpr (by omega)
  | ⟨10, _⟩ => exact .inl (live10 t)

set_option maxHeartbeats 1600000 in
/-- The body at the first point. -/
theorem sound_first (c : Dev nD) (t : Fin cfg0.N) (h0 : t.val = 0) :
    bodyPre m c t ⊢ wp frame (wpE (defs₀ (F := F)) Variants.none c none) Set.univ (bodyAt0 t) (fun _ => bodyPost m c t) := by
  have hN : t.val < 65 := lt_of_lt_of_eq t.isLt N_0
  have hpt : pt 0 = t := by rw [← h0, pt_val]
  have hin : inv m c t.val = iprop(iprop((∃ d, owns (c : Thread nD τ) keepM fullShare d)) ∗ (∃ r, prngReg c r)) := by
    unfold inv; rw [if_pos h0, rest_eq]
  have hout : inv m c (t.val + 1) = iprop(owns (c : Thread nD τ) keepM fullShare ((blockIn m c t).keep) ∗ (∃ r, prngReg c r)) := by
    unfold inv; rw [if_neg (Nat.succ_ne_zero _)]; rw [h0]; show iprop(owns _ _ _ (blockIn m c (pt 0)).keep ∗ _) = _; rw [hpt]
  have e6 : dqOut m c t = (blockIn m c t).dq := by
    unfold dqOut; rw [h0]; show (blockIn m c (pt 0)).dq = _; rw [hpt]
  have e7 : dkvOut m c t = (blockIn m c t).dkv k0_pay1 := by
    unfold dkvOut; rw [if_pos (by omega), h0]; rfl
  have e8 : dsOut m c t = (blockIn m c t).ds k0_pay2 := by
    unfold dsOut; rw [h0]; show (blockIn m c (pt 0)).ds _ = _; rw [hpt]; rfl
  have e9 : cqOut m c t = (blockIn m c t).cq k0_pay3 := by
    unfold cqOut; rw [h0]; show (blockIn m c (pt 0)).cq _ = _; rw [hpt]; rfl
  have e10 : ckvOut m c t = (blockIn m c t).ckv k0_pay1 k0_pay4 := by
    unfold ckvOut; rw [if_pos (by omega), h0]; show (blockIn m c (pt 0)).ckv _ _ = _; rw [hpt]; rfl
  unfold bodyPre bodyPost bodyAt0
  rw [leaves_eq m c 0 t, leaves_eq m c 1 t, leaves_eq m c 2 t, leaves_eq m c 3 t, leaves_eq m c 4 t, leaves_eq m c 5 t, leaves_eq m c 6 t, leaves_eq m c 7 t, leaves_eq m c 8 t, leaves_eq m c 9 t, leaves_eq m c 10 t]
  simp only [before0_0, before0_1, before0_2, before0_3, before0_4, before0_5, after0_0, after0_1, after0_2, after0_3, after0_4, after0_5, after0_6, after0_7, after0_8, after0_9, after0_10]
  rw [e6, e7, e8, e9, e10]
  rw [show (dats m 0 c).owesAt () t.succ = (dats m 0 c).owesAt () t.castSucc from rfl]
  rw [show (dats m 0 c).Φ t.castSucc = inv m c t.val from rfl, show (dats m 0 c).Φ t.succ = inv m c (t.val + 1) from rfl]
  rw [hin, hout]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((body_first c (grid0.coords t) _ _ _ _ _ _ _ _ _ _ _ _ _ _ _ _ _ _ _ _ _ _ _ _ ((atFirst_iff t).mpr h0) ((atBlock_iff t).mpr (by omega)) (fun h => absurd ((atEnd_iff t).mp h) (by omega)) (blockIn m c t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [HS0]; · iexact HS0
  iintro ⟨H0, H1, H2, H3, H4, H5, H6, H7, H8, H9, H10, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

set_option maxHeartbeats 1600000 in
/-- The body at a later point with a query block. -/
theorem sound_block (c : Dev nD) (t : Fin cfg0.N) (h0 : t.val ≠ 0) (h1 : t.val < 64) :
    bodyPre m c t ⊢ wp frame (wpE (defs₀ (F := F)) Variants.none c none) Set.univ (bodyAt0 t) (fun _ => bodyPost m c t) := by
  have hN : t.val < 65 := lt_of_lt_of_eq t.isLt N_0
  have hp : (pt (t.val - 1)).val = t.val - 1 := pt_num _ (by omega)
  have hs : t.val - 1 + 1 = t.val := by omega
  have hin : inv m c t.val = iprop(owns (c : Thread nD τ) keepM fullShare (keepAt m c t.val) ∗ (∃ r, prngReg c r)) := by
    unfold inv; rw [if_neg h0, min_eq_left (by omega)]
  have hout : inv m c (t.val + 1) = iprop(owns (c : Thread nD τ) keepM fullShare ((blockIn m c t).keep) ∗ (∃ r, prngReg c r)) := by
    unfold inv; rw [if_neg (Nat.succ_ne_zero _)]; rw [min_eq_left (by omega)]; show iprop(owns _ _ _ (blockIn m c (pt t.val)).keep ∗ _) = _; rw [pt_val]
  have b8 : dsOut m c (pt (t.val - 1)) = dsAt m c t.val := by
    unfold dsOut; rw [hp]; rw [hs, min_eq_left (by omega)]
  have b9 : cqOut m c (pt (t.val - 1)) = cqAt m c t.val := by
    unfold cqOut; rw [hp]; rw [hs, min_eq_left (by omega)]
  have b10 : ckvOut m c (pt (t.val - 1)) = ckvAt m c t.val := by
    unfold ckvOut; rw [hp]; rw [if_pos (by omega), hs]
  have e6 : dqOut m c t = (blockIn m c t).dq := by
    unfold dqOut; rw [min_eq_left (by omega), pt_val]
  have e7 : dkvOut m c t = (blockIn m c t).dkv (keepAt m c t.val) := by
    unfold dkvOut; rw [if_pos h1]
  have e8 : dsOut m c t = (blockIn m c t).ds (dsAt m c t.val) := by
    unfold dsOut; rw [min_eq_left (by omega)]; show (blockIn m c (pt t.val)).ds _ = _; rw [pt_val]
  have e9 : cqOut m c t = (blockIn m c t).cq (cqAt m c t.val) := by
    unfold cqOut; rw [min_eq_left (by omega)]; show (blockIn m c (pt t.val)).cq _ = _; rw [pt_val]
  have e10 : ckvOut m c t = (blockIn m c t).ckv (keepAt m c t.val) (ckvAt m c t.val) := by
    unfold ckvOut; rw [if_pos h1]; show (blockIn m c (pt t.val)).ckv _ _ = _; rw [pt_val]
  unfold bodyPre bodyPost bodyAt0
  rw [leaves_eq m c 0 t, leaves_eq m c 1 t, leaves_eq m c 2 t, leaves_eq m c 3 t, leaves_eq m c 4 t, leaves_eq m c 5 t, leaves_eq m c 6 t, leaves_eq m c 7 t, leaves_eq m c 8 t, leaves_eq m c 9 t, leaves_eq m c 10 t]
  simp only [before0_0, before0_1, before0_2, before0_3, before0_4, before0_5, after0_0, after0_1, after0_2, after0_3, after0_4, after0_5, after0_6, after0_7, after0_8, after0_9, after0_10]
  simp only [before_acc m c 8 (by decide) t h0, after0_8]
  simp only [before_acc m c 9 (by decide) t h0, after0_9]
  simp only [before_acc m c 10 (by decide) t h0, after0_10]
  rw [e6, e7, e8, e9, e10, b8, b9, b10]
  rw [show (dats m 0 c).owesAt () t.succ = (dats m 0 c).owesAt () t.castSucc from rfl]
  rw [show (dats m 0 c).Φ t.castSucc = inv m c t.val from rfl, show (dats m 0 c).Φ t.succ = inv m c (t.val + 1) from rfl]
  rw [hin, hout]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((body_block c (grid0.coords t) _ _ _ _ _ _ _ _ _ _ _ _ _ _ _ _ _ _ _ _ _ _ _ _ (fun h => h0 ((atFirst_iff t).mp h)) ((atBlock_iff t).mpr h1) (fun h => absurd ((atEnd_iff t).mp h) (by omega)) (blockIn m c t) _ _ _ _) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  isplitl [H9]; · iexact H9
  isplitl [H10]; · iexact H10
  isplitl [HS0]; · iexact HS0
  iintro ⟨H0, H1, H2, H3, H4, H5, H6, H7, H8, H9, H10, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

set_option maxHeartbeats 1600000 in
/-- The body at the last point. -/
theorem sound_end (c : Dev nD) (t : Fin cfg0.N) (h1 : t.val = 64) :
    bodyPre m c t ⊢ wp frame (wpE (defs₀ (F := F)) Variants.none c none) Set.univ (bodyAt0 t) (fun _ => bodyPost m c t) := by
  have hN : t.val < 65 := lt_of_lt_of_eq t.isLt N_0
  have h0 : t.val ≠ 0 := by omega
  have hp : (pt (t.val - 1)).val = t.val - 1 := pt_num _ (by omega)
  have hs : t.val - 1 + 1 = t.val := by omega
  have hin : inv m c t.val = iprop(owns (c : Thread nD τ) keepM fullShare (keepAt m c 64) ∗ (∃ r, prngReg c r)) := by
    unfold inv; rw [if_neg h0, h1, min_self]
  have hout : inv m c (t.val + 1) = iprop(owns (c : Thread nD τ) keepM fullShare (keepAt m c 64) ∗ (∃ r, prngReg c r)) := by
    unfold inv; rw [if_neg (Nat.succ_ne_zero _)]; rw [min_eq_right (by omega)]
  have b8 : dsOut m c (pt (t.val - 1)) = dsAt m c 64 := by
    unfold dsOut; rw [hp]; rw [hs, h1, min_self]
  have b9 : cqOut m c (pt (t.val - 1)) = cqAt m c 64 := by
    unfold cqOut; rw [hp]; rw [hs, h1, min_self]
  have b10 : ckvOut m c (pt (t.val - 1)) = ckvAt m c 64 := by
    unfold ckvOut; rw [hp]; rw [if_pos (by omega), hs, h1]
  have e7 : dkvOut m c t = k0_pay10 (keepAt m c 64) := by
    unfold dkvOut; rw [if_neg (by omega)]
  have e8 : dsOut m c t = dsAt m c 64 := by
    unfold dsOut; rw [min_eq_right (by omega)]
  have e9 : cqOut m c t = cqAt m c 64 := by
    unfold cqOut; rw [min_eq_right (by omega)]
  have e10 : ckvOut m c t = k0_pay11 (keepAt m c 64) (ckvAt m c 64) := by
    unfold ckvOut; rw [if_neg (by omega)]
  unfold bodyPre bodyPost bodyAt0
  rw [leaves_eq m c 0 t, leaves_eq m c 1 t, leaves_eq m c 2 t, leaves_eq m c 3 t, leaves_eq m c 4 t, leaves_eq m c 5 t, leaves_eq m c 6 t, leaves_eq m c 7 t, leaves_eq m c 8 t, leaves_eq m c 9 t, leaves_eq m c 10 t]
  simp only [before0_0, before0_1, before0_2, before0_3, before0_4, before0_5, after0_0, after0_1, after0_2, after0_3, after0_4, after0_5, after0_6, after0_7, after0_8, after0_9, after0_10]
  simp only [before_dq m c t h1]
  simp only [before_acc m c 8 (by decide) t h0, after0_8]
  simp only [before_acc m c 9 (by decide) t h0, after0_9]
  simp only [before_acc m c 10 (by decide) t h0, after0_10]
  rw [e7, e8, e9, e10, b8, b9, b10]
  rw [show (dats m 0 c).owesAt () t.succ = (dats m 0 c).owesAt () t.castSucc from rfl]
  rw [show (dats m 0 c).Φ t.castSucc = inv m c t.val from rfl, show (dats m 0 c).Φ t.succ = inv m c (t.val + 1) from rfl]
  rw [hin, hout]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((body_end c (grid0.coords t) _ _ _ _ _ _ _ _ _ _ _ _ _ _ _ _ _ _ _ _ _ _ _ _ (fun h => h0 ((atFirst_iff t).mp h)) (fun h => absurd ((atBlock_iff t).mp h) (by omega)) ((atEnd_iff t).mpr h1) (blockIn m c t) _ _ _ _ _) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [H10]; · iexact H10
  isplitl [HS0]; · iexact HS0
  iintro ⟨H0, H1, H2, H3, H4, H5, H6, H7, H8, H9, H10, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 65 := lt_of_lt_of_eq t.isLt N_0
  by_cases h0 : t.val = 0
  · exact sound_first m c t h0
  · by_cases h1 : t.val < 64
    · exact sound_block m c t h0 h1
    · exact sound_end m c t (by omega)

/-- The body table's row at a point's slots is the body there. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem inv_in (c : Dev nD) : Pipeline.ΦA spec0 c ⊢ (dats m 0 c).Φ 0 := by
  show _ ⊢ inv m c 0
  unfold inv; rw [if_pos rfl]
theorem inv_out (c : Dev nD) : (dats m 0 c).Φ (Fin.last cfg0.N) ⊢ Pipeline.ΦA spec0 c := by
  rw [show (dats m 0 c).Φ (Fin.last cfg0.N) = inv m c cfg0.N from rfl, show cfg0.N = 65 from N_0]
  unfold inv; rw [if_neg (by omega), rest_eq]
  iintro ⟨HS, Hg⟩
  isplitl [HS]
  · iexists _; iexact HS
  iexact Hg

set_option backward.isDefEq.respectTransparency.types false in
/-- From any memory with zero counters: every weakly fair execution of @main terminates, with each output array at the flushes
    of what the points compute, every other buffer as the region found it, and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := inv_in m) (hout := inv_out m)

/-- The frame: the arguments end as they were, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Attn

end
-- ==== Proof.Mm.UpDw.lean ====
/- The gradient of the up projection, cut by columns: a product accumulated over the rows, against the derivative of the product. -/
module

public import proofs.«01_k».proof.Defs
public import proofs.«01_k».proof.Proof.Gen.Kernel2
public import proofs.«01_k».proof.Proof.Gen.Kernel2Ideal
public import proofs.«01_k».proof.Proof.Gen.Reference2Ideal
public import proofs.«01_k».proof.Proof.Gen.Kernel2Ideal.Value
public import proofs.«01_k».proof.Proof.Gen.Reference2Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Mm.UpDw

open Idealize.ShloMosaic Idealize.ShloMosaic.TcCoe Idealize.SL.Sem
open Cert.Kernel2Ideal Cert.Kernel2Ideal.Gen

variable (m : (ℓ : Loc nD τ sig) → Buf (Elt Ideal) ℓ)

/-- The product's saved input and the cotangent, by entry. -/
def argX (c : Dev nD) (r : Fin 8192) (i : Fin 1024) : EReal := (m ((c : Thread nD τ).loc main_arg0) : FVec Ideal S8192x1024 .bf16) (ix2 r i)
def argD (c : Dev nD) (r : Fin 8192) (n : Fin 5632) : EReal := (m ((c : Thread nD τ).loc main_arg1) : FVec Ideal S8192x5632 .bf16) (ix2 r n)

/-- The transposed input times the cotangent, its columns cut into four parts. -/
def prod (c : Dev nD) : FVec Ideal S4x1024x1408 .f32 := fun j =>
  ∑ r, argX m c r (j 1) * argD m c r ⟨(j 0).val * 1408 + (j 2).val, by have h0 : (j 0).val < 4 := (j 0).isLt; have h2 : (j 2).val < 1408 := (j 2).isLt; omega⟩

/-- The windows' blocks at a point. -/
theorem idx : ∀ t : Fin cfg0.N, win0_0.index t = ![t.val % 4, 0] ∧ win0_1.index t = ![t.val % 4, t.val / 4]
    ∧ win0_2.index t = ![t.val / 4, 0, 0] := (by decide +kernel : ∀ t : Fin grid0.N, _)

/-- One point's product, by entry. -/
theorem pay_at (a : FVec Ideal S2048x1024 .bf16) (b : FVec Ideal S2048x1408 .bf16) (i : Fin 1024) (n : Fin 1408) :
    (k0_pay1 (F := Ideal) a b (ix2 i n) : EReal) = ∑ k : Fin 2048, (a (ix2 k i) : EReal) * b (ix2 k n) := by
  unfold k0_pay1
  pointwise

theorem pay2_at (a : FVec Ideal S2048x1024 .bf16) (b : FVec Ideal S2048x1408 .bf16) (j : S1024x1408.Idx) :
    (k0_pay2 (F := Ideal) a b j : EReal) = (0 : EReal) + k0_pay1 (F := Ideal) a b j := by
  unfold k0_pay2
  rw [shapeCast_self, zero_add]

theorem pay3_at (a : FVec Ideal S2048x1024 .bf16) (b : FVec Ideal S2048x1408 .bf16) (v : FVec Ideal S1024x1408 .f32) (j : S1024x1408.Idx) :
    (k0_pay3 (F := Ideal) a b v j : EReal) = (v j : EReal) + k0_pay1 (F := Ideal) a b j := by
  unfold k0_pay3
  rw [shapeCast_self]
  rfl

/-- The scratch at the last point of a run: the sum of the run's four products. -/
theorem scratch (c : Dev nD) (t : Fin cfg0.N) (ht : t.val % 4 = 3) (j : S1024x1408.Idx) :
    ((outsAt0 m c t.val t.isLt).2 j : EReal) = 0 + ∑ s : Fin 4, (k0_pay1 (F := Ideal) (iblk m c 0 ⟨4 * (t.val / 4) + s.val, Pipeline.run_point_lt_of_flush t ht s⟩)
      (iblk m c 1 ⟨4 * (t.val / 4) + s.val, Pipeline.run_point_lt_of_flush t ht s⟩) j : EReal) := by
  refine Pipeline.eq_sum_fin_of_reset_step_apply_of_flush (M := EReal) (fun n h => (outsAt0 m c n h).2) 4 (fun _ => 0)
    (fun t j => (k0_pay1 (F := Ideal) (iblk m c 0 t) (iblk m c 1 t) j : EReal)) (fun t h i => ?_) (fun t h i => ?_) t ht j
  · rw [outsAt0_A m c t h (by omega) (by omega)]
    frame_out
    exact pay2_at _ _ _
  · by_cases h3 : t.val % 4 = 3
    · rw [outsAt0_C m c t h (by omega) h3]
      frame_out
      rw [read_unread_whole]
      exact pay3_at _ _ _ _
    · rw [outsAt0_B m c t h (by omega) h3]
      frame_out
      rw [read_unread_whole]
      exact pay3_at _ _ _ _

/-- The output block at the last point of a run is the scratch. -/
theorem out_block (c : Dev nD) (t : Fin cfg0.N) (ht : t.val % 4 = 3) (i : Fin 1024) (n : Fin 1408) :
    ((outsAt0 m c t.val t.isLt).1 (ix3 (0 : Fin 1) i n) : EReal) = (outsAt0 m c t.val t.isLt).2 (ix2 i n) := by
  rw [outsAt0_C m c t (by omega) (by omega) ht]
  frame_out
  unfold k0_pay4
  pointwise

/-- The result array after the launch. -/
theorem arr (c : Dev nD) : (dats m 0 c).arrAt 2 cfg0.N = prod m c := by
  refine (dats m 0 c).arrAt_eq_of_covers 2 _ (by decide +kernel) fun t hf y => ?_
  have ht : t.val % 4 = 3 := (flush0_2 t).mp hf
  blk_simp
  rw [after0_2]
  obtain ⟨y0, i, n, rfl⟩ : ∃ (y0 : Fin 1) (i : Fin 1024) (n : Fin 1408), y = ix3 y0 i n := ⟨y 0, y 1, y 2, eq_ix3 y⟩
  obtain rfl : y0 = 0 := Subsingleton.elim _ _
  refine (out_block m c t ht _ _).trans ((scratch m c t ht _).trans ?_)
  rw [zero_add]
  unfold prod
  refine (Finset.sum_congr rfl fun s _ => pay_at _ _ _ _).trans ?_
  refine Fin.sum_mul_add_congr fun s k hl => ?_
  unfold argX argD
  congr 1 <;> blk_ext [iblk, V, idx t, idx (⟨4 * (t.val / 4) + s.val, Pipeline.run_point_lt_of_flush t ht s⟩ : Fin cfg0.N)]

/-- The factors of a column's sum in the other order, the column named in another way. -/
theorem swap {R N : ℕ} (x : Fin R → EReal) (d : Fin R → Fin N → EReal) (n n' : Fin N) (h : n.val = n'.val) :
    ∑ r, d r n * x r = ∑ r, x r * d r n' := by
  obtain rfl := Fin.ext h
  exact Finset.sum_congr rfl fun _ _ => mul_comm _ _

theorem algebraic : Cert.algebraic_Kernel2Ideal_Reference2Ideal := fun m ρ m' ρ' hm ha =>
  ⟨prod m,
    (θ_run Kernel2Ideal.defs _ _).mono (fun r h c => ⟨(h c).1.trans (arr m c), (h c).2⟩) (Kernel2Ideal.Value.run_blocks (F := Ideal) m ρ),
    (θ_run Reference2Ideal.defs _ _).mono (fun r h c => ⟨(h c).1.trans (by
        rw [(ha c).1, (ha c).2]
        unfold prod argX argD
        funext j
        have h0 : (j 0).val < 4 := (j 0).isLt
        pointwise
        split_ifs <;> exact swap (argX m c · (j 1)) (argD m c) _ _ (by dsimp only; omega)), (h c).2⟩) (Reference2Ideal.Value.run (F := Ideal) m' ρ')⟩

/-- The two printed programs' bodies and pipelines are one. -/
theorem same_body : Cert.Kernel2.defs₀ (F := Bits) = Cert.Kernel2Ideal.defs₀ (F := Bits) := by
  unfold Cert.Kernel2.defs₀ Cert.Kernel2Ideal.defs₀
  refine congrArg Defs.onTc (funext fun ℓ => funext fun a => ?_)
  match ℓ, a with
  | ⟨0, _⟩, (t, s) => rfl
theorem same_loose : Cert.Kernel2.cfg0.loose = Cert.Kernel2Ideal.cfg0.loose := funext fun w => by fin_cases w <;> rfl
theorem same_cfg : Cert.Kernel2.cfg0 = Cert.Kernel2Ideal.cfg0 :=
  congrArg (fun l => ({ Cert.Kernel2Ideal.cfg0 with loose := l } : Pipeline.Cfg Cert.Kernel2Ideal.sig Cert.Kernel2Ideal.Λ₀)) same_loose

/-- The statement of the frame at a pipeline and a body table. -/
def FrameAt (m : (ℓ : Loc Kernel2.nD Kernel2.τ Kernel2.sig) → Buf (Elt Bits) ℓ) (ρ : Dev Kernel2.nD → PrngReg)
    (cfg : Pipeline.Cfg Kernel2.sig Kernel2.Λ₀) (d : Defs Kernel2.nD Kernel2.τ Kernel2.sig (Elt Bits) Kernel2.Λ₀) : Prop :=
  θ_run (Pipeline.defs (fun _ => cfg.toPCfg) d : Defs Kernel2.nD Kernel2.τ Kernel2.sig (Elt Bits)
      (Pipeline.Sig Kernel2.Λ₀ (Fin 1) fun p => (Kernel2.pcfgs (F := Bits) p).Adm))
    (onTc (τ := Kernel2.τ) (Kernel2.main (F := Bits))) ⟨m, fun _ => 0, ρ⟩ (fun r => (∀ c : Dev Kernel2.nD,
      r.2.mem ((c.tc : Thread Kernel2.nD Kernel2.τ).loc Kernel2.main_arg0) = m ((c.tc : Thread Kernel2.nD Kernel2.τ).loc Kernel2.main_arg0)
      ∧ r.2.mem ((c.tc : Thread Kernel2.nD Kernel2.τ).loc Kernel2.main_arg1) = m ((c.tc : Thread Kernel2.nD Kernel2.τ).loc Kernel2.main_arg1))
      ∧ r.2.sem = fun _ => 0)

/-- The frame over bit patterns is the idealized program's run, read at bit patterns. -/
theorem frame_kernel : Cert.quiescent_Kernel2 := fun m ρ _ =>
  (congrArg₂ (FrameAt m ρ) same_cfg same_body).mpr (Cert.Kernel2Ideal.Gen.frame (F := Bits) m ρ)

theorem frame_ideal : Cert.quiescent_Kernel2Ideal := fun m ρ _ => Cert.Kernel2Ideal.Gen.frame (F := Ideal) m ρ

theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

end Cert.Mm.UpDw

end
-- ==== Proof.Mm.DownDw.lean ====
/- The gradient of the down projection: a product accumulated over the rows, against the derivative of the product. -/
module

public import proofs.«01_k».proof.Defs
public import proofs.«01_k».proof.Proof.Gen.Kernel3
public import proofs.«01_k».proof.Proof.Gen.Kernel3Ideal
public import proofs.«01_k».proof.Proof.Gen.Reference3Ideal
public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Mm.DownDw

open Idealize.ShloMosaic Idealize.ShloMosaic.TcCoe Idealize.SL.Sem
open Cert.Kernel3Ideal Cert.Kernel3Ideal.Gen

variable (m : (ℓ : Loc nD τ sig) → Buf (Elt Ideal) ℓ)

/-- The product's saved input and the cotangent, by entry. -/
def argX (c : Dev nD) (r : Fin 8192) (i : Fin 2816) : EReal := (m ((c : Thread nD τ).loc main_arg0) : FVec Ideal S8192x2816 .bf16) (ix2 r i)
def argD (c : Dev nD) (r : Fin 8192) (n : Fin 1024) : EReal := (m ((c : Thread nD τ).loc main_arg1) : FVec Ideal S8192x1024 .bf16) (ix2 r n)

/-- The transposed input times the cotangent. -/
def prod (c : Dev nD) : FVec Ideal S2816x1024 .f32 := fun j => ∑ r, argX m c r (j 0) * argD m c r (j 1)

/-- The windows' blocks at a point. -/
theorem idx : ∀ t : Fin cfg0.N, win0_0.index t = ![t.val % 4, t.val / 4] ∧ win0_1.index t = ![t.val % 4, 0]
    ∧ win0_2.index t = ![t.val / 4, 0] := (by decide +kernel : ∀ t : Fin grid0.N, _)

/-- One point's product, by entry. -/
theorem pay_at (a : FVec Ideal S2048x1408 .bf16) (b : FVec Ideal S2048x1024 .bf16) (i : Fin 1408) (n : Fin 1024) :
    (k0_pay1 (F := Ideal) a b (ix2 i n) : EReal) = ∑ k : Fin 2048, (a (ix2 k i) : EReal) * b (ix2 k n) := by
  unfold k0_pay1
  pointwise

theorem pay2_at (a : FVec Ideal S2048x1408 .bf16) (b : FVec Ideal S2048x1024 .bf16) (j : S1408x1024.Idx) :
    (k0_pay2 (F := Ideal) a b j : EReal) = (0 : EReal) + k0_pay1 (F := Ideal) a b j := by
  unfold k0_pay2
  rw [shapeCast_self, zero_add]

theorem pay3_at (a : FVec Ideal S2048x1408 .bf16) (b : FVec Ideal S2048x1024 .bf16) (v : FVec Ideal S1408x1024 .f32) (j : S1408x1024.Idx) :
    (k0_pay3 (F := Ideal) a b v j : EReal) = (v j : EReal) + k0_pay1 (F := Ideal) a b j := by
  unfold k0_pay3
  rw [shapeCast_self]
  rfl

/-- The scratch at the last point of a run: the sum of the run's four products. -/
theorem scratch (c : Dev nD) (t : Fin cfg0.N) (ht : t.val % 4 = 3) (j : S1408x1024.Idx) :
    ((outsAt0 m c t.val t.isLt).2 j : EReal) = 0 + ∑ s : Fin 4, (k0_pay1 (F := Ideal) (iblk m c 0 ⟨4 * (t.val / 4) + s.val, Pipeline.run_point_lt_of_flush t ht s⟩)
      (iblk m c 1 ⟨4 * (t.val / 4) + s.val, Pipeline.run_point_lt_of_flush t ht s⟩) j : EReal) := by
  refine Pipeline.eq_sum_fin_of_reset_step_apply_of_flush (M := EReal) (fun n h => (outsAt0 m c n h).2) 4 (fun _ => 0)
    (fun t j => (k0_pay1 (F := Ideal) (iblk m c 0 t) (iblk m c 1 t) j : EReal)) (fun t h i => ?_) (fun t h i => ?_) t ht j
  · rw [outsAt0_A m c t h (by omega) (by omega)]
    frame_out
    exact pay2_at _ _ _
  · by_cases h3 : t.val % 4 = 3
    · rw [outsAt0_C m c t h (by omega) h3]
      frame_out
      rw [read_unread_whole]
      exact pay3_at _ _ _ _
    · rw [outsAt0_B m c t h (by omega) h3]
      frame_out
      rw [read_unread_whole]
      exact pay3_at _ _ _ _

/-- The output block at the last point of a run is the scratch. -/
theorem out_block (c : Dev nD) (t : Fin cfg0.N) (ht : t.val % 4 = 3) (i : Fin 1408) (n : Fin 1024) :
    ((outsAt0 m c t.val t.isLt).1 (ix2 i n) : EReal) = (outsAt0 m c t.val t.isLt).2 (ix2 i n) := by
  rw [outsAt0_C m c t (by omega) (by omega) ht]
  frame_out

/-- The result array after the launch. -/
theorem arr (c : Dev nD) : (dats m 0 c).arrAt 2 cfg0.N = prod m c := by
  refine (dats m 0 c).arrAt_eq_of_covers 2 _ (by decide +kernel) fun t hf y => ?_
  have ht : t.val % 4 = 3 := (flush0_2 t).mp hf
  blk_simp
  rw [after0_2]
  rw [eq_ix2 y]
  refine (out_block m c t ht _ _).trans ((scratch m c t ht _).trans ?_)
  rw [zero_add]
  unfold prod
  refine (Finset.sum_congr rfl fun s _ => pay_at _ _ _ _).trans ?_
  refine Fin.sum_mul_add_congr fun s k hl => ?_
  unfold argX argD
  congr 1 <;> blk_ext [iblk, V, idx t, idx (⟨4 * (t.val / 4) + s.val, Pipeline.run_point_lt_of_flush t ht s⟩ : Fin cfg0.N)]

theorem algebraic : Cert.algebraic_Kernel3Ideal_Reference3Ideal := fun m ρ m' ρ' hm ha =>
  ⟨prod m,
    (θ_run Kernel3Ideal.defs _ _).mono (fun r h c => ⟨(h c).1.trans (arr m c), (h c).2⟩) (Kernel3Ideal.Value.run_blocks (F := Ideal) m ρ),
    (θ_run Reference3Ideal.defs _ _).mono (fun r h c => ⟨(h c).1.trans (by
        rw [(ha c).1, (ha c).2]
        unfold prod argX argD
        funext j
        pointwise
        exact Finset.sum_congr rfl fun _ _ => mul_comm _ _), (h c).2⟩) (Reference3Ideal.Value.run (F := Ideal) m' ρ')⟩

/-- The two printed programs' bodies and pipelines are one. -/
theorem same_body : Cert.Kernel3.defs₀ (F := Bits) = Cert.Kernel3Ideal.defs₀ (F := Bits) := by
  unfold Cert.Kernel3.defs₀ Cert.Kernel3Ideal.defs₀
  refine congrArg Defs.onTc (funext fun ℓ => funext fun a => ?_)
  match ℓ, a with
  | ⟨0, _⟩, (t, s) => rfl
theorem same_loose : Cert.Kernel3.cfg0.loose = Cert.Kernel3Ideal.cfg0.loose := funext fun w => by fin_cases w <;> rfl
theorem same_cfg : Cert.Kernel3.cfg0 = Cert.Kernel3Ideal.cfg0 :=
  congrArg (fun l => ({ Cert.Kernel3Ideal.cfg0 with loose := l } : Pipeline.Cfg Cert.Kernel3Ideal.sig Cert.Kernel3Ideal.Λ₀)) same_loose

/-- The statement of the frame at a pipeline and a body table. -/
def FrameAt (m : (ℓ : Loc Kernel3.nD Kernel3.τ Kernel3.sig) → Buf (Elt Bits) ℓ) (ρ : Dev Kernel3.nD → PrngReg)
    (cfg : Pipeline.Cfg Kernel3.sig Kernel3.Λ₀) (d : Defs Kernel3.nD Kernel3.τ Kernel3.sig (Elt Bits) Kernel3.Λ₀) : Prop :=
  θ_run (Pipeline.defs (fun _ => cfg.toPCfg) d : Defs Kernel3.nD Kernel3.τ Kernel3.sig (Elt Bits)
      (Pipeline.Sig Kernel3.Λ₀ (Fin 1) fun p => (Kernel3.pcfgs (F := Bits) p).Adm))
    (onTc (τ := Kernel3.τ) (Kernel3.main (F := Bits))) ⟨m, fun _ => 0, ρ⟩ (fun r => (∀ c : Dev Kernel3.nD,
      r.2.mem ((c.tc : Thread Kernel3.nD Kernel3.τ).loc Kernel3.main_arg0) = m ((c.tc : Thread Kernel3.nD Kernel3.τ).loc Kernel3.main_arg0)
      ∧ r.2.mem ((c.tc : Thread Kernel3.nD Kernel3.τ).loc Kernel3.main_arg1) = m ((c.tc : Thread Kernel3.nD Kernel3.τ).loc Kernel3.main_arg1))
      ∧ r.2.sem = fun _ => 0)

/-- The frame over bit patterns is the idealized program's run, read at bit patterns. -/
theorem frame_kernel : Cert.quiescent_Kernel3 := fun m ρ _ =>
  (congrArg₂ (FrameAt m ρ) same_cfg same_body).mpr (Cert.Kernel3Ideal.Gen.frame (F := Bits) m ρ)

theorem frame_ideal : Cert.quiescent_Kernel3Ideal := fun m ρ _ => Cert.Kernel3Ideal.Gen.frame (F := Ideal) m ρ

theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

end Cert.Mm.DownDw

end
-- ==== Proof.Mm.DownDx.lean ====
/- The gradient of the down projection's input: one product per block, against the derivative of the product. -/
module

public import proofs.«01_k».proof.Defs
public import proofs.«01_k».proof.Proof.Gen.Kernel4
public import proofs.«01_k».proof.Proof.Gen.Kernel4Ideal
public import proofs.«01_k».proof.Proof.Gen.Reference4Ideal
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise

@[expose] public section

set_option maxRecDepth 16384

noncomputable section

namespace Cert.Mm.DownDx

open Idealize.ShloMosaic Idealize.ShloMosaic.TcCoe Idealize.SL.Sem
open Cert.Kernel4Ideal Cert.Kernel4Ideal.Gen

variable (m : (ℓ : Loc nD τ sig) → Buf (Elt Ideal) ℓ)

/-- The cotangent and the weight, by entry. -/
def argD (c : Dev nD) (r : Fin 8192) (k : Fin 1024) : EReal := (m ((c : Thread nD τ).loc main_arg0) : FVec Ideal S8192x1024 .bf16) (ix2 r k)
def argW (c : Dev nD) (n : Fin 2816) (k : Fin 1024) : EReal := (m ((c : Thread nD τ).loc main_arg1) : FVec Ideal S2816x1024 .bf16) (ix2 n k)

/-- The cotangent times the transposed weight. -/
def prod (c : Dev nD) : FVec Ideal S8192x2816 .f32 := fun j => ∑ k, argD m c (j 0) k * argW m c (j 1) k

/-- The windows' blocks at a point. -/
theorem idx : ∀ t : Fin cfg0.N, win0_0.index t = ![t.val / 2, 0] ∧ win0_1.index t = ![t.val % 2, 0]
    ∧ win0_2.index t = ![t.val / 2, t.val % 2] := (by decide +kernel : ∀ t : Fin grid0.N, _)

/-- One point's product, by entry. -/
theorem pay_at (a : FVec Ideal S2048x1024 .bf16) (b : FVec Ideal S1408x1024 .bf16) (i : Fin 2048) (n : Fin 1408) :
    (k0_pay1 (F := Ideal) a b (ix2 i n) : EReal) = ∑ k : Fin 1024, (a (ix2 i k) : EReal) * b (ix2 n k) := by
  unfold k0_pay1
  pointwise

/-- The result array after the launch. -/
theorem arr (c : Dev nD) : (dats m 0 c).arrAt 2 cfg0.N = prod m c := by
  refine (dats m 0 c).arrAt_eq_of_covers 2 _ (by decide +kernel) fun t hf y => ?_
  blk_simp
  rw [after0_2]
  frame_out
  rw [eq_ix2 y]
  refine (pay_at _ _ _ _).trans (Finset.sum_congr rfl fun k _ => ?_)
  unfold argD argW
  congr 1 <;> blk_ext [iblk, V, idx t]

theorem algebraic : Cert.algebraic_Kernel4Ideal_Reference4Ideal := fun m ρ m' ρ' hm ha =>
  ⟨prod m,
    (θ_run Kernel4Ideal.defs _ _).mono (fun r h c => ⟨(h c).1.trans (arr m c), (h c).2⟩) (Kernel4Ideal.Value.run_blocks (F := Ideal) m ρ),
    (θ_run Reference4Ideal.defs _ _).mono (fun r h c => ⟨(h c).1.trans (by
        rw [(ha c).1, (ha c).2]
        unfold prod argD argW
        funext j
        pointwise), (h c).2⟩) (Reference4Ideal.Value.run (F := Ideal) m' ρ')⟩

/-- The two printed programs' bodies and pipelines are one. -/
theorem same_body : Cert.Kernel4.defs₀ (F := Bits) = Cert.Kernel4Ideal.defs₀ (F := Bits) := by
  unfold Cert.Kernel4.defs₀ Cert.Kernel4Ideal.defs₀
  refine congrArg Defs.onTc (funext fun ℓ => funext fun a => ?_)
  match ℓ, a with
  | ⟨0, _⟩, (t, s) => rfl
theorem same_loose : Cert.Kernel4.cfg0.loose = Cert.Kernel4Ideal.cfg0.loose := funext fun w => by fin_cases w <;> rfl
theorem same_cfg : Cert.Kernel4.cfg0 = Cert.Kernel4Ideal.cfg0 :=
  congrArg (fun l => ({ Cert.Kernel4Ideal.cfg0 with loose := l } : Pipeline.Cfg Cert.Kernel4Ideal.sig Cert.Kernel4Ideal.Λ₀)) same_loose

/-- The statement of the frame at a pipeline and a body table. -/
def FrameAt (m : (ℓ : Loc Kernel4.nD Kernel4.τ Kernel4.sig) → Buf (Elt Bits) ℓ) (ρ : Dev Kernel4.nD → PrngReg)
    (cfg : Pipeline.Cfg Kernel4.sig Kernel4.Λ₀) (d : Defs Kernel4.nD Kernel4.τ Kernel4.sig (Elt Bits) Kernel4.Λ₀) : Prop :=
  θ_run (Pipeline.defs (fun _ => cfg.toPCfg) d : Defs Kernel4.nD Kernel4.τ Kernel4.sig (Elt Bits)
      (Pipeline.Sig Kernel4.Λ₀ (Fin 1) fun p => (Kernel4.pcfgs (F := Bits) p).Adm))
    (onTc (τ := Kernel4.τ) (Kernel4.main (F := Bits))) ⟨m, fun _ => 0, ρ⟩ (fun r => (∀ c : Dev Kernel4.nD,
      r.2.mem ((c.tc : Thread Kernel4.nD Kernel4.τ).loc Kernel4.main_arg0) = m ((c.tc : Thread Kernel4.nD Kernel4.τ).loc Kernel4.main_arg0)
      ∧ r.2.mem ((c.tc : Thread Kernel4.nD Kernel4.τ).loc Kernel4.main_arg1) = m ((c.tc : Thread Kernel4.nD Kernel4.τ).loc Kernel4.main_arg1))
      ∧ r.2.sem = fun _ => 0)

/-- The frame over bit patterns is the idealized program's run, read at bit patterns. -/
theorem frame_kernel : Cert.quiescent_Kernel4 := fun m ρ _ =>
  (congrArg₂ (FrameAt m ρ) same_cfg same_body).mpr (Cert.Kernel4Ideal.Gen.frame (F := Bits) m ρ)

theorem frame_ideal : Cert.quiescent_Kernel4Ideal := fun m ρ _ => Cert.Kernel4Ideal.Gen.frame (F := Ideal) m ρ

theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

end Cert.Mm.DownDx

end
-- ==== Proof.Mm.Up0.lean ====
/- The up projection of layer 0: one product per block, the weight in its four column parts, against the product. -/
module

public import proofs.«01_k».proof.Defs
public import proofs.«01_k».proof.Proof.Gen.Kernel5
public import proofs.«01_k».proof.Proof.Gen.Kernel5Ideal
public import proofs.«01_k».proof.Proof.Gen.Reference5Ideal
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise

@[expose] public section

set_option maxRecDepth 16384

noncomputable section

namespace Cert.Mm.Up0

open Idealize.ShloMosaic Idealize.ShloMosaic.TcCoe Idealize.SL.Sem
open Cert.Kernel5Ideal Cert.Kernel5Ideal.Gen

variable (m : (ℓ : Loc nD τ sig) → Buf (Elt Ideal) ℓ)

/-- The input and the stacked weight, by entry. -/
def argX (c : Dev nD) (r : Fin 8192) (k : Fin 1024) : EReal := (m ((c : Thread nD τ).loc main_arg0) : FVec Ideal S8192x1024 .bf16) (ix2 r k)
def argW (c : Dev nD) (s : Fin 4) (k : Fin 2048) (n : Fin 1408) : EReal := (m ((c : Thread nD τ).loc main_arg1) : FVec Ideal S4x2048x1408 .bf16) (ix3 s k n)

/-- The input times the layer's weight, its four column parts side by side. -/
def prod (c : Dev nD) : FVec Ideal S8192x5632 .f32 := fun j =>
  ∑ k, argX m c (j 0) k * argW m c ⟨(j 1).val / 1408, by have h : (j 1).val < 5632 := (j 1).isLt; omega⟩ ⟨k.val, by omega⟩ ⟨(j 1).val % 1408, by omega⟩

/-- The windows' blocks at a point. -/
theorem idx : ∀ t : Fin cfg0.N, win0_0.index t = ![t.val / 4, 0] ∧ win0_1.index t = ![t.val % 4, 0, 0]
    ∧ win0_2.index t = ![t.val / 4, t.val % 4] := (by decide +kernel : ∀ t : Fin grid0.N, _)

/-- One point's product, by entry. -/
theorem pay_at (a : FVec Ideal S2048x1024 .bf16) (b : FVec Ideal S1x1024x1408 .bf16) (i : Fin 2048) (n : Fin 1408) :
    (k0_pay1 (F := Ideal) a b (ix2 i n) : EReal) = ∑ k : Fin 1024, (a (ix2 i k) : EReal) * b (ix3 (0 : Fin 1) k n) := by
  unfold k0_pay1
  pointwise

/-- The result array after the launch. -/
theorem arr (c : Dev nD) : (dats m 0 c).arrAt 2 cfg0.N = prod m c := by
  refine (dats m 0 c).arrAt_eq_of_covers 2 _ (by decide +kernel) fun t hf y => ?_
  blk_simp
  rw [after0_2]
  frame_out
  rw [eq_ix2 y]
  refine (pay_at _ _ _ _).trans (Finset.sum_congr rfl fun k _ => ?_)
  unfold argX argW
  congr 1 <;> blk_ext [iblk, V, idx t]

/-- A column of the product, its part and its place in the part named in another way. -/
theorem column (x : Fin 1024 → EReal) (w : Fin 4 → Fin 2048 → Fin 1408 → EReal) (r : Fin 1024 → Fin 2048) {s s' : Fin 4} {n n' : Fin 1408}
    (hs : s.val = s'.val) (hn : n.val = n'.val) : ∑ k, x k * w s (r k) n = ∑ k, x k * w s' (r k) n' := by
  obtain rfl := Fin.ext hs
  obtain rfl := Fin.ext hn
  rfl

theorem algebraic : Cert.algebraic_Kernel5Ideal_Reference5Ideal := fun m ρ m' ρ' hm ha =>
  ⟨prod m,
    (θ_run Kernel5Ideal.defs _ _).mono (fun r h c => ⟨(h c).1.trans (arr m c), (h c).2⟩) (Kernel5Ideal.Value.run_blocks (F := Ideal) m ρ),
    (θ_run Reference5Ideal.defs _ _).mono (fun r h c => ⟨(h c).1.trans (by
        rw [(ha c).1, (ha c).2]
        unfold prod argX argW
        funext j
        have h1 : (j 1).val < 5632 := (j 1).isLt
        pointwise
        split_ifs <;> exact column (argX m c (j 0)) (argW m c) (fun k => ⟨k.val, by omega⟩) (by first | omega | (simp only [Fin.isValue, Fin.reduceFinMk]; omega) | (simp; omega)) (by dsimp only; omega)), (h c).2⟩) (Reference5Ideal.Value.run (F := Ideal) m' ρ')⟩

/-- The two printed programs' bodies and pipelines are one. -/
theorem same_body : Cert.Kernel5.defs₀ (F := Bits) = Cert.Kernel5Ideal.defs₀ (F := Bits) := by
  unfold Cert.Kernel5.defs₀ Cert.Kernel5Ideal.defs₀
  refine congrArg Defs.onTc (funext fun ℓ => funext fun a => ?_)
  match ℓ, a with
  | ⟨0, _⟩, (t, s) => rfl
theorem same_loose : Cert.Kernel5.cfg0.loose = Cert.Kernel5Ideal.cfg0.loose := funext fun w => by fin_cases w <;> rfl
theorem same_cfg : Cert.Kernel5.cfg0 = Cert.Kernel5Ideal.cfg0 :=
  congrArg (fun l => ({ Cert.Kernel5Ideal.cfg0 with loose := l } : Pipeline.Cfg Cert.Kernel5Ideal.sig Cert.Kernel5Ideal.Λ₀)) same_loose

/-- The statement of the frame at a pipeline and a body table. -/
def FrameAt (m : (ℓ : Loc Kernel5.nD Kernel5.τ Kernel5.sig) → Buf (Elt Bits) ℓ) (ρ : Dev Kernel5.nD → PrngReg)
    (cfg : Pipeline.Cfg Kernel5.sig Kernel5.Λ₀) (d : Defs Kernel5.nD Kernel5.τ Kernel5.sig (Elt Bits) Kernel5.Λ₀) : Prop :=
  θ_run (Pipeline.defs (fun _ => cfg.toPCfg) d : Defs Kernel5.nD Kernel5.τ Kernel5.sig (Elt Bits)
      (Pipeline.Sig Kernel5.Λ₀ (Fin 1) fun p => (Kernel5.pcfgs (F := Bits) p).Adm))
    (onTc (τ := Kernel5.τ) (Kernel5.main (F := Bits))) ⟨m, fun _ => 0, ρ⟩ (fun r => (∀ c : Dev Kernel5.nD,
      r.2.mem ((c.tc : Thread Kernel5.nD Kernel5.τ).loc Kernel5.main_arg0) = m ((c.tc : Thread Kernel5.nD Kernel5.τ).loc Kernel5.main_arg0)
      ∧ r.2.mem ((c.tc : Thread Kernel5.nD Kernel5.τ).loc Kernel5.main_arg1) = m ((c.tc : Thread Kernel5.nD Kernel5.τ).loc Kernel5.main_arg1))
      ∧ r.2.sem = fun _ => 0)

/-- The frame over bit patterns is the idealized program's run, read at bit patterns. -/
theorem frame_kernel : Cert.quiescent_Kernel5 := fun m ρ _ =>
  (congrArg₂ (FrameAt m ρ) same_cfg same_body).mpr (Cert.Kernel5Ideal.Gen.frame (F := Bits) m ρ)

theorem frame_ideal : Cert.quiescent_Kernel5Ideal := fun m ρ _ => Cert.Kernel5Ideal.Gen.frame (F := Ideal) m ρ

theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

end Cert.Mm.Up0

end
-- ==== Proof.Mm.Up1.lean ====
/- The up projection of layer 1: one product per block, the weight in its four column parts, against the product. -/
module

public import proofs.«01_k».proof.Defs
public import proofs.«01_k».proof.Proof.Gen.Kernel6
public import proofs.«01_k».proof.Proof.Gen.Kernel6Ideal
public import proofs.«01_k».proof.Proof.Gen.Reference6Ideal
public import proofs.«01_k».proof.Proof.Gen.Kernel6Ideal.Value
public import proofs.«01_k».proof.Proof.Gen.Reference6Ideal.Run
public import Idealize.ShloMosaic.Lib.Pipeline.ValueKit
public import Idealize.ShloMosaic.Lib.Pointwise

@[expose] public section

set_option maxRecDepth 16384

noncomputable section

namespace Cert.Mm.Up1

open Idealize.ShloMosaic Idealize.ShloMosaic.TcCoe Idealize.SL.Sem
open Cert.Kernel6Ideal Cert.Kernel6Ideal.Gen

variable (m : (ℓ : Loc nD τ sig) → Buf (Elt Ideal) ℓ)

/-- The input and the stacked weight, by entry. -/
def argX (c : Dev nD) (r : Fin 8192) (k : Fin 1024) : EReal := (m ((c : Thread nD τ).loc main_arg0) : FVec Ideal S8192x1024 .bf16) (ix2 r k)
def argW (c : Dev nD) (s : Fin 4) (k : Fin 2048) (n : Fin 1408) : EReal := (m ((c : Thread nD τ).loc main_arg1) : FVec Ideal S4x2048x1408 .bf16) (ix3 s k n)

/-- The input times the layer's weight, its four column parts side by side. -/
def prod (c : Dev nD) : FVec Ideal S8192x5632 .f32 := fun j =>
  ∑ k, argX m c (j 0) k * argW m c ⟨(j 1).val / 1408, by have h : (j 1).val < 5632 := (j 1).isLt; omega⟩ ⟨1024 + k.val, by omega⟩ ⟨(j 1).val % 1408, by omega⟩

/-- The windows' blocks at a point. -/
theorem idx : ∀ t : Fin cfg0.N, win0_0.index t = ![t.val / 4, 0] ∧ win0_1.index t = ![t.val % 4, 1, 0]
    ∧ win0_2.index t = ![t.val / 4, t.val % 4] := (by decide +kernel : ∀ t : Fin grid0.N, _)

/-- One point's product, by entry. -/
theorem pay_at (a : FVec Ideal S2048x1024 .bf16) (b : FVec Ideal S1x1024x1408 .bf16) (i : Fin 2048) (n : Fin 1408) :
    (k0_pay1 (F := Ideal) a b (ix2 i n) : EReal) = ∑ k : Fin 1024, (a (ix2 i k) : EReal) * b (ix3 (0 : Fin 1) k n) := by
  unfold k0_pay1
  pointwise

/-- The result array after the launch. -/
theorem arr (c : Dev nD) : (dats m 0 c).arrAt 2 cfg0.N = prod m c := by
  refine (dats m 0 c).arrAt_eq_of_covers 2 _ (by decide +kernel) fun t hf y => ?_
  blk_simp
  rw [after0_2]
  frame_out
  rw [eq_ix2 y]
  refine (pay_at _ _ _ _).trans (Finset.sum_congr rfl fun k _ => ?_)
  unfold argX argW
  congr 1 <;> blk_ext [iblk, V, idx t]

/-- A column of the product, its part and its place in the part named in another way. -/
theorem column (x : Fin 1024 → EReal) (w : Fin 4 → Fin 2048 → Fin 1408 → EReal) (r : Fin 1024 → Fin 2048) {s s' : Fin 4} {n n' : Fin 1408}
    (hs : s.val = s'.val) (hn : n.val = n'.val) : ∑ k, x k * w s (r k) n = ∑ k, x k * w s' (r k) n' := by
  obtain rfl := Fin.ext hs
  obtain rfl := Fin.ext hn
  rfl

theorem algebraic : Cert.algebraic_Kernel6Ideal_Reference6Ideal := fun m ρ m' ρ' hm ha =>
  ⟨prod m,
    (θ_run Kernel6Ideal.defs _ _).mono (fun r h c => ⟨(h c).1.trans (arr m c), (h c).2⟩) (Kernel6Ideal.Value.run_blocks (F := Ideal) m ρ),
    (θ_run Reference6Ideal.defs _ _).mono (fun r h c => ⟨(h c).1.trans (by
        rw [(ha c).1, (ha c).2]
        unfold prod argX argW
        funext j
        have h1 : (j 1).val < 5632 := (j 1).isLt
        pointwise
        split_ifs <;> exact column (argX m c (j 0)) (argW m c) (fun k => ⟨1024 + k.val, by omega⟩) (by first | omega | (simp only [Fin.isValue, Fin.reduceFinMk]; omega) | (simp; omega)) (by dsimp only; omega)), (h c).2⟩) (Reference6Ideal.Value.run (F := Ideal) m' ρ')⟩

/-- The two printed programs' bodies and pipelines are one. -/
theorem same_body : Cert.Kernel6.defs₀ (F := Bits) = Cert.Kernel6Ideal.defs₀ (F := Bits) := by
  unfold Cert.Kernel6.defs₀ Cert.Kernel6Ideal.defs₀
  refine congrArg Defs.onTc (funext fun ℓ => funext fun a => ?_)
  match ℓ, a with
  | ⟨0, _⟩, (t, s) => rfl
theorem same_loose : Cert.Kernel6.cfg0.loose = Cert.Kernel6Ideal.cfg0.loose := funext fun w => by fin_cases w <;> rfl
theorem same_cfg : Cert.Kernel6.cfg0 = Cert.Kernel6Ideal.cfg0 :=
  congrArg (fun l => ({ Cert.Kernel6Ideal.cfg0 with loose := l } : Pipeline.Cfg Cert.Kernel6Ideal.sig Cert.Kernel6Ideal.Λ₀)) same_loose

/-- The statement of the frame at a pipeline and a body table. -/
def FrameAt (m : (ℓ : Loc Kernel6.nD Kernel6.τ Kernel6.sig) → Buf (Elt Bits) ℓ) (ρ : Dev Kernel6.nD → PrngReg)
    (cfg : Pipeline.Cfg Kernel6.sig Kernel6.Λ₀) (d : Defs Kernel6.nD Kernel6.τ Kernel6.sig (Elt Bits) Kernel6.Λ₀) : Prop :=
  θ_run (Pipeline.defs (fun _ => cfg.toPCfg) d : Defs Kernel6.nD Kernel6.τ Kernel6.sig (Elt Bits)
      (Pipeline.Sig Kernel6.Λ₀ (Fin 1) fun p => (Kernel6.pcfgs (F := Bits) p).Adm))
    (onTc (τ := Kernel6.τ) (Kernel6.main (F := Bits))) ⟨m, fun _ => 0, ρ⟩ (fun r => (∀ c : Dev Kernel6.nD,
      r.2.mem ((c.tc : Thread Kernel6.nD Kernel6.τ).loc Kernel6.main_arg0) = m ((c.tc : Thread Kernel6.nD Kernel6.τ).loc Kernel6.main_arg0)
      ∧ r.2.mem ((c.tc : Thread Kernel6.nD Kernel6.τ).loc Kernel6.main_arg1) = m ((c.tc : Thread Kernel6.nD Kernel6.τ).loc Kernel6.main_arg1))
      ∧ r.2.sem = fun _ => 0)

/-- The frame over bit patterns is the idealized program's run, read at bit patterns. -/
theorem frame_kernel : Cert.quiescent_Kernel6 := fun m ρ _ =>
  (congrArg₂ (FrameAt m ρ) same_cfg same_body).mpr (Cert.Kernel6Ideal.Gen.frame (F := Bits) m ρ)

theorem frame_ideal : Cert.quiescent_Kernel6Ideal := fun m ρ _ => Cert.Kernel6Ideal.Gen.frame (F := Ideal) m ρ

theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

end Cert.Mm.Up1

end
-- ==== Proof.Mm.ProjFwd.lean ====
/- The mLSTM's input projection: one product per block of rows, against the product. -/
module

public import proofs.«01_k».proof.Defs
public import proofs.«01_k».proof.Proof.Gen.Kernel7
public import proofs.«01_k».proof.Proof.Gen.Kernel7Ideal
public import proofs.«01_k».proof.Proof.Gen.Reference7Ideal
public import proofs.«01_k».proof.Proof.Gen.Kernel7Ideal.Value
public import proofs.«01_k».proof.Proof.Gen.Reference7Ideal.Run
public import Idealize.ShloMosaic.Lib.Pipeline.ValueKit
public import Idealize.ShloMosaic.Lib.Pointwise

@[expose] public section

set_option maxRecDepth 16384

noncomputable section

namespace Cert.Mm.ProjFwd

open Idealize.ShloMosaic Idealize.ShloMosaic.TcCoe Idealize.SL.Sem
open Cert.Kernel7Ideal Cert.Kernel7Ideal.Gen

variable (m : (ℓ : Loc nD τ sig) → Buf (Elt Ideal) ℓ)

/-- The input and the weight, by entry. -/
def argX (c : Dev nD) (r : Fin 8192) (k : Fin 1024) : EReal := (m ((c : Thread nD τ).loc main_arg0) : FVec Ideal S8192x1024 .bf16) (ix2 r k)
def argW (c : Dev nD) (k : Fin 1024) (n : Fin 3200) : EReal := (m ((c : Thread nD τ).loc main_arg1) : FVec Ideal S1024x3200 .bf16) (ix2 k n)

/-- The input times the weight. -/
def prod (c : Dev nD) : FVec Ideal S8192x3200 .f32 := fun j => ∑ k, argX m c (j 0) k * argW m c k (j 1)

/-- The windows' blocks at a point. -/
theorem idx : ∀ t : Fin cfg0.N, win0_0.index t = ![t.val, 0] ∧ win0_1.index t = ![0, 0]
    ∧ win0_2.index t = ![t.val, 0] := (by decide +kernel : ∀ t : Fin grid0.N, _)

/-- One point's product, by entry. -/
theorem pay_at (a : FVec Ideal S1024x1024 .bf16) (b : FVec Ideal S1024x3200 .bf16) (i : Fin 1024) (n : Fin 3200) :
    (k0_pay1 (F := Ideal) a b (ix2 i n) : EReal) = ∑ k : Fin 1024, (a (ix2 i k) : EReal) * b (ix2 k n) := by
  unfold k0_pay1
  pointwise

/-- The result array after the launch. -/
theorem arr (c : Dev nD) : (dats m 0 c).arrAt 2 cfg0.N = prod m c := by
  refine (dats m 0 c).arrAt_eq_of_covers 2 _ (by decide +kernel) fun t hf y => ?_
  blk_simp
  rw [after0_2]
  frame_out
  rw [eq_ix2 y]
  refine (pay_at _ _ _ _).trans (Finset.sum_congr rfl fun k _ => ?_)
  unfold argX argW
  congr 1 <;> blk_ext [iblk, V, idx t]

theorem algebraic : Cert.algebraic_Kernel7Ideal_Reference7Ideal := fun m ρ m' ρ' hm ha =>
  ⟨prod m,
    (θ_run Kernel7Ideal.defs _ _).mono (fun r h c => ⟨(h c).1.trans (arr m c), (h c).2⟩) (Kernel7Ideal.Value.run_blocks (F := Ideal) m ρ),
    (θ_run Reference7Ideal.defs _ _).mono (fun r h c => ⟨(h c).1.trans (by
        rw [(ha c).1, (ha c).2]
        unfold prod argX argW
        funext j
        pointwise), (h c).2⟩) (Reference7Ideal.Value.run (F := Ideal) m' ρ')⟩

/-- The two printed programs' bodies and pipelines are one. -/
theorem same_body : Cert.Kernel7.defs₀ (F := Bits) = Cert.Kernel7Ideal.defs₀ (F := Bits) := by
  unfold Cert.Kernel7.defs₀ Cert.Kernel7Ideal.defs₀
  refine congrArg Defs.onTc (funext fun ℓ => funext fun a => ?_)
  match ℓ, a with
  | ⟨0, _⟩, (t, s) => rfl
theorem same_loose : Cert.Kernel7.cfg0.loose = Cert.Kernel7Ideal.cfg0.loose := funext fun w => by fin_cases w <;> rfl
theorem same_cfg : Cert.Kernel7.cfg0 = Cert.Kernel7Ideal.cfg0 :=
  congrArg (fun l => ({ Cert.Kernel7Ideal.cfg0 with loose := l } : Pipeline.Cfg Cert.Kernel7Ideal.sig Cert.Kernel7Ideal.Λ₀)) same_loose

/-- The statement of the frame at a pipeline and a body table. -/
def FrameAt (m : (ℓ : Loc Kernel7.nD Kernel7.τ Kernel7.sig) → Buf (Elt Bits) ℓ) (ρ : Dev Kernel7.nD → PrngReg)
    (cfg : Pipeline.Cfg Kernel7.sig Kernel7.Λ₀) (d : Defs Kernel7.nD Kernel7.τ Kernel7.sig (Elt Bits) Kernel7.Λ₀) : Prop :=
  θ_run (Pipeline.defs (fun _ => cfg.toPCfg) d : Defs Kernel7.nD Kernel7.τ Kernel7.sig (Elt Bits)
      (Pipeline.Sig Kernel7.Λ₀ (Fin 1) fun p => (Kernel7.pcfgs (F := Bits) p).Adm))
    (onTc (τ := Kernel7.τ) (Kernel7.main (F := Bits))) ⟨m, fun _ => 0, ρ⟩ (fun r => (∀ c : Dev Kernel7.nD,
      r.2.mem ((c.tc : Thread Kernel7.nD Kernel7.τ).loc Kernel7.main_arg0) = m ((c.tc : Thread Kernel7.nD Kernel7.τ).loc Kernel7.main_arg0)
      ∧ r.2.mem ((c.tc : Thread Kernel7.nD Kernel7.τ).loc Kernel7.main_arg1) = m ((c.tc : Thread Kernel7.nD Kernel7.τ).loc Kernel7.main_arg1))
      ∧ r.2.sem = fun _ => 0)

/-- The frame over bit patterns is the idealized program's run, read at bit patterns. -/
theorem frame_kernel : Cert.quiescent_Kernel7 := fun m ρ _ =>
  (congrArg₂ (FrameAt m ρ) same_cfg same_body).mpr (Cert.Kernel7Ideal.Gen.frame (F := Bits) m ρ)

theorem frame_ideal : Cert.quiescent_Kernel7Ideal := fun m ρ _ => Cert.Kernel7Ideal.Gen.frame (F := Ideal) m ρ

theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

end Cert.Mm.ProjFwd

end
-- ==== Proof.Mm.ProjDw.lean ====
/- The gradient of the mLSTM's input projection: a product accumulated over the rows, against the derivative of the product. -/
module

public import proofs.«01_k».proof.Defs
public import proofs.«01_k».proof.Proof.Gen.Kernel8
public import proofs.«01_k».proof.Proof.Gen.Kernel8Ideal
public import proofs.«01_k».proof.Proof.Gen.Reference8Ideal
public import proofs.«01_k».proof.Proof.Gen.Kernel8Ideal.Value
public import proofs.«01_k».proof.Proof.Gen.Reference8Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Mm.ProjDw

open Idealize.ShloMosaic Idealize.ShloMosaic.TcCoe Idealize.SL.Sem
open Cert.Kernel8Ideal Cert.Kernel8Ideal.Gen

variable (m : (ℓ : Loc nD τ sig) → Buf (Elt Ideal) ℓ)

/-- The product's saved input and the cotangent, by entry. -/
def argX (c : Dev nD) (r : Fin 8192) (i : Fin 1024) : EReal := (m ((c : Thread nD τ).loc main_arg0) : FVec Ideal S8192x1024 .bf16) (ix2 r i)
def argD (c : Dev nD) (r : Fin 8192) (n : Fin 3200) : EReal := (m ((c : Thread nD τ).loc main_arg1) : FVec Ideal S8192x3200 .bf16) (ix2 r n)

/-- The transposed input times the cotangent. -/
def prod (c : Dev nD) : FVec Ideal S1024x3200 .f32 := fun j => ∑ r, argX m c r (j 0) * argD m c r (j 1)

/-- The windows' blocks at a point. -/
theorem idx : ∀ t : Fin cfg0.N, win0_0.index t = ![t.val % 8, t.val / 8] ∧ win0_1.index t = ![t.val % 8, 0]
    ∧ win0_2.index t = ![t.val / 8, 0] := (by decide +kernel : ∀ t : Fin grid0.N, _)

/-- One point's product, by entry. -/
theorem pay_at (a : FVec Ideal S1024x512 .bf16) (b : FVec Ideal S1024x3200 .bf16) (i : Fin 512) (n : Fin 3200) :
    (k0_pay1 (F := Ideal) a b (ix2 i n) : EReal) = ∑ k : Fin 1024, (a (ix2 k i) : EReal) * b (ix2 k n) := by
  unfold k0_pay1
  pointwise

theorem pay2_at (a : FVec Ideal S1024x512 .bf16) (b : FVec Ideal S1024x3200 .bf16) (j : S512x3200.Idx) :
    (k0_pay2 (F := Ideal) a b j : EReal) = (0 : EReal) + k0_pay1 (F := Ideal) a b j := by
  unfold k0_pay2
  rw [shapeCast_self, zero_add]

theorem pay3_at (a : FVec Ideal S1024x512 .bf16) (b : FVec Ideal S1024x3200 .bf16) (v : FVec Ideal S512x3200 .f32) (j : S512x3200.Idx) :
    (k0_pay3 (F := Ideal) a b v j : EReal) = (v j : EReal) + k0_pay1 (F := Ideal) a b j := by
  unfold k0_pay3
  rw [shapeCast_self]
  rfl

/-- The scratch at the last point of a run: the sum of the run's eight products. -/
theorem scratch (c : Dev nD) (t : Fin cfg0.N) (ht : t.val % 8 = 7) (j : S512x3200.Idx) :
    ((outsAt0 m c t.val t.isLt).2 j : EReal) = 0 + ∑ s : Fin 8, (k0_pay1 (F := Ideal) (iblk m c 0 ⟨8 * (t.val / 8) + s.val, Pipeline.run_point_lt_of_flush t ht s⟩)
      (iblk m c 1 ⟨8 * (t.val / 8) + s.val, Pipeline.run_point_lt_of_flush t ht s⟩) j : EReal) := by
  refine Pipeline.eq_sum_fin_of_reset_step_apply_of_flush (M := EReal) (fun n h => (outsAt0 m c n h).2) 8 (fun _ => 0)
    (fun t j => (k0_pay1 (F := Ideal) (iblk m c 0 t) (iblk m c 1 t) j : EReal)) (fun t h i => ?_) (fun t h i => ?_) t ht j
  · rw [outsAt0_A m c t h (by omega) (by omega)]
    frame_out
    exact pay2_at _ _ _
  · by_cases h3 : t.val % 8 = 7
    · rw [outsAt0_C m c t h (by omega) h3]
      frame_out
      rw [read_unread_whole]
      exact pay3_at _ _ _ _
    · rw [outsAt0_B m c t h (by omega) h3]
      frame_out
      rw [read_unread_whole]
      exact pay3_at _ _ _ _

/-- The output block at the last point of a run is the scratch. -/
theorem out_block (c : Dev nD) (t : Fin cfg0.N) (ht : t.val % 8 = 7) (i : Fin 512) (n : Fin 3200) :
    ((outsAt0 m c t.val t.isLt).1 (ix2 i n) : EReal) = (outsAt0 m c t.val t.isLt).2 (ix2 i n) := by
  rw [outsAt0_C m c t (by omega) (by omega) ht]
  frame_out

/-- The result array after the launch. -/
theorem arr (c : Dev nD) : (dats m 0 c).arrAt 2 cfg0.N = prod m c := by
  refine (dats m 0 c).arrAt_eq_of_covers 2 _ (by decide +kernel) fun t hf y => ?_
  have ht : t.val % 8 = 7 := (flush0_2 t).mp hf
  blk_simp
  rw [after0_2]
  rw [eq_ix2 y]
  refine (out_block m c t ht _ _).trans ((scratch m c t ht _).trans ?_)
  rw [zero_add]
  unfold prod
  refine (Finset.sum_congr rfl fun s _ => pay_at _ _ _ _).trans ?_
  refine Fin.sum_mul_add_congr fun s k hl => ?_
  unfold argX argD
  congr 1 <;> blk_ext [iblk, V, idx t, idx (⟨8 * (t.val / 8) + s.val, Pipeline.run_point_lt_of_flush t ht s⟩ : Fin cfg0.N)]

theorem algebraic : Cert.algebraic_Kernel8Ideal_Reference8Ideal := fun m ρ m' ρ' hm ha =>
  ⟨prod m,
    (θ_run Kernel8Ideal.defs _ _).mono (fun r h c => ⟨(h c).1.trans (arr m c), (h c).2⟩) (Kernel8Ideal.Value.run_blocks (F := Ideal) m ρ),
    (θ_run Reference8Ideal.defs _ _).mono (fun r h c => ⟨(h c).1.trans (by
        rw [(ha c).1, (ha c).2]
        unfold prod argX argD
        funext j
        pointwise
        exact Finset.sum_congr rfl fun _ _ => mul_comm _ _), (h c).2⟩) (Reference8Ideal.Value.run (F := Ideal) m' ρ')⟩

/-- The two printed programs' bodies and pipelines are one. -/
theorem same_body : Cert.Kernel8.defs₀ (F := Bits) = Cert.Kernel8Ideal.defs₀ (F := Bits) := by
  unfold Cert.Kernel8.defs₀ Cert.Kernel8Ideal.defs₀
  refine congrArg Defs.onTc (funext fun ℓ => funext fun a => ?_)
  match ℓ, a with
  | ⟨0, _⟩, (t, s) => rfl
theorem same_loose : Cert.Kernel8.cfg0.loose = Cert.Kernel8Ideal.cfg0.loose := funext fun w => by fin_cases w <;> rfl
theorem same_cfg : Cert.Kernel8.cfg0 = Cert.Kernel8Ideal.cfg0 :=
  congrArg (fun l => ({ Cert.Kernel8Ideal.cfg0 with loose := l } : Pipeline.Cfg Cert.Kernel8Ideal.sig Cert.Kernel8Ideal.Λ₀)) same_loose

/-- The statement of the frame at a pipeline and a body table. -/
def FrameAt (m : (ℓ : Loc Kernel8.nD Kernel8.τ Kernel8.sig) → Buf (Elt Bits) ℓ) (ρ : Dev Kernel8.nD → PrngReg)
    (cfg : Pipeline.Cfg Kernel8.sig Kernel8.Λ₀) (d : Defs Kernel8.nD Kernel8.τ Kernel8.sig (Elt Bits) Kernel8.Λ₀) : Prop :=
  θ_run (Pipeline.defs (fun _ => cfg.toPCfg) d : Defs Kernel8.nD Kernel8.τ Kernel8.sig (Elt Bits)
      (Pipeline.Sig Kernel8.Λ₀ (Fin 1) fun p => (Kernel8.pcfgs (F := Bits) p).Adm))
    (onTc (τ := Kernel8.τ) (Kernel8.main (F := Bits))) ⟨m, fun _ => 0, ρ⟩ (fun r => (∀ c : Dev Kernel8.nD,
      r.2.mem ((c.tc : Thread Kernel8.nD Kernel8.τ).loc Kernel8.main_arg0) = m ((c.tc : Thread Kernel8.nD Kernel8.τ).loc Kernel8.main_arg0)
      ∧ r.2.mem ((c.tc : Thread Kernel8.nD Kernel8.τ).loc Kernel8.main_arg1) = m ((c.tc : Thread Kernel8.nD Kernel8.τ).loc Kernel8.main_arg1))
      ∧ r.2.sem = fun _ => 0)

/-- The frame over bit patterns is the idealized program's run, read at bit patterns. -/
theorem frame_kernel : Cert.quiescent_Kernel8 := fun m ρ _ =>
  (congrArg₂ (FrameAt m ρ) same_cfg same_body).mpr (Cert.Kernel8Ideal.Gen.frame (F := Bits) m ρ)

theorem frame_ideal : Cert.quiescent_Kernel8Ideal := fun m ρ _ => Cert.Kernel8Ideal.Gen.frame (F := Ideal) m ρ

theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

end Cert.Mm.ProjDw

end
-- ==== Proof.Mm.OutDx.lean ====
/- The gradient of an output projection's input: one product per block, against the derivative of the product. -/
module

public import proofs.«01_k».proof.Defs
public import proofs.«01_k».proof.Proof.Gen.Kernel9
public import proofs.«01_k».proof.Proof.Gen.Kernel9Ideal
public import proofs.«01_k».proof.Proof.Gen.Reference9Ideal
public import proofs.«01_k».proof.Proof.Gen.Kernel9Ideal.Value
public import proofs.«01_k».proof.Proof.Gen.Reference9Ideal.Run
public import Idealize.ShloMosaic.Lib.Pipeline.ValueKit
public import Idealize.ShloMosaic.Lib.Pointwise

@[expose] public section

set_option maxRecDepth 16384

noncomputable section

namespace Cert.Mm.OutDx

open Idealize.ShloMosaic Idealize.ShloMosaic.TcCoe Idealize.SL.Sem
open Cert.Kernel9Ideal Cert.Kernel9Ideal.Gen

variable (m : (ℓ : Loc nD τ sig) → Buf (Elt Ideal) ℓ)

/-- The cotangent and the weight, by entry. -/
def argD (c : Dev nD) (r : Fin 8192) (k : Fin 1024) : EReal := (m ((c : Thread nD τ).loc main_arg0) : FVec Ideal S8192x1024 .bf16) (ix2 r k)
def argW (c : Dev nD) (n : Fin 1024) (k : Fin 1024) : EReal := (m ((c : Thread nD τ).loc main_arg1) : FVec Ideal S1024x1024 .bf16) (ix2 n k)

/-- The cotangent times the transposed weight. -/
def prod (c : Dev nD) : FVec Ideal S8192x1024 .f32 := fun j => ∑ k, argD m c (j 0) k * argW m c (j 1) k

/-- The windows' blocks at a point. -/
theorem idx : ∀ t : Fin cfg0.N, win0_0.index t = ![t.val, 0] ∧ win0_1.index t = ![0, 0]
    ∧ win0_2.index t = ![t.val, 0] := (by decide +kernel : ∀ t : Fin grid0.N, _)

/-- One point's product, by entry. -/
theorem pay_at (a : FVec Ideal S2048x1024 .bf16) (b : FVec Ideal S1024x1024 .bf16) (i : Fin 2048) (n : Fin 1024) :
    (k0_pay1 (F := Ideal) a b (ix2 i n) : EReal) = ∑ k : Fin 1024, (a (ix2 i k) : EReal) * b (ix2 n k) := by
  unfold k0_pay1
  pointwise

/-- The result array after the launch. -/
theorem arr (c : Dev nD) : (dats m 0 c).arrAt 2 cfg0.N = prod m c := by
  refine (dats m 0 c).arrAt_eq_of_covers 2 _ (by decide +kernel) fun t hf y => ?_
  blk_simp
  rw [after0_2]
  frame_out
  rw [eq_ix2 y]
  refine (pay_at _ _ _ _).trans (Finset.sum_congr rfl fun k _ => ?_)
  unfold argD argW
  congr 1 <;> blk_ext [iblk, V, idx t]

theorem algebraic : Cert.algebraic_Kernel9Ideal_Reference9Ideal := fun m ρ m' ρ' hm ha =>
  ⟨prod m,
    (θ_run Kernel9Ideal.defs _ _).mono (fun r h c => ⟨(h c).1.trans (arr m c), (h c).2⟩) (Kernel9Ideal.Value.run_blocks (F := Ideal) m ρ),
    (θ_run Reference9Ideal.defs _ _).mono (fun r h c => ⟨(h c).1.trans (by
        rw [(ha c).1, (ha c).2]
        unfold prod argD argW
        funext j
        pointwise), (h c).2⟩) (Reference9Ideal.Value.run (F := Ideal) m' ρ')⟩

/-- The two printed programs' bodies and pipelines are one. -/
theorem same_body : Cert.Kernel9.defs₀ (F := Bits) = Cert.Kernel9Ideal.defs₀ (F := Bits) := by
  unfold Cert.Kernel9.defs₀ Cert.Kernel9Ideal.defs₀
  refine congrArg Defs.onTc (funext fun ℓ => funext fun a => ?_)
  match ℓ, a with
  | ⟨0, _⟩, (t, s) => rfl
theorem same_loose : Cert.Kernel9.cfg0.loose = Cert.Kernel9Ideal.cfg0.loose := funext fun w => by fin_cases w <;> rfl
theorem same_cfg : Cert.Kernel9.cfg0 = Cert.Kernel9Ideal.cfg0 :=
  congrArg (fun l => ({ Cert.Kernel9Ideal.cfg0 with loose := l } : Pipeline.Cfg Cert.Kernel9Ideal.sig Cert.Kernel9Ideal.Λ₀)) same_loose

/-- The statement of the frame at a pipeline and a body table. -/
def FrameAt (m : (ℓ : Loc Kernel9.nD Kernel9.τ Kernel9.sig) → Buf (Elt Bits) ℓ) (ρ : Dev Kernel9.nD → PrngReg)
    (cfg : Pipeline.Cfg Kernel9.sig Kernel9.Λ₀) (d : Defs Kernel9.nD Kernel9.τ Kernel9.sig (Elt Bits) Kernel9.Λ₀) : Prop :=
  θ_run (Pipeline.defs (fun _ => cfg.toPCfg) d : Defs Kernel9.nD Kernel9.τ Kernel9.sig (Elt Bits)
      (Pipeline.Sig Kernel9.Λ₀ (Fin 1) fun p => (Kernel9.pcfgs (F := Bits) p).Adm))
    (onTc (τ := Kernel9.τ) (Kernel9.main (F := Bits))) ⟨m, fun _ => 0, ρ⟩ (fun r => (∀ c : Dev Kernel9.nD,
      r.2.mem ((c.tc : Thread Kernel9.nD Kernel9.τ).loc Kernel9.main_arg0) = m ((c.tc : Thread Kernel9.nD Kernel9.τ).loc Kernel9.main_arg0)
      ∧ r.2.mem ((c.tc : Thread Kernel9.nD Kernel9.τ).loc Kernel9.main_arg1) = m ((c.tc : Thread Kernel9.nD Kernel9.τ).loc Kernel9.main_arg1))
      ∧ r.2.sem = fun _ => 0)

/-- The frame over bit patterns is the idealized program's run, read at bit patterns. -/
theorem frame_kernel : Cert.quiescent_Kernel9 := fun m ρ _ =>
  (congrArg₂ (FrameAt m ρ) same_cfg same_body).mpr (Cert.Kernel9Ideal.Gen.frame (F := Bits) m ρ)

theorem frame_ideal : Cert.quiescent_Kernel9Ideal := fun m ρ _ => Cert.Kernel9Ideal.Gen.frame (F := Ideal) m ρ

theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

end Cert.Mm.OutDx

end
-- ==== Proof.Mm.OutDw.lean ====
/- The gradient of an output projection: a product accumulated over the rows, against the derivative of the product. -/
module

public import proofs.«01_k».proof.Defs
public import proofs.«01_k».proof.Proof.Gen.Kernel10
public import proofs.«01_k».proof.Proof.Gen.Kernel10Ideal
public import proofs.«01_k».proof.Proof.Gen.Reference10Ideal
public import proofs.«01_k».proof.Proof.Gen.Kernel10Ideal.Value
public import proofs.«01_k».proof.Proof.Gen.Reference10Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Mm.OutDw

open Idealize.ShloMosaic Idealize.ShloMosaic.TcCoe Idealize.SL.Sem
open Cert.Kernel10Ideal Cert.Kernel10Ideal.Gen

variable (m : (ℓ : Loc nD τ sig) → Buf (Elt Ideal) ℓ)

/-- The product's saved input and the cotangent, by entry. -/
def argX (c : Dev nD) (r : Fin 8192) (i : Fin 1024) : EReal := (m ((c : Thread nD τ).loc main_arg0) : FVec Ideal S8192x1024 .bf16) (ix2 r i)
def argD (c : Dev nD) (r : Fin 8192) (n : Fin 1024) : EReal := (m ((c : Thread nD τ).loc main_arg1) : FVec Ideal S8192x1024 .bf16) (ix2 r n)

/-- The transposed input times the cotangent. -/
def prod (c : Dev nD) : FVec Ideal S1024x1024 .f32 := fun j => ∑ r, argX m c r (j 0) * argD m c r (j 1)

/-- The windows' blocks at a point. -/
theorem idx : ∀ t : Fin cfg0.N, win0_0.index t = ![t.val % 4, 0] ∧ win0_1.index t = ![t.val % 4, 0]
    ∧ win0_2.index t = ![0, 0] := (by decide +kernel : ∀ t : Fin grid0.N, _)

/-- One point's product, by entry. -/
theorem pay_at (a : FVec Ideal S2048x1024 .bf16) (b : FVec Ideal S2048x1024 .bf16) (i : Fin 1024) (n : Fin 1024) :
    (k0_pay1 (F := Ideal) a b (ix2 i n) : EReal) = ∑ k : Fin 2048, (a (ix2 k i) : EReal) * b (ix2 k n) := by
  unfold k0_pay1
  pointwise

theorem pay2_at (a : FVec Ideal S2048x1024 .bf16) (b : FVec Ideal S2048x1024 .bf16) (j : S1024x1024.Idx) :
    (k0_pay2 (F := Ideal) a b j : EReal) = (0 : EReal) + k0_pay1 (F := Ideal) a b j := by
  unfold k0_pay2
  rw [shapeCast_self, zero_add]

theorem pay3_at (a : FVec Ideal S2048x1024 .bf16) (b : FVec Ideal S2048x1024 .bf16) (v : FVec Ideal S1024x1024 .f32) (j : S1024x1024.Idx) :
    (k0_pay3 (F := Ideal) a b v j : EReal) = (v j : EReal) + k0_pay1 (F := Ideal) a b j := by
  unfold k0_pay3
  rw [shapeCast_self]
  rfl

/-- The scratch at the last point of a run: the sum of the run's four products. -/
theorem scratch (c : Dev nD) (t : Fin cfg0.N) (ht : t.val % 4 = 3) (j : S1024x1024.Idx) :
    ((outsAt0 m c t.val t.isLt).2 j : EReal) = 0 + ∑ s : Fin 4, (k0_pay1 (F := Ideal) (iblk m c 0 ⟨4 * (t.val / 4) + s.val, Pipeline.run_point_lt_of_flush t ht s⟩)
      (iblk m c 1 ⟨4 * (t.val / 4) + s.val, Pipeline.run_point_lt_of_flush t ht s⟩) j : EReal) := by
  refine Pipeline.eq_sum_fin_of_reset_step_apply_of_flush (M := EReal) (fun n h => (outsAt0 m c n h).2) 4 (fun _ => 0)
    (fun t j => (k0_pay1 (F := Ideal) (iblk m c 0 t) (iblk m c 1 t) j : EReal)) (fun t h i => ?_) (fun t h i => ?_) t ht j
  · have hN : t.val < 4 := lt_of_lt_of_eq t.isLt (show cfg0.N = 4 from N_0)
    rw [outsAt0_A m c t h (by omega) (by omega)]
    frame_out
    exact pay2_at _ _ _
  · by_cases h3 : t.val % 4 = 3
    · rw [outsAt0_C m c t h (by omega) h3]
      frame_out
      rw [read_unread_whole]
      exact pay3_at _ _ _ _
    · rw [outsAt0_B m c t h (by omega) h3]
      frame_out
      rw [read_unread_whole]
      exact pay3_at _ _ _ _

/-- The output block at the last point of a run is the scratch. -/
theorem out_block (c : Dev nD) (t : Fin cfg0.N) (ht : t.val % 4 = 3) (i : Fin 1024) (n : Fin 1024) :
    ((outsAt0 m c t.val t.isLt).1 (ix2 i n) : EReal) = (outsAt0 m c t.val t.isLt).2 (ix2 i n) := by
  rw [outsAt0_C m c t (by omega) (by omega) ht]
  frame_out

/-- The result array after the launch. -/
theorem arr (c : Dev nD) : (dats m 0 c).arrAt 2 cfg0.N = prod m c := by
  refine (dats m 0 c).arrAt_eq_of_covers 2 _ (by decide +kernel) fun t hf y => ?_
  have ht : t.val % 4 = 3 := (flush0_2 t).mp hf
  blk_simp
  rw [after0_2]
  rw [eq_ix2 y]
  refine (out_block m c t ht _ _).trans ((scratch m c t ht _).trans ?_)
  rw [zero_add]
  unfold prod
  refine (Finset.sum_congr rfl fun s _ => pay_at _ _ _ _).trans ?_
  refine Fin.sum_mul_add_congr fun s k hl => ?_
  unfold argX argD
  congr 1 <;> blk_ext [iblk, V, idx t, idx (⟨4 * (t.val / 4) + s.val, Pipeline.run_point_lt_of_flush t ht s⟩ : Fin cfg0.N)]

theorem algebraic : Cert.algebraic_Kernel10Ideal_Reference10Ideal := fun m ρ m' ρ' hm ha =>
  ⟨prod m,
    (θ_run Kernel10Ideal.defs _ _).mono (fun r h c => ⟨(h c).1.trans (arr m c), (h c).2⟩) (Kernel10Ideal.Value.run_blocks (F := Ideal) m ρ),
    (θ_run Reference10Ideal.defs _ _).mono (fun r h c => ⟨(h c).1.trans (by
        rw [(ha c).1, (ha c).2]
        unfold prod argX argD
        funext j
        pointwise
        exact Finset.sum_congr rfl fun _ _ => mul_comm _ _), (h c).2⟩) (Reference10Ideal.Value.run (F := Ideal) m' ρ')⟩

/-- The two printed programs' bodies and pipelines are one. -/
theorem same_body : Cert.Kernel10.defs₀ (F := Bits) = Cert.Kernel10Ideal.defs₀ (F := Bits) := by
  unfold Cert.Kernel10.defs₀ Cert.Kernel10Ideal.defs₀
  refine congrArg Defs.onTc (funext fun ℓ => funext fun a => ?_)
  match ℓ, a with
  | ⟨0, _⟩, (t, s) => rfl
theorem same_loose : Cert.Kernel10.cfg0.loose = Cert.Kernel10Ideal.cfg0.loose := funext fun w => by fin_cases w <;> rfl
theorem same_cfg : Cert.Kernel10.cfg0 = Cert.Kernel10Ideal.cfg0 :=
  congrArg (fun l => ({ Cert.Kernel10Ideal.cfg0 with loose := l } : Pipeline.Cfg Cert.Kernel10Ideal.sig Cert.Kernel10Ideal.Λ₀)) same_loose

/-- The statement of the frame at a pipeline and a body table. -/
def FrameAt (m : (ℓ : Loc Kernel10.nD Kernel10.τ Kernel10.sig) → Buf (Elt Bits) ℓ) (ρ : Dev Kernel10.nD → PrngReg)
    (cfg : Pipeline.Cfg Kernel10.sig Kernel10.Λ₀) (d : Defs Kernel10.nD Kernel10.τ Kernel10.sig (Elt Bits) Kernel10.Λ₀) : Prop :=
  θ_run (Pipeline.defs (fun _ => cfg.toPCfg) d : Defs Kernel10.nD Kernel10.τ Kernel10.sig (Elt Bits)
      (Pipeline.Sig Kernel10.Λ₀ (Fin 1) fun p => (Kernel10.pcfgs (F := Bits) p).Adm))
    (onTc (τ := Kernel10.τ) (Kernel10.main (F := Bits))) ⟨m, fun _ => 0, ρ⟩ (fun r => (∀ c : Dev Kernel10.nD,
      r.2.mem ((c.tc : Thread Kernel10.nD Kernel10.τ).loc Kernel10.main_arg0) = m ((c.tc : Thread Kernel10.nD Kernel10.τ).loc Kernel10.main_arg0)
      ∧ r.2.mem ((c.tc : Thread Kernel10.nD Kernel10.τ).loc Kernel10.main_arg1) = m ((c.tc : Thread Kernel10.nD Kernel10.τ).loc Kernel10.main_arg1))
      ∧ r.2.sem = fun _ => 0)

/-- The frame over bit patterns is the idealized program's run, read at bit patterns. -/
theorem frame_kernel : Cert.quiescent_Kernel10 := fun m ρ _ =>
  (congrArg₂ (FrameAt m ρ) same_cfg same_body).mpr (Cert.Kernel10Ideal.Gen.frame (F := Bits) m ρ)

theorem frame_ideal : Cert.quiescent_Kernel10Ideal := fun m ρ _ => Cert.Kernel10Ideal.Gen.frame (F := Ideal) m ρ

theorem frame_reference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

end Cert.Mm.OutDw

end
-- ==== Proof.Mm.AttnProj.lean ====
/- The attention's projection: one product and bias per block, against the whole product and bias. -/
module

public import proofs.«01_k».proof.Defs
public import proofs.«01_k».proof.Proof.Gen.Kernel11
public import proofs.«01_k».proof.Proof.Gen.Kernel11Ideal
public import proofs.«01_k».proof.Proof.Gen.Reference11Ideal
public import proofs.«01_k».proof.Proof.Gen.Kernel11Ideal.Value
public import proofs.«01_k».proof.Proof.Gen.Reference11Ideal.Run
public import Idealize.ShloMosaic.Lib.Pipeline.ValueKit
public import Idealize.ShloMosaic.Lib.Pointwise

@[expose] public section

set_option maxRecDepth 16384

noncomputable section

namespace Cert.Mm.AttnProj

open Idealize.ShloMosaic Idealize.ShloMosaic.TcCoe Idealize.SL.Sem
open Cert.Kernel11Ideal Cert.Kernel11Ideal.Gen

variable (m : (ℓ : Loc nD τ sig) → Buf (Elt Ideal) ℓ)

/-- The input, the weight and the bias, by entry. -/
def argA (c : Dev nD) (r : Fin 8192) (k : Fin 1024) : EReal := (m ((c : Thread nD τ).loc main_arg0) : FVec Ideal S8192x1024 .bf16) (ix2 r k)
def argW (c : Dev nD) (k : Fin 1024) (n : Fin 1280) : EReal := (m ((c : Thread nD τ).loc main_arg1) : FVec Ideal S1024x1280 .bf16) (ix2 k n)
def argB (c : Dev nD) (n : Fin 1280) : EReal := (m ((c : Thread nD τ).loc main_arg2) : FVec Ideal S1x1280 .f32) (ix2 0 n)

/-- The product and the bias. -/
def prod (c : Dev nD) : FVec Ideal S8192x1280 .f32 := fun j => (∑ k, argA m c (j 0) k * argW m c k (j 1)) + argB m c (j 1)

/-- The windows' blocks at a point. -/
theorem idx : ∀ t : Fin cfg0.N, win0_0.index t = ![t.val, 0] ∧ win0_1.index t = ![0, 0]
    ∧ win0_2.index t = ![0, 0] ∧ win0_3.index t = ![t.val, 0] := (by decide +kernel : ∀ t : Fin grid0.N, _)

/-- One point's product and bias, by entry. -/
theorem pay_at (a : FVec Ideal S2048x1024 .bf16) (b : FVec Ideal S1024x1280 .bf16) (s : FVec Ideal S1x1280 .f32) (i : Fin 2048) (n : Fin 1280) :
    (k0_pay1 (F := Ideal) a b s (ix2 i n) : EReal) = (∑ k : Fin 1024, (a (ix2 i k) : EReal) * b (ix2 k n)) + s (ix2 0 n) := by
  unfold k0_pay1
  pointwise

/-- The result array after the launch. -/
theorem arr (c : Dev nD) : (dats m 0 c).arrAt 3 cfg0.N = prod m c := by
  refine (dats m 0 c).arrAt_eq_of_covers 3 _ (by decide +kernel) fun t hf y => ?_
  blk_simp
  rw [after0_3]
  frame_out
  rw [eq_ix2 y]
  refine (pay_at _ _ _ _ _).trans (congrArg₂ (· + ·) (Finset.sum_congr rfl fun k _ => ?_) ?_)
  · unfold argA argW
    congr 1 <;> blk_ext [iblk, V, idx t]
  · unfold argB
    blk_ext [iblk, V, idx t]

theorem algebraic : Cert.algebraic_Kernel11Ideal_Reference11Ideal := fun m ρ m' ρ' hm ha =>
  ⟨prod m,
    (θ_run Kernel11Ideal.defs _ _).mono (fun r h c => ⟨(h c).1.trans (arr m c), (h c).2⟩) (Kernel11Ideal.Value.run_blocks (F := Ideal) m ρ),
    (θ_run Reference11Ideal.defs _ _).mono (fun r h c => ⟨(h c).1.trans (by
        rw [(ha c).1, (ha c).2.1, (ha c).2.2]
        unfold prod argA argW argB
        funext j
        pointwise), (h c).2⟩) (Reference11Ideal.Value.run (F := Ideal) m' ρ')⟩

/-- The two printed programs' bodies and pipelines are one. -/
theorem same_body : Cert.Kernel11.defs₀ (F := Bits) = Cert.Kernel11Ideal.defs₀ (F := Bits) := by
  unfold Cert.Kernel11.defs₀ Cert.Kernel11Ideal.defs₀
  refine congrArg Defs.onTc (funext fun ℓ => funext fun a => ?_)
  match ℓ, a with
  | ⟨0, _⟩, (t, s) => rfl
theorem same_loose : Cert.Kernel11.cfg0.loose = Cert.Kernel11Ideal.cfg0.loose := funext fun w => by fin_cases w <;> rfl
theorem same_cfg : Cert.Kernel11.cfg0 = Cert.Kernel11Ideal.cfg0 :=
  congrArg (fun l => ({ Cert.Kernel11Ideal.cfg0 with loose := l } : Pipeline.Cfg Cert.Kernel11Ideal.sig Cert.Kernel11Ideal.Λ₀)) same_loose

/-- The statement of the frame at a pipeline and a body table. -/
def FrameAt (m : (ℓ : Loc Kernel11.nD Kernel11.τ Kernel11.sig) → Buf (Elt Bits) ℓ) (ρ : Dev Kernel11.nD → PrngReg)
    (cfg : Pipeline.Cfg Kernel11.sig Kernel11.Λ₀) (d : Defs Kernel11.nD Kernel11.τ Kernel11.sig (Elt Bits) Kernel11.Λ₀) : Prop :=
  θ_run (Pipeline.defs (fun _ => cfg.toPCfg) d : Defs Kernel11.nD Kernel11.τ Kernel11.sig (Elt Bits)
      (Pipeline.Sig Kernel11.Λ₀ (Fin 1) fun p => (Kernel11.pcfgs (F := Bits) p).Adm))
    (onTc (τ := Kernel11.τ) (Kernel11.main (F := Bits))) ⟨m, fun _ => 0, ρ⟩ (fun r => (∀ c : Dev Kernel11.nD,
      r.2.mem ((c.tc : Thread Kernel11.nD Kernel11.τ).loc Kernel11.main_arg0) = m ((c.tc : Thread Kernel11.nD Kernel11.τ).loc Kernel11.main_arg0)
      ∧ r.2.mem ((c.tc : Thread Kernel11.nD Kernel11.τ).loc Kernel11.main_arg1) = m ((c.tc : Thread Kernel11.nD Kernel11.τ).loc Kernel11.main_arg1)
      ∧ r.2.mem ((c.tc : Thread Kernel11.nD Kernel11.τ).loc Kernel11.main_arg2) = m ((c.tc : Thread Kernel11.nD Kernel11.τ).loc Kernel11.main_arg2))
      ∧ r.2.sem = fun _ => 0)

/-- The frame over bit patterns is the idealized program's run, read at bit patterns. -/
theorem frame_kernel : Cert.quiescent_Kernel11 := fun m ρ _ =>
  (congrArg₂ (FrameAt m ρ) same_cfg same_body).mpr (Cert.Kernel11Ideal.Gen.frame (F := Bits) m ρ)

theorem frame_ideal : Cert.quiescent_Kernel11Ideal := fun m ρ _ => Cert.Kernel11Ideal.Gen.frame (F := Ideal) m ρ

theorem frame_reference : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

end Cert.Mm.AttnProj

end
-- ==== Proof.Mm.Rms.lean ====
/- The root-mean-square norm of one row, by entry, and the reference's norm of an array. -/
module

public import proofs.«01_k».proof.Defs
public import proofs.«01_k».proof.Proof.Gen.Reference12Ideal
public import proofs.«01_k».proof.Proof.Gen.Reference12Ideal
public import Idealize.ShloMosaic.Lib.Pointwise

@[expose] public section

noncomputable section

namespace Cert.Mm

open Idealize.ShloMosaic

/-- Entry `c` of a row of 1024 after the norm with weight `g`: the entry over the root of the mean square plus the constant. -/
def rms (z g : Fin 1024 → EReal) (c : Fin 1024) : EReal :=
  z c * Ideal.rsqrt (Ideal.div (∑ k, z k * z k) (Ideal.ofBits .f32 0x44800000#32) + Ideal.ofBits .f32 0x358637BD#32) * g c

open Cert.Reference12Ideal Cert.Reference12Ideal.Gen

/-- The reference's norm of every row of an array. -/
def refNorm (z : FVec Ideal S8192x1024 .f32) (g : FVec Ideal S1x1024 .f32) : FVec Ideal S8192x1024 .f32 :=
  mulf (mulf z (broadcastInDim S8192x1024 ![0, 1] bcast_S8192x1_S8192x1024_0_1 (Host.rsqrt (addf (Host.divf
    (broadcastInDim S8192x1 ![0] bcast_S8192_S8192x1_0 (Host.reduceAdd (mulf z z) (constant S_ .f32 0x00000000#32) reducesTo_S8192x1024_S8192_d1 h_S_))
    (broadcastInDim S8192x1 ![] bcast_S_S8192x1 (constant S_ .f32 0x44800000#32)))
    (broadcastInDim S8192x1 ![] bcast_S_S8192x1 (constant S_ .f32 0x358637BD#32))))))
    (broadcastInDim S8192x1024 ![0, 1] bcast_S1x1024_S8192x1024_0_1 (broadcastInDim S1x1024 ![1] bcast_S1024_S1x1024_1
      (shapeCast S1024 g shapeCasts_S1x1024_S1024)))

/-- It is the norm of the row, by entry. -/
theorem refNorm_at (z : FVec Ideal S8192x1024 .f32) (g : FVec Ideal S1x1024 .f32) (r : Fin 8192) (n : Fin 1024) :
    (refNorm z g (ix2 r n) : EReal) = rms (fun k => z (ix2 r k)) (fun k => g (ix2 0 k)) n := by
  unfold refNorm rms
  pointwise

end Cert.Mm

end
-- ==== Proof.Mm.FfnDown.lean ====
/- The down projection with the end of its sublayer: the product, the residual sum, and the next norm. -/
module

public import proofs.«01_k».proof.Defs
public import proofs.«01_k».proof.Proof.Gen.Kernel12
public import proofs.«01_k».proof.Proof.Gen.Kernel12Ideal
public import proofs.«01_k».proof.Proof.Gen.Reference12Ideal
public import proofs.«01_k».proof.Proof.Gen.Kernel12Ideal.Value
public import proofs.«01_k».proof.Proof.Gen.Reference12Ideal.Run
public import proofs.«01_k».proof.Proof.Mm.Rms
public import Idealize.ShloMosaic.Lib.Pipeline.ValueKit
public import Idealize.ShloMosaic.Lib.Pointwise

@[expose] public section

set_option maxRecDepth 16384

noncomputable section

namespace Cert.Mm.FfnDown

open Idealize.ShloMosaic Idealize.ShloMosaic.TcCoe Idealize.SL.Sem
open Cert.Kernel12Ideal Cert.Kernel12Ideal.Gen

variable (m : (ℓ : Loc nD τ sig) → Buf (Elt Ideal) ℓ)

/-- The input, the weight, the residual and the two norms' weights, by entry. -/
def argA (c : Dev nD) (r : Fin 8192) (k : Fin 2816) : EReal := (m ((c : Thread nD τ).loc main_arg0) : FVec Ideal S8192x2816 .bf16) (ix2 r k)
def argW (c : Dev nD) (k : Fin 2816) (n : Fin 1024) : EReal := (m ((c : Thread nD τ).loc main_arg1) : FVec Ideal S2816x1024 .bf16) (ix2 k n)
def argH (c : Dev nD) (r : Fin 8192) (n : Fin 1024) : EReal := (m ((c : Thread nD τ).loc main_arg2) : FVec Ideal S8192x1024 .f32) (ix2 r n)
def argG (c : Dev nD) (n : Fin 1024) : EReal := (m ((c : Thread nD τ).loc main_arg3) : FVec Ideal S1x1024 .f32) (ix2 0 n)
def argG' (c : Dev nD) (n : Fin 1024) : EReal := (m ((c : Thread nD τ).loc main_arg4) : FVec Ideal S1x1024 .f32) (ix2 0 n)

/-- The product's row, the residual sum's row, and the three results. -/
def zRow (c : Dev nD) (r : Fin 8192) (n : Fin 1024) : EReal := ∑ k, argA m c r k * argW m c k n
def hRow (c : Dev nD) (r : Fin 8192) (n : Fin 1024) : EReal := argH m c r n + rms (zRow m c r) (argG m c) n
def outZ (c : Dev nD) : FVec Ideal S8192x1024 .f32 := fun j => zRow m c (j 0) (j 1)
def outH (c : Dev nD) : FVec Ideal S8192x1024 .f32 := fun j => hRow m c (j 0) (j 1)
def outN (c : Dev nD) : FVec Ideal S8192x1024 .bf16 := fun j => rms (hRow m c (j 0)) (argG' m c) (j 1)

/-- The windows' blocks at a point. -/
theorem idx : ∀ t : Fin cfg0.N, win0_0.index t = ![t.val, 0] ∧ win0_1.index t = ![0, 0] ∧ win0_2.index t = ![t.val, 0]
    ∧ win0_3.index t = ![0, 0] ∧ win0_4.index t = ![0, 0]
    ∧ win0_5.index t = ![t.val, 0] ∧ win0_6.index t = ![t.val, 0] ∧ win0_7.index t = ![t.val, 0] := (by decide +kernel : ∀ t : Fin grid0.N, _)

section
variable (a : FVec Ideal S512x2816 .bf16) (b : FVec Ideal S2816x1024 .bf16) (h : FVec Ideal S512x1024 .f32)
  (g g' : FVec Ideal S1x1024 .f32) (i : Fin 512) (n : Fin 1024)

/-- One point's product, by entry. -/
theorem z_at : (k0_pay1 (F := Ideal) a b (ix2 i n) : EReal) = ∑ k : Fin 2816, (a (ix2 i k) : EReal) * b (ix2 k n) := by
  unfold k0_pay1
  pointwise

/-- One point's residual sum, by entry. -/
theorem h_at : (k0_pay2 (F := Ideal) a b h g (ix2 i n) : EReal)
    = (h (ix2 i n) : EReal) + rms (fun n => k0_pay1 (F := Ideal) a b (ix2 i n)) (fun n => g (ix2 0 n)) n := by
  unfold k0_pay2 rms
  generalize k0_pay1 (F := Ideal) a b = z
  pointwise

/-- One point's norm of the residual sum, by entry. -/
theorem n_at : (k0_pay3 (F := Ideal) a b h g g' (ix2 i n) : EReal)
    = rms (fun n => k0_pay2 (F := Ideal) a b h g (ix2 i n)) (fun n => g' (ix2 0 n)) n := by
  unfold k0_pay3 rms
  generalize k0_pay2 (F := Ideal) a b h g = z
  pointwise
end

section
variable (c : Dev nD) (t : Fin cfg0.N) (i : Fin 512) (n : Fin 1024) (r : Fin 8192) (hr : r.val = t.val * 512 + i.val)
include hr

/-- The blocks at a point, at the rows of the arrays that they are. -/
theorem zb : (k0_pay1 (F := Ideal) (iblk m c 0 t) (iblk m c 1 t) (ix2 i n) : EReal) = zRow m c r n := by
  refine (z_at _ _ _ _).trans (Finset.sum_congr rfl fun k _ => ?_)
  unfold argA argW
  congr 1 <;> blk_ext [iblk, V, idx t, hr]

theorem hb : (k0_pay2 (F := Ideal) (iblk m c 0 t) (iblk m c 1 t) (iblk m c 2 t) (iblk m c 3 t) (ix2 i n) : EReal) = hRow m c r n := by
  refine (h_at _ _ _ _ _ _).trans (congrArg₂ (· + ·) ?_ (congrArg₂ (fun z g => rms z g n) (funext fun k => zb m c t i k r hr) (funext fun k => ?_)))
  · unfold argH
    blk_ext [iblk, V, idx t, hr]
  · unfold argG
    blk_ext [iblk, V, idx t, hr]

theorem nb : (k0_pay3 (F := Ideal) (iblk m c 0 t) (iblk m c 1 t) (iblk m c 2 t) (iblk m c 3 t) (iblk m c 4 t) (ix2 i n) : EReal)
    = rms (hRow m c r) (argG' m c) n := by
  refine (n_at _ _ _ _ _ _ _).trans (congrArg₂ (fun z g => rms z g n) (funext fun k => hb m c t i k r hr) (funext fun k => ?_))
  unfold argG'
  blk_ext [iblk, V, idx t, hr]
end

/-- The row of the arrays that a point's block has at its row `i`. -/
def rowOf (t : Fin cfg0.N) (i : Fin 512) : Fin 8192 :=
  ⟨t.val * 512 + i.val, by have h1 := t.isLt; have h2 := i.isLt; have h3 : t.val < 16 := lt_of_lt_of_eq h1 (show cfg0.N = 16 from N_0); omega⟩

/-- The product's array after the launch. -/
theorem arrZ (c : Dev nD) : (dats m 0 c).arrAt 5 cfg0.N = outZ m c := by
  refine (dats m 0 c).arrAt_eq_of_covers 5 _ (by decide +kernel) fun t hf y => ?_
  blk_simp
  rw [after0_5]
  frame_out
  rw [eq_ix2 y]
  refine (zb m c t (y 0) (y 1) (rowOf t (y 0)) rfl).trans ?_
  show outZ m c (ix2 (rowOf t (y 0)) (y 1)) = _
  refine congrArg (outZ m c) (funext fun a => Fin.ext ?_)
  fin_cases a <;> simp [idx t, rowOf]

/-- The residual sum's array after the launch. -/
theorem arrH (c : Dev nD) : (dats m 0 c).arrAt 6 cfg0.N = outH m c := by
  refine (dats m 0 c).arrAt_eq_of_covers 6 _ (by decide +kernel) fun t hf y => ?_
  blk_simp
  rw [after0_6]
  frame_out
  rw [eq_ix2 y]
  refine (hb m c t (y 0) (y 1) (rowOf t (y 0)) rfl).trans ?_
  show outH m c (ix2 (rowOf t (y 0)) (y 1)) = _
  refine congrArg (outH m c) (funext fun a => Fin.ext ?_)
  fin_cases a <;> simp [idx t, rowOf]

/-- The norm's array after the launch. -/
theorem arrN (c : Dev nD) : (dats m 0 c).arrAt 7 cfg0.N = outN m c := by
  refine (dats m 0 c).arrAt_eq_of_covers 7 _ (by decide +kernel) fun t hf y => ?_
  blk_simp
  rw [after0_7]
  frame_out
  rw [eq_ix2 y]
  refine (nb m c t (y 0) (y 1) (rowOf t (y 0)) rfl).trans ?_
  show outN m c (ix2 (rowOf t (y 0)) (y 1)) = _
  refine congrArg (outN m c) (funext fun a => Fin.ext ?_)
  fin_cases a <;> simp [idx t, rowOf]

/-- The reference's product. -/
def refZ (a : FVec Ideal S8192x2816 .bf16) (w : FVec Ideal S2816x1024 .bf16) : FVec Ideal S8192x1024 .f32 :=
  Host.dotGeneral Cert.Reference12Ideal.dot_S8192x2816_S2816x1024_S8192x1024_1_0_0_1_n_n none
    (extf (F := Ideal) (φ := .bf16) .f32 a bitsLt_bf16_f32) (extf (F := Ideal) (φ := .bf16) .f32 w bitsLt_bf16_f32)

theorem refZ_at (a : FVec Ideal S8192x2816 .bf16) (w : FVec Ideal S2816x1024 .bf16) (r : Fin 8192) (n : Fin 1024) :
    (refZ a w (ix2 r n) : EReal) = ∑ k : Fin 2816, (a (ix2 r k) : EReal) * w (ix2 k n) := by
  unfold refZ
  pointwise

section
variable (c : Dev nD)

/-- The reference's three results, over the kernel's arguments. -/
def rZ : FVec Ideal S8192x1024 .f32 := refZ (m ((c : Thread nD τ).loc main_arg0)) (m ((c : Thread nD τ).loc main_arg1))
def rH : FVec Ideal S8192x1024 .f32 := addf (F := Ideal) (φ := .f32) (m ((c : Thread nD τ).loc main_arg2)) (refNorm (rZ m c) (m ((c : Thread nD τ).loc main_arg3)))
def rN : FVec Ideal S8192x1024 .bf16 :=
  truncf (F := Ideal) (φ := .f32) .bf16 (refNorm (rH m c) (m ((c : Thread nD τ).loc main_arg4))) bitsLt_bf16_f32

theorem rZ_eq : rZ m c = outZ m c := by
  funext j
  rw [eq_ix2 j]
  exact refZ_at _ _ _ _

theorem rH_eq : rH m c = outH m c := by
  funext j
  rw [eq_ix2 j]
  exact congrArg (argH m c (j 0) (j 1) + ·) ((refNorm_at _ _ _ _).trans (by rw [rZ_eq]; rfl))

theorem rN_eq : rN m c = outN m c := by
  funext j
  rw [eq_ix2 j]
  exact (refNorm_at _ _ _ _).trans (by rw [rH_eq]; rfl)
end

theorem algebraic : Cert.algebraic_Kernel12Ideal_Reference12Ideal := fun m ρ m' ρ' hm ha =>
  ⟨outZ m, outH m, outN m,
    (θ_run Kernel12Ideal.defs _ _).mono (fun r h c => ⟨(h c).1.trans (arrZ m c), (h c).2.1.trans (arrH m c), (h c).2.2.1.trans (arrN m c), (h c).2.2.2⟩)
      (Kernel12Ideal.Value.run_blocks (F := Ideal) m ρ),
    (θ_run Reference12Ideal.defs _ _).mono (fun r h c => ⟨(h c).1.trans (by
        rw [(ha c).1, (ha c).2.1]
        exact rZ_eq m c), (h c).2.1.trans (by
        rw [(ha c).1, (ha c).2.1, (ha c).2.2.1, (ha c).2.2.2.1]
        exact rH_eq m c), (h c).2.2.1.trans (by
        unfold Cert.Reference12Ideal.Value.res_main_v32
        rw [(ha c).1, (ha c).2.1, (ha c).2.2.1, (ha c).2.2.2.1, (ha c).2.2.2.2]
        exact rN_eq m c), (h c).2.2.2⟩) (Reference12Ideal.Value.run (F := Ideal) m' ρ')⟩

/-- The two printed programs' bodies and pipelines are one. -/
theorem same_body : Cert.Kernel12.defs₀ (F := Bits) = Cert.Kernel12Ideal.defs₀ (F := Bits) := by
  unfold Cert.Kernel12.defs₀ Cert.Kernel12Ideal.defs₀
  refine congrArg Defs.onTc (funext fun ℓ => funext fun a => ?_)
  match ℓ, a with
  | ⟨0, _⟩, (t, s) => rfl
theorem same_loose : Cert.Kernel12.cfg0.loose = Cert.Kernel12Ideal.cfg0.loose := funext fun w => by fin_cases w <;> rfl
theorem same_cfg : Cert.Kernel12.cfg0 = Cert.Kernel12Ideal.cfg0 :=
  congrArg (fun l => ({ Cert.Kernel12Ideal.cfg0 with loose := l } : Pipeline.Cfg Cert.Kernel12Ideal.sig Cert.Kernel12Ideal.Λ₀)) same_loose

/-- The statement of the frame at a pipeline and a body table. -/
def FrameAt (m : (ℓ : Loc Kernel12.nD Kernel12.τ Kernel12.sig) → Buf (Elt Bits) ℓ) (ρ : Dev Kernel12.nD → PrngReg)
    (cfg : Pipeline.Cfg Kernel12.sig Kernel12.Λ₀) (d : Defs Kernel12.nD Kernel12.τ Kernel12.sig (Elt Bits) Kernel12.Λ₀) : Prop :=
  θ_run (Pipeline.defs (fun _ => cfg.toPCfg) d : Defs Kernel12.nD Kernel12.τ Kernel12.sig (Elt Bits)
      (Pipeline.Sig Kernel12.Λ₀ (Fin 1) fun p => (Kernel12.pcfgs (F := Bits) p).Adm))
    (onTc (τ := Kernel12.τ) (Kernel12.main (F := Bits))) ⟨m, fun _ => 0, ρ⟩ (fun r => (∀ c : Dev Kernel12.nD,
      r.2.mem ((c.tc : Thread Kernel12.nD Kernel12.τ).loc Kernel12.main_arg0) = m ((c.tc : Thread Kernel12.nD Kernel12.τ).loc Kernel12.main_arg0)
      ∧ r.2.mem ((c.tc : Thread Kernel12.nD Kernel12.τ).loc Kernel12.main_arg1) = m ((c.tc : Thread Kernel12.nD Kernel12.τ).loc Kernel12.main_arg1)
      ∧ r.2.mem ((c.tc : Thread Kernel12.nD Kernel12.τ).loc Kernel12.main_arg2) = m ((c.tc : Thread Kernel12.nD Kernel12.τ).loc Kernel12.main_arg2)
      ∧ r.2.mem ((c.tc : Thread Kernel12.nD Kernel12.τ).loc Kernel12.main_arg3) = m ((c.tc : Thread Kernel12.nD Kernel12.τ).loc Kernel12.main_arg3)
      ∧ r.2.mem ((c.tc : Thread Kernel12.nD Kernel12.τ).loc Kernel12.main_arg4) = m ((c.tc : Thread Kernel12.nD Kernel12.τ).loc Kernel12.main_arg4))
      ∧ r.2.sem = fun _ => 0)

/-- The frame over bit patterns is the idealized program's run, read at bit patterns. -/
theorem frame_kernel : Cert.quiescent_Kernel12 := fun m ρ _ =>
  (congrArg₂ (FrameAt m ρ) same_cfg same_body).mpr (Cert.Kernel12Ideal.Gen.frame (F := Bits) m ρ)

theorem frame_ideal : Cert.quiescent_Kernel12Ideal := fun m ρ _ => Cert.Kernel12Ideal.Gen.frame (F := Ideal) m ρ

theorem frame_reference : Cert.quiescent_Reference12Ideal := fun m ρ _ =>
  (θ_run Cert.Reference12Ideal.defs _ _).mono (fun r h => ⟨fun c => (h c).2.2.2, sem_eq_zero_of_no_sems (by decide) r.2⟩)
    (Cert.Reference12Ideal.Value.run (F := Ideal) m ρ)

end Cert.Mm.FfnDown

end
-- ==== Proof.Mm.MlstmOut.lean ====
/- The mLSTM's output projection with the end of its sublayer: the product, the residual sum, and the next norm. -/
module

public import proofs.«01_k».proof.Defs
public import proofs.«01_k».proof.Proof.Gen.Kernel13
public import proofs.«01_k».proof.Proof.Gen.Kernel13Ideal
public import proofs.«01_k».proof.Proof.Gen.Reference13Ideal
public import proofs.«01_k».proof.Proof.Gen.Kernel13Ideal.Value
public import proofs.«01_k».proof.Proof.Gen.Reference13Ideal.Run
public import proofs.«01_k».proof.Proof.Mm.Rms
public import Idealize.ShloMosaic.Lib.Pipeline.ValueKit
public import Idealize.ShloMosaic.Lib.Pointwise

@[expose] public section

set_option maxRecDepth 16384

noncomputable section

namespace Cert.Mm.MlstmOut

open Idealize.ShloMosaic Idealize.ShloMosaic.TcCoe Idealize.SL.Sem
open Cert.Kernel13Ideal Cert.Kernel13Ideal.Gen

variable (m : (ℓ : Loc nD τ sig) → Buf (Elt Ideal) ℓ)

/-- The input, the weight, the residual and the two norms' weights, by entry. -/
def argA (c : Dev nD) (r : Fin 8192) (k : Fin 1024) : EReal := (m ((c : Thread nD τ).loc main_arg0) : FVec Ideal S8192x1024 .bf16) (ix2 r k)
def argW (c : Dev nD) (k : Fin 1024) (n : Fin 1024) : EReal := (m ((c : Thread nD τ).loc main_arg1) : FVec Ideal S1024x1024 .bf16) (ix2 k n)
def argH (c : Dev nD) (r : Fin 8192) (n : Fin 1024) : EReal := (m ((c : Thread nD τ).loc main_arg2) : FVec Ideal S8192x1024 .f32) (ix2 r n)
def argG (c : Dev nD) (n : Fin 1024) : EReal := (m ((c : Thread nD τ).loc main_arg3) : FVec Ideal S1x1024 .f32) (ix2 0 n)
def argG' (c : Dev nD) (n : Fin 1024) : EReal := (m ((c : Thread nD τ).loc main_arg4) : FVec Ideal S1x1024 .f32) (ix2 0 n)

/-- The product's row, the residual sum's row, and the three results. -/
def zRow (c : Dev nD) (r : Fin 8192) (n : Fin 1024) : EReal := ∑ k, argA m c r k * argW m c k n
def hRow (c : Dev nD) (r : Fin 8192) (n : Fin 1024) : EReal := argH m c r n + rms (zRow m c r) (argG m c) n
def outZ (c : Dev nD) : FVec Ideal S8192x1024 .f32 := fun j => zRow m c (j 0) (j 1)
def outH (c : Dev nD) : FVec Ideal S8192x1024 .f32 := fun j => hRow m c (j 0) (j 1)
def outN (c : Dev nD) : FVec Ideal S8192x1024 .bf16 := fun j => rms (hRow m c (j 0)) (argG' m c) (j 1)

/-- The windows' blocks at a point. -/
theorem idx : ∀ t : Fin cfg0.N, win0_0.index t = ![t.val, 0] ∧ win0_1.index t = ![0, 0] ∧ win0_2.index t = ![t.val, 0]
    ∧ win0_3.index t = ![0, 0] ∧ win0_4.index t = ![0, 0]
    ∧ win0_5.index t = ![t.val, 0] ∧ win0_6.index t = ![t.val, 0] ∧ win0_7.index t = ![t.val, 0] := (by decide +kernel : ∀ t : Fin grid0.N, _)

section
variable (a : FVec Ideal S1024x1024 .bf16) (b : FVec Ideal S1024x1024 .bf16) (h : FVec Ideal S1024x1024 .f32)
  (g g' : FVec Ideal S1x1024 .f32) (i : Fin 1024) (n : Fin 1024)

/-- One point's product, by entry. -/
theorem z_at : (k0_pay1 (F := Ideal) a b (ix2 i n) : EReal) = ∑ k : Fin 1024, (a (ix2 i k) : EReal) * b (ix2 k n) := by
  unfold k0_pay1
  pointwise

/-- One point's residual sum, by entry. -/
theorem h_at : (k0_pay2 (F := Ideal) a b h g (ix2 i n) : EReal)
    = (h (ix2 i n) : EReal) + rms (fun n => k0_pay1 (F := Ideal) a b (ix2 i n)) (fun n => g (ix2 0 n)) n := by
  unfold k0_pay2 rms
  generalize k0_pay1 (F := Ideal) a b = z
  pointwise

/-- One point's norm of the residual sum, by entry. -/
theorem n_at : (k0_pay3 (F := Ideal) a b h g g' (ix2 i n) : EReal)
    = rms (fun n => k0_pay2 (F := Ideal) a b h g (ix2 i n)) (fun n => g' (ix2 0 n)) n := by
  unfold k0_pay3 rms
  generalize k0_pay2 (F := Ideal) a b h g = z
  pointwise
end

section
variable (c : Dev nD) (t : Fin cfg0.N) (i : Fin 1024) (n : Fin 1024) (r : Fin 8192) (hr : r.val = t.val * 1024 + i.val)
include hr

/-- The blocks at a point, at the rows of the arrays that they are. -/
theorem zb : (k0_pay1 (F := Ideal) (iblk m c 0 t) (iblk m c 1 t) (ix2 i n) : EReal) = zRow m c r n := by
  refine (z_at _ _ _ _).trans (Finset.sum_congr rfl fun k _ => ?_)
  unfold argA argW
  congr 1 <;> blk_ext [iblk, V, idx t, hr]

theorem hb : (k0_pay2 (F := Ideal) (iblk m c 0 t) (iblk m c 1 t) (iblk m c 2 t) (iblk m c 3 t) (ix2 i n) : EReal) = hRow m c r n := by
  refine (h_at _ _ _ _ _ _).trans (congrArg₂ (· + ·) ?_ (congrArg₂ (fun z g => rms z g n) (funext fun k => zb m c t i k r hr) (funext fun k => ?_)))
  · unfold argH
    blk_ext [iblk, V, idx t, hr]
  · unfold argG
    blk_ext [iblk, V, idx t, hr]

theorem nb : (k0_pay3 (F := Ideal) (iblk m c 0 t) (iblk m c 1 t) (iblk m c 2 t) (iblk m c 3 t) (iblk m c 4 t) (ix2 i n) : EReal)
    = rms (hRow m c r) (argG' m c) n := by
  refine (n_at _ _ _ _ _ _ _).trans (congrArg₂ (fun z g => rms z g n) (funext fun k => hb m c t i k r hr) (funext fun k => ?_))
  unfold argG'
  blk_ext [iblk, V, idx t, hr]
end

/-- The row of the arrays that a point's block has at its row `i`. -/
def rowOf (t : Fin cfg0.N) (i : Fin 1024) : Fin 8192 :=
  ⟨t.val * 1024 + i.val, by have h1 := t.isLt; have h2 := i.isLt; have h3 : t.val < 8 := lt_of_lt_of_eq h1 (show cfg0.N = 8 from N_0); omega⟩

/-- The product's array after the launch. -/
theorem arrZ (c : Dev nD) : (dats m 0 c).arrAt 5 cfg0.N = outZ m c := by
  refine (dats m 0 c).arrAt_eq_of_covers 5 _ (by decide +kernel) fun t hf y => ?_
  blk_simp
  rw [after0_5]
  frame_out
  rw [eq_ix2 y]
  refine (zb m c t (y 0) (y 1) (rowOf t (y 0)) rfl).trans ?_
  show outZ m c (ix2 (rowOf t (y 0)) (y 1)) = _
  refine congrArg (outZ m c) (funext fun a => Fin.ext ?_)
  fin_cases a <;> simp [idx t, rowOf]

/-- The residual sum's array after the launch. -/
theorem arrH (c : Dev nD) : (dats m 0 c).arrAt 6 cfg0.N = outH m c := by
  refine (dats m 0 c).arrAt_eq_of_covers 6 _ (by decide +kernel) fun t hf y => ?_
  blk_simp
  rw [after0_6]
  frame_out
  rw [eq_ix2 y]
  refine (hb m c t (y 0) (y 1) (rowOf t (y 0)) rfl).trans ?_
  show outH m c (ix2 (rowOf t (y 0)) (y 1)) = _
  refine congrArg (outH m c) (funext fun a => Fin.ext ?_)
  fin_cases a <;> simp [idx t, rowOf]

/-- The norm's array after the launch. -/
theorem arrN (c : Dev nD) : (dats m 0 c).arrAt 7 cfg0.N = outN m c := by
  refine (dats m 0 c).arrAt_eq_of_covers 7 _ (by decide +kernel) fun t hf y => ?_
  blk_simp
  rw [after0_7]
  frame_out
  rw [eq_ix2 y]
  refine (nb m c t (y 0) (y 1) (rowOf t (y 0)) rfl).trans ?_
  show outN m c (ix2 (rowOf t (y 0)) (y 1)) = _
  refine congrArg (outN m c) (funext fun a => Fin.ext ?_)
  fin_cases a <;> simp [idx t, rowOf]

/-- The reference's product. -/
def refZ (a : FVec Ideal S8192x1024 .bf16) (w : FVec Ideal S1024x1024 .bf16) : FVec Ideal S8192x1024 .f32 :=
  Host.dotGeneral Cert.Reference13Ideal.dot_S8192x1024_S1024x1024_S8192x1024_1_0_0_1_n_n none
    (extf (F := Ideal) (φ := .bf16) .f32 a bitsLt_bf16_f32) (extf (F := Ideal) (φ := .bf16) .f32 w bitsLt_bf16_f32)

theorem refZ_at (a : FVec Ideal S8192x1024 .bf16) (w : FVec Ideal S1024x1024 .bf16) (r : Fin 8192) (n : Fin 1024) :
    (refZ a w (ix2 r n) : EReal) = ∑ k : Fin 1024, (a (ix2 r k) : EReal) * w (ix2 k n) := by
  unfold refZ
  pointwise

section
variable (c : Dev nD)

/-- The reference's three results, over the kernel's arguments. -/
def rZ : FVec Ideal S8192x1024 .f32 := refZ (m ((c : Thread nD τ).loc main_arg0)) (m ((c : Thread nD τ).loc main_arg1))
def rH : FVec Ideal S8192x1024 .f32 := addf (F := Ideal) (φ := .f32) (m ((c : Thread nD τ).loc main_arg2)) (refNorm (rZ m c) (m ((c : Thread nD τ).loc main_arg3)))
def rN : FVec Ideal S8192x1024 .bf16 :=
  truncf (F := Ideal) (φ := .f32) .bf16 (refNorm (rH m c) (m ((c : Thread nD τ).loc main_arg4))) bitsLt_bf16_f32

theorem rZ_eq : rZ m c = outZ m c := by
  funext j
  rw [eq_ix2 j]
  exact refZ_at _ _ _ _

theorem rH_eq : rH m c = outH m c := by
  funext j
  rw [eq_ix2 j]
  exact congrArg (argH m c (j 0) (j 1) + ·) ((refNorm_at _ _ _ _).trans (by rw [rZ_eq]; rfl))

theorem rN_eq : rN m c = outN m c := by
  funext j
  rw [eq_ix2 j]
  exact (refNorm_at _ _ _ _).trans (by rw [rH_eq]; rfl)
end

theorem algebraic : Cert.algebraic_Kernel13Ideal_Reference13Ideal := fun m ρ m' ρ' hm ha =>
  ⟨outZ m, outH m, outN m,
    (θ_run Kernel13Ideal.defs _ _).mono (fun r h c => ⟨(h c).1.trans (arrZ m c), (h c).2.1.trans (arrH m c), (h c).2.2.1.trans (arrN m c), (h c).2.2.2⟩)
      (Kernel13Ideal.Value.run_blocks (F := Ideal) m ρ),
    (θ_run Reference13Ideal.defs _ _).mono (fun r h c => ⟨(h c).1.trans (by
        rw [(ha c).1, (ha c).2.1]
        exact rZ_eq m c), (h c).2.1.trans (by
        rw [(ha c).1, (ha c).2.1, (ha c).2.2.1, (ha c).2.2.2.1]
        exact rH_eq m c), (h c).2.2.1.trans (by
        unfold Cert.Reference13Ideal.Value.res_main_v32
        rw [(ha c).1, (ha c).2.1, (ha c).2.2.1, (ha c).2.2.2.1, (ha c).2.2.2.2]
        exact rN_eq m c), (h c).2.2.2⟩) (Reference13Ideal.Value.run (F := Ideal) m' ρ')⟩

/-- The two printed programs' bodies and pipelines are one. -/
theorem same_body : Cert.Kernel13.defs₀ (F := Bits) = Cert.Kernel13Ideal.defs₀ (F := Bits) := by
  unfold Cert.Kernel13.defs₀ Cert.Kernel13Ideal.defs₀
  refine congrArg Defs.onTc (funext fun ℓ => funext fun a => ?_)
  match ℓ, a with
  | ⟨0, _⟩, (t, s) => rfl
theorem same_loose : Cert.Kernel13.cfg0.loose = Cert.Kernel13Ideal.cfg0.loose := funext fun w => by fin_cases w <;> rfl
theorem same_cfg : Cert.Kernel13.cfg0 = Cert.Kernel13Ideal.cfg0 :=
  congrArg (fun l => ({ Cert.Kernel13Ideal.cfg0 with loose := l } : Pipeline.Cfg Cert.Kernel13Ideal.sig Cert.Kernel13Ideal.Λ₀)) same_loose

/-- The statement of the frame at a pipeline and a body table. -/
def FrameAt (m : (ℓ : Loc Kernel13.nD Kernel13.τ Kernel13.sig) → Buf (Elt Bits) ℓ) (ρ : Dev Kernel13.nD → PrngReg)
    (cfg : Pipeline.Cfg Kernel13.sig Kernel13.Λ₀) (d : Defs Kernel13.nD Kernel13.τ Kernel13.sig (Elt Bits) Kernel13.Λ₀) : Prop :=
  θ_run (Pipeline.defs (fun _ => cfg.toPCfg) d : Defs Kernel13.nD Kernel13.τ Kernel13.sig (Elt Bits)
      (Pipeline.Sig Kernel13.Λ₀ (Fin 1) fun p => (Kernel13.pcfgs (F := Bits) p).Adm))
    (onTc (τ := Kernel13.τ) (Kernel13.main (F := Bits))) ⟨m, fun _ => 0, ρ⟩ (fun r => (∀ c : Dev Kernel13.nD,
      r.2.mem ((c.tc : Thread Kernel13.nD Kernel13.τ).loc Kernel13.main_arg0) = m ((c.tc : Thread Kernel13.nD Kernel13.τ).loc Kernel13.main_arg0)
      ∧ r.2.mem ((c.tc : Thread Kernel13.nD Kernel13.τ).loc Kernel13.main_arg1) = m ((c.tc : Thread Kernel13.nD Kernel13.τ).loc Kernel13.main_arg1)
      ∧ r.2.mem ((c.tc : Thread Kernel13.nD Kernel13.τ).loc Kernel13.main_arg2) = m ((c.tc : Thread Kernel13.nD Kernel13.τ).loc Kernel13.main_arg2)
      ∧ r.2.mem ((c.tc : Thread Kernel13.nD Kernel13.τ).loc Kernel13.main_arg3) = m ((c.tc : Thread Kernel13.nD Kernel13.τ).loc Kernel13.main_arg3)
      ∧ r.2.mem ((c.tc : Thread Kernel13.nD Kernel13.τ).loc Kernel13.main_arg4) = m ((c.tc : Thread Kernel13.nD Kernel13.τ).loc Kernel13.main_arg4))
      ∧ r.2.sem = fun _ => 0)

/-- The frame over bit patterns is the idealized program's run, read at bit patterns. -/
theorem frame_kernel : Cert.quiescent_Kernel13 := fun m ρ _ =>
  (congrArg₂ (FrameAt m ρ) same_cfg same_body).mpr (Cert.Kernel13Ideal.Gen.frame (F := Bits) m ρ)

theorem frame_ideal : Cert.quiescent_Kernel13Ideal := fun m ρ _ => Cert.Kernel13Ideal.Gen.frame (F := Ideal) m ρ

theorem frame_reference : Cert.quiescent_Reference13Ideal := fun m ρ _ =>
  (θ_run Cert.Reference13Ideal.defs _ _).mono (fun r h => ⟨fun c => (h c).2.2.2, sem_eq_zero_of_no_sems (by decide) r.2⟩)
    (Cert.Reference13Ideal.Value.run (F := Ideal) m ρ)

end Cert.Mm.MlstmOut

end
-- ==== Proof.Mm.AttnOut.lean ====
/- The attention's output projection with the end of its sublayer: the product with its bias, the residual sum, and the next norm. -/
module

public import proofs.«01_k».proof.Defs
public import proofs.«01_k».proof.Proof.Gen.Kernel14
public import proofs.«01_k».proof.Proof.Gen.Kernel14Ideal
public import proofs.«01_k».proof.Proof.Gen.Reference14Ideal
public import proofs.«01_k».proof.Proof.Gen.Kernel14Ideal.Value
public import proofs.«01_k».proof.Proof.Gen.Reference14Ideal.Run
public import proofs.«01_k».proof.Proof.Mm.Rms
public import Idealize.ShloMosaic.Lib.Pipeline.ValueKit
public import Idealize.ShloMosaic.Lib.Pointwise

@[expose] public section

set_option maxRecDepth 16384

noncomputable section

namespace Cert.Mm.AttnOut

open Idealize.ShloMosaic Idealize.ShloMosaic.TcCoe Idealize.SL.Sem
open Cert.Kernel14Ideal Cert.Kernel14Ideal.Gen

variable (m : (ℓ : Loc nD τ sig) → Buf (Elt Ideal) ℓ)

/-- The input, the weight, the bias, the residual and the two norms' weights, by entry. -/
def argA (c : Dev nD) (r : Fin 8192) (k : Fin 1024) : EReal := (m ((c : Thread nD τ).loc main_arg0) : FVec Ideal S8192x1024 .bf16) (ix2 r k)
def argW (c : Dev nD) (k : Fin 1024) (n : Fin 1024) : EReal := (m ((c : Thread nD τ).loc main_arg1) : FVec Ideal S1024x1024 .bf16) (ix2 k n)
def argB (c : Dev nD) (n : Fin 1024) : EReal := (m ((c : Thread nD τ).loc main_arg2) : FVec Ideal S1x1024 .f32) (ix2 0 n)
def argH (c : Dev nD) (r : Fin 8192) (n : Fin 1024) : EReal := (m ((c : Thread nD τ).loc main_arg3) : FVec Ideal S8192x1024 .f32) (ix2 r n)
def argG (c : Dev nD) (n : Fin 1024) : EReal := (m ((c : Thread nD τ).loc main_arg4) : FVec Ideal S1x1024 .f32) (ix2 0 n)
def argG' (c : Dev nD) (n : Fin 1024) : EReal := (m ((c : Thread nD τ).loc main_arg5) : FVec Ideal S1x1024 .f32) (ix2 0 n)

/-- The product's row, the residual sum's row, and the three results. -/
def zRow (c : Dev nD) (r : Fin 8192) (n : Fin 1024) : EReal := (∑ k, argA m c r k * argW m c k n) + argB m c n
def hRow (c : Dev nD) (r : Fin 8192) (n : Fin 1024) : EReal := argH m c r n + rms (zRow m c r) (argG m c) n
def outZ (c : Dev nD) : FVec Ideal S8192x1024 .f32 := fun j => zRow m c (j 0) (j 1)
def outH (c : Dev nD) : FVec Ideal S8192x1024 .f32 := fun j => hRow m c (j 0) (j 1)
def outN (c : Dev nD) : FVec Ideal S8192x1024 .bf16 := fun j => rms (hRow m c (j 0)) (argG' m c) (j 1)

/-- The windows' blocks at a point. -/
theorem idx : ∀ t : Fin cfg0.N, win0_0.index t = ![t.val, 0] ∧ win0_1.index t = ![0, 0] ∧ win0_2.index t = ![0, 0]
    ∧ win0_3.index t = ![t.val, 0] ∧ win0_4.index t = ![0, 0] ∧ win0_5.index t = ![0, 0]
    ∧ win0_6.index t = ![t.val, 0] ∧ win0_7.index t = ![t.val, 0] ∧ win0_8.index t = ![t.val, 0] := (by decide +kernel : ∀ t : Fin grid0.N, _)

section
variable (a : FVec Ideal S1024x1024 .bf16) (b : FVec Ideal S1024x1024 .bf16) (s : FVec Ideal S1x1024 .f32) (h : FVec Ideal S1024x1024 .f32)
  (g g' : FVec Ideal S1x1024 .f32) (i : Fin 1024) (n : Fin 1024)

/-- One point's product and bias, by entry. -/
theorem z_at : (k0_pay2 (F := Ideal) a b s (ix2 i n) : EReal) = (∑ k : Fin 1024, (a (ix2 i k) : EReal) * b (ix2 k n)) + s (ix2 0 n) := by
  unfold k0_pay2
  pointwise

/-- One point's residual sum, by entry. -/
theorem h_at : (k0_pay3 (F := Ideal) a b s h g (ix2 i n) : EReal)
    = (h (ix2 i n) : EReal) + rms (fun n => k0_pay2 (F := Ideal) a b s (ix2 i n)) (fun n => g (ix2 0 n)) n := by
  unfold k0_pay3 rms
  generalize k0_pay2 (F := Ideal) a b s = z
  pointwise

/-- One point's norm of the residual sum, by entry. -/
theorem n_at : (k0_pay1 (F := Ideal) (k0_pay4 (F := Ideal) a b s h g g') (ix2 i n) : EReal)
    = rms (fun n => k0_pay3 (F := Ideal) a b s h g (ix2 i n)) (fun n => g' (ix2 0 n)) n := by
  unfold k0_pay1 k0_pay4 rms
  generalize k0_pay3 (F := Ideal) a b s h g = z
  pointwise
end

section
variable (c : Dev nD) (t : Fin cfg0.N) (i : Fin 1024) (n : Fin 1024) (r : Fin 8192) (hr : r.val = t.val * 1024 + i.val)
include hr

/-- The blocks at a point, at the rows of the arrays that they are. -/
theorem zb : (k0_pay2 (F := Ideal) (iblk m c 0 t) (iblk m c 1 t) (iblk m c 2 t) (ix2 i n) : EReal) = zRow m c r n := by
  refine (z_at _ _ _ _ _).trans (congrArg₂ (· + ·) (Finset.sum_congr rfl fun k _ => ?_) ?_)
  · unfold argA argW
    congr 1 <;> blk_ext [iblk, V, idx t, hr]
  · unfold argB
    blk_ext [iblk, V, idx t, hr]

theorem hb : (k0_pay3 (F := Ideal) (iblk m c 0 t) (iblk m c 1 t) (iblk m c 2 t) (iblk m c 3 t) (iblk m c 4 t) (ix2 i n) : EReal) = hRow m c r n := by
  refine (h_at _ _ _ _ _ _ _).trans (congrArg₂ (· + ·) ?_ (congrArg₂ (fun z g => rms z g n) (funext fun k => zb m c t i k r hr) (funext fun k => ?_)))
  · unfold argH
    blk_ext [iblk, V, idx t, hr]
  · unfold argG
    blk_ext [iblk, V, idx t, hr]

theorem nb : (k0_pay1 (F := Ideal) (k0_pay4 (F := Ideal) (iblk m c 0 t) (iblk m c 1 t) (iblk m c 2 t) (iblk m c 3 t) (iblk m c 4 t) (iblk m c 5 t)) (ix2 i n) : EReal)
    = rms (hRow m c r) (argG' m c) n := by
  refine (n_at _ _ _ _ _ _ _ _).trans (congrArg₂ (fun z g => rms z g n) (funext fun k => hb m c t i k r hr) (funext fun k => ?_))
  unfold argG'
  blk_ext [iblk, V, idx t, hr]
end

/-- The row of the arrays that a point's block has at its row `i`. -/
def rowOf (t : Fin cfg0.N) (i : Fin 1024) : Fin 8192 :=
  ⟨t.val * 1024 + i.val, by have h1 := t.isLt; have h2 := i.isLt; have h3 : t.val < 8 := lt_of_lt_of_eq h1 (show cfg0.N = 8 from N_0); omega⟩

/-- The product's array after the launch. -/
theorem arrZ (c : Dev nD) : (dats m 0 c).arrAt 6 cfg0.N = outZ m c := by
  refine (dats m 0 c).arrAt_eq_of_covers 6 _ (by decide +kernel) fun t hf y => ?_
  blk_simp
  rw [after0_6]
  frame_out
  rw [eq_ix2 y]
  refine (zb m c t (y 0) (y 1) (rowOf t (y 0)) rfl).trans ?_
  show outZ m c (ix2 (rowOf t (y 0)) (y 1)) = _
  refine congrArg (outZ m c) (funext fun a => Fin.ext ?_)
  fin_cases a <;> simp [idx t, rowOf]

/-- The residual sum's array after the launch. -/
theorem arrH (c : Dev nD) : (dats m 0 c).arrAt 7 cfg0.N = outH m c := by
  refine (dats m 0 c).arrAt_eq_of_covers 7 _ (by decide +kernel) fun t hf y => ?_
  blk_simp
  rw [after0_7]
  frame_out
  rw [eq_ix2 y]
  refine (hb m c t (y 0) (y 1) (rowOf t (y 0)) rfl).trans ?_
  show outH m c (ix2 (rowOf t (y 0)) (y 1)) = _
  refine congrArg (outH m c) (funext fun a => Fin.ext ?_)
  fin_cases a <;> simp [idx t, rowOf]

/-- The norm's array after the launch. -/
theorem arrN (c : Dev nD) : (dats m 0 c).arrAt 8 cfg0.N = outN m c := by
  refine (dats m 0 c).arrAt_eq_of_covers 8 _ (by decide +kernel) fun t hf y => ?_
  blk_simp
  rw [after0_8]
  frame_out
  rw [eq_ix2 y]
  refine (nb m c t (y 0) (y 1) (rowOf t (y 0)) rfl).trans ?_
  show outN m c (ix2 (rowOf t (y 0)) (y 1)) = _
  refine congrArg (outN m c) (funext fun a => Fin.ext ?_)
  fin_cases a <;> simp [idx t, rowOf]

/-- The reference's product and bias. -/
def refZ (a : FVec Ideal S8192x1024 .bf16) (w : FVec Ideal S1024x1024 .bf16) (s : FVec Ideal S1x1024 .f32) : FVec Ideal S8192x1024 .f32 :=
  addf (F := Ideal) (φ := .f32) (Host.dotGeneral Cert.Reference14Ideal.dot_S8192x1024_S1024x1024_S8192x1024_1_0_0_1_n_n none
    (extf (F := Ideal) (φ := .bf16) .f32 a bitsLt_bf16_f32) (extf (F := Ideal) (φ := .bf16) .f32 w bitsLt_bf16_f32))
    (broadcastInDim S8192x1024 ![0, 1] Cert.Reference14Ideal.Facts₀.bcast_S1x1024_S8192x1024_0_1 (broadcastInDim S1x1024 ![1] Cert.Reference14Ideal.Facts₀.bcast_S1024_S1x1024_1
      (shapeCast Cert.Reference14Ideal.S1024 s Cert.Reference14Ideal.Facts₀.shapeCasts_S1x1024_S1024)))

theorem refZ_at (a : FVec Ideal S8192x1024 .bf16) (w : FVec Ideal S1024x1024 .bf16) (s : FVec Ideal S1x1024 .f32) (r : Fin 8192) (n : Fin 1024) :
    (refZ a w s (ix2 r n) : EReal) = (∑ k : Fin 1024, (a (ix2 r k) : EReal) * w (ix2 k n)) + s (ix2 0 n) := by
  unfold refZ
  pointwise

section
variable (c : Dev nD)

/-- The reference's three results, over the kernel's arguments. -/
def rZ : FVec Ideal S8192x1024 .f32 := refZ (m ((c : Thread nD τ).loc main_arg0)) (m ((c : Thread nD τ).loc main_arg1)) (m ((c : Thread nD τ).loc main_arg2))
def rH : FVec Ideal S8192x1024 .f32 := addf (F := Ideal) (φ := .f32) (m ((c : Thread nD τ).loc main_arg3)) (refNorm (rZ m c) (m ((c : Thread nD τ).loc main_arg4)))
def rN : FVec Ideal S8192x1024 .bf16 :=
  truncf (F := Ideal) (φ := .f32) .bf16 (refNorm (rH m c) (m ((c : Thread nD τ).loc main_arg5))) bitsLt_bf16_f32

theorem rZ_eq : rZ m c = outZ m c := by
  funext j
  rw [eq_ix2 j]
  exact refZ_at _ _ _ _ _

theorem rH_eq : rH m c = outH m c := by
  funext j
  rw [eq_ix2 j]
  exact congrArg (argH m c (j 0) (j 1) + ·) ((refNorm_at _ _ _ _).trans (by rw [rZ_eq]; rfl))

theorem rN_eq : rN m c = outN m c := by
  funext j
  rw [eq_ix2 j]
  exact (refNorm_at _ _ _ _).trans (by rw [rH_eq]; rfl)
end

theorem algebraic : Cert.algebraic_Kernel14Ideal_Reference14Ideal := fun m ρ m' ρ' hm ha =>
  ⟨outZ m, outH m, outN m,
    (θ_run Kernel14Ideal.defs _ _).mono (fun r h c => ⟨(h c).1.trans (arrZ m c), (h c).2.1.trans (arrH m c), (h c).2.2.1.trans (arrN m c), (h c).2.2.2⟩)
      (Kernel14Ideal.Value.run_blocks (F := Ideal) m ρ),
    (θ_run Reference14Ideal.defs _ _).mono (fun r h c => ⟨(h c).1.trans (by
        rw [(ha c).1, (ha c).2.1, (ha c).2.2.1]
        exact rZ_eq m c), (h c).2.1.trans (by
        rw [(ha c).1, (ha c).2.1, (ha c).2.2.1, (ha c).2.2.2.1, (ha c).2.2.2.2.1]
        exact rH_eq m c), (h c).2.2.1.trans (by
        unfold Cert.Reference14Ideal.Value.res_main_v36
        rw [(ha c).1, (ha c).2.1, (ha c).2.2.1, (ha c).2.2.2.1, (ha c).2.2.2.2.1, (ha c).2.2.2.2.2]
        exact rN_eq m c), (h c).2.2.2⟩) (Reference14Ideal.Value.run (F := Ideal) m' ρ')⟩

/-- The two printed programs' bodies and pipelines are one. -/
theorem same_body : Cert.Kernel14.defs₀ (F := Bits) = Cert.Kernel14Ideal.defs₀ (F := Bits) := by
  unfold Cert.Kernel14.defs₀ Cert.Kernel14Ideal.defs₀
  refine congrArg Defs.onTc (funext fun ℓ => funext fun a => ?_)
  match ℓ, a with
  | ⟨0, _⟩, (t, s) => rfl
theorem same_loose : Cert.Kernel14.cfg0.loose = Cert.Kernel14Ideal.cfg0.loose := funext fun w => by fin_cases w <;> rfl
theorem same_cfg : Cert.Kernel14.cfg0 = Cert.Kernel14Ideal.cfg0 :=
  congrArg (fun l => ({ Cert.Kernel14Ideal.cfg0 with loose := l } : Pipeline.Cfg Cert.Kernel14Ideal.sig Cert.Kernel14Ideal.Λ₀)) same_loose

/-- The statement of the frame at a pipeline and a body table. -/
def FrameAt (m : (ℓ : Loc Kernel14.nD Kernel14.τ Kernel14.sig) → Buf (Elt Bits) ℓ) (ρ : Dev Kernel14.nD → PrngReg)
    (cfg : Pipeline.Cfg Kernel14.sig Kernel14.Λ₀) (d : Defs Kernel14.nD Kernel14.τ Kernel14.sig (Elt Bits) Kernel14.Λ₀) : Prop :=
  θ_run (Pipeline.defs (fun _ => cfg.toPCfg) d : Defs Kernel14.nD Kernel14.τ Kernel14.sig (Elt Bits)
      (Pipeline.Sig Kernel14.Λ₀ (Fin 1) fun p => (Kernel14.pcfgs (F := Bits) p).Adm))
    (onTc (τ := Kernel14.τ) (Kernel14.main (F := Bits))) ⟨m, fun _ => 0, ρ⟩ (fun r => (∀ c : Dev Kernel14.nD,
      r.2.mem ((c.tc : Thread Kernel14.nD Kernel14.τ).loc Kernel14.main_arg0) = m ((c.tc : Thread Kernel14.nD Kernel14.τ).loc Kernel14.main_arg0)
      ∧ r.2.mem ((c.tc : Thread Kernel14.nD Kernel14.τ).loc Kernel14.main_arg1) = m ((c.tc : Thread Kernel14.nD Kernel14.τ).loc Kernel14.main_arg1)
      ∧ r.2.mem ((c.tc : Thread Kernel14.nD Kernel14.τ).loc Kernel14.main_arg2) = m ((c.tc : Thread Kernel14.nD Kernel14.τ).loc Kernel14.main_arg2)
      ∧ r.2.mem ((c.tc : Thread Kernel14.nD Kernel14.τ).loc Kernel14.main_arg3) = m ((c.tc : Thread Kernel14.nD Kernel14.τ).loc Kernel14.main_arg3)
      ∧ r.2.mem ((c.tc : Thread Kernel14.nD Kernel14.τ).loc Kernel14.main_arg4) = m ((c.tc : Thread Kernel14.nD Kernel14.τ).loc Kernel14.main_arg4)
      ∧ r.2.mem ((c.tc : Thread Kernel14.nD Kernel14.τ).loc Kernel14.main_arg5) = m ((c.tc : Thread Kernel14.nD Kernel14.τ).loc Kernel14.main_arg5))
      ∧ r.2.sem = fun _ => 0)

/-- The frame over bit patterns is the idealized program's run, read at bit patterns. -/
theorem frame_kernel : Cert.quiescent_Kernel14 := fun m ρ _ =>
  (congrArg₂ (FrameAt m ρ) same_cfg same_body).mpr (Cert.Kernel14Ideal.Gen.frame (F := Bits) m ρ)

theorem frame_ideal : Cert.quiescent_Kernel14Ideal := fun m ρ _ => Cert.Kernel14Ideal.Gen.frame (F := Ideal) m ρ

theorem frame_reference : Cert.quiescent_Reference14Ideal := fun m ρ _ =>
  (θ_run Cert.Reference14Ideal.defs _ _).mono (fun r h => ⟨fun c => (h c).2.2.2, sem_eq_zero_of_no_sems (by decide) r.2⟩)
    (Cert.Reference14Ideal.Value.run (F := Ideal) m ρ)

end Cert.Mm.AttnOut

end
-- ==== Proof.Attn.Row.lean ====
/- One row of the attention with a sink, over the extended reals: the softmax, the gradient as the kernel takes it and the
   gradient as the reference's derivative takes it, and that the two agree where the scores, the sink and the gradient of
   the weights are finite (a masked score is minus infinity). -/
module

public import Idealize.ShloMosaic.PureOps.Ideal.Laws
public import Mathlib.Tactic.FieldSimp
public import Mathlib.Tactic.Ring
public import Mathlib.Tactic.Positivity

@[expose] public section

noncomputable section

namespace Cert.Row

open Idealize.ShloMosaic

section Forms

variable (s : Fin 256 → EReal) (z : EReal) (d : Fin 256 → EReal)

/-- The row's largest score, the sink counted. -/
def top : EReal := max (Finset.univ.fold max ⊥ s) z
/-- The unnormalised weights, the sink's, their sum and its inverse. -/
def ex (u : Fin 256) : EReal := Ideal.exp (s u - top s z)
def exz : EReal := Ideal.exp (z - top s z)
def den : EReal := ∑ u, ex s z u + exz s z
def inv : EReal := Ideal.div 1 (den s z)
/-- The weights, and the mean of the weights' gradient under them. -/
def pr (u : Fin 256) : EReal := ex s z u * inv s z
def mean : EReal := ∑ u, d u * pr s z u
/-- The gradient of the scores and of the sink, as the kernel takes them. -/
def grad (u : Fin 256) : EReal := pr s z u * (d u - mean s z d)
def gradz : EReal := (0 - exz s z * inv s z) * mean s z d

/-- The same as the reference's derivative takes them: through the quotient, then through the largest score. -/
def quot (u : Fin 256) : EReal := Ideal.div (ex s z u) (den s z)
def back : EReal := -(∑ u, d u * Ideal.div 1 (den s z * den s z) * ex s z u)
def qgrad (u : Fin 256) : EReal := (Ideal.div (d u) (den s z) + back s z d) * ex s z u
def qgradz : EReal := back s z d * exz s z
/-- What the derivative sends to the largest score. -/
def rest : EReal := -(back s z d * exz s z) + ∑ u, -(qgrad s z d u)
/-- How many scores equal the largest one. -/
def count : EReal := ∑ u, (((BitVec.ofBool (decide (s u = Finset.univ.fold max ⊥ s))).toNat : ℝ) : EReal)

end Forms

/-- An extended real that is a real, and one that is a real or minus infinity. -/
def Fin' (x : EReal) : Prop := ∃ r : ℝ, x = r
def Low (x : EReal) : Prop := x = ⊥ ∨ Fin' x

theorem coe_sum {ι : Type} (t : Finset ι) (f : ι → ℝ) : ((∑ i ∈ t, f i : ℝ) : EReal) = ∑ i ∈ t, (f i : EReal) := by
  classical
  induction t using Finset.induction_on with
  | empty => simp
  | insert a t h ih => rw [Finset.sum_insert h, Finset.sum_insert h, EReal.coe_add, ih]

theorem fin_sum {ι : Type} (t : Finset ι) (f : ι → EReal) (h : ∀ i, Fin' (f i)) : Fin' (∑ i ∈ t, f i) := by
  choose g hg using h
  exact ⟨∑ i ∈ t, g i, by rw [coe_sum]; exact Finset.sum_congr rfl fun i _ => hg i⟩

theorem fin_mul {x y : EReal} (hx : Fin' x) (hy : Fin' y) : Fin' (x * y) := by
  obtain ⟨a, rfl⟩ := hx; obtain ⟨b, rfl⟩ := hy; exact ⟨a * b, (EReal.coe_mul a b).symm⟩

theorem fin_zero : Fin' 0 := ⟨0, rfl⟩

theorem div_real (x : ℝ) {y : ℝ} (hy : 0 < y) : Ideal.div (x : EReal) (y : EReal) = ((x / y : ℝ) : EReal) := by
  rw [Ideal.div_coe hy.ne', ← EReal.coe_mul, mul_one_div]

theorem low_max {x y : EReal} (hx : Low x) (hy : Low y) : Low (max x y) := by
  rcases le_total x y with h | h
  · rwa [max_eq_right h]
  · rwa [max_eq_left h]

theorem low_fold (s : Fin 256 → EReal) (h : ∀ u, Low (s u)) (t : Finset (Fin 256)) : Low (t.fold max ⊥ s) := by
  induction t using Finset.induction_on with
  | empty => exact .inl rfl
  | insert a t ha ih => rw [Finset.fold_insert ha]; exact low_max (h a) ih

theorem top_real (s : Fin 256 → EReal) (z : EReal) (hs : ∀ u, Low (s u)) (hz : Fin' z) : Fin' (top s z) := by
  obtain ⟨r, rfl⟩ := hz
  rcases low_fold s hs Finset.univ with h | ⟨q, h⟩
  · exact ⟨r, by rw [top, h]; exact max_eq_right bot_le⟩
  · exact ⟨max q r, by rw [top, h]; exact (EReal.coe_strictMono.monotone.map_max).symm⟩

/-- The weights before the quotient are reals that are not negative, and the sink's is positive. -/
theorem ex_real (s : Fin 256 → EReal) (z : EReal) (hs : ∀ u, Low (s u)) (hz : Fin' z) :
    ∃ (a : Fin 256 → ℝ) (b : ℝ), (∀ u, 0 ≤ a u) ∧ 0 < b ∧ (∀ u, ex s z u = (a u : EReal)) ∧ exz s z = (b : EReal) := by
  obtain ⟨M, hM⟩ := top_real s z hs hz
  have key : ∀ u, ∃ r : ℝ, 0 ≤ r ∧ ex s z u = (r : EReal) := fun u => by
    rcases hs u with h | ⟨q, h⟩
    · exact ⟨0, le_refl _, by rw [ex, h, hM, EReal.bot_sub]; rfl⟩
    · exact ⟨Real.exp (q - M), (Real.exp_pos _).le, by rw [ex, h, hM, ← EReal.coe_sub]; rfl⟩
  choose a ha hae using key
  obtain ⟨r, hr⟩ := hz
  exact ⟨a, Real.exp (r - M), ha, Real.exp_pos _, hae, by rw [exz, hM, hr, ← EReal.coe_sub]; rfl⟩

/-- A masked score carries no weight. -/
theorem ex_bot (s : Fin 256 → EReal) (z : EReal) (hs : ∀ u, Low (s u)) (hz : Fin' z) (u : Fin 256) (h : s u = ⊥) : ex s z u = 0 := by
  rw [ex, h, EReal.bot_sub]; rfl

section Agree

variable (s : Fin 256 → EReal) (z : EReal) (d : Fin 256 → EReal) (hs : ∀ u, Low (s u)) (hz : Fin' z) (hd : ∀ u, Fin' (d u))

include hs hz in
theorem quot_eq (u : Fin 256) : quot s z u = pr s z u := by
  obtain ⟨a, b, ha, hb, hae, hbe⟩ := ex_real s z hs hz
  have hL : den s z = ((∑ u, a u + b : ℝ) : EReal) := by
    rw [den, hbe, EReal.coe_add, coe_sum]; exact congrArg (· + _) (Finset.sum_congr rfl fun u _ => hae u)
  have hp : 0 < ∑ u, a u + b := by have := Finset.sum_nonneg fun u (_ : u ∈ Finset.univ) => ha u; linarith
  rw [quot, pr, inv, hL, hae u, div_real _ hp, ← EReal.coe_one, div_real _ hp, ← EReal.coe_mul, mul_one_div]

include hs hz hd in
theorem agree : (∀ u, qgrad s z d u = grad s z d u) ∧ qgradz s z d = gradz s z d ∧ rest s z d = 0 := by
  obtain ⟨a, b, ha, hb, hae, hbe⟩ := ex_real s z hs hz
  choose e he using hd
  have hp : 0 < ∑ u, a u + b := by have := Finset.sum_nonneg fun u (_ : u ∈ Finset.univ) => ha u; linarith
  generalize hLr : ∑ u, a u + b = L at hp
  have hL : den s z = (L : EReal) := by
    rw [den, hbe, ← hLr, EReal.coe_add, coe_sum]; exact congrArg (· + _) (Finset.sum_congr rfl fun u _ => hae u)
  have hi : inv s z = ((1 / L : ℝ) : EReal) := by rw [inv, hL, ← EReal.coe_one, div_real _ hp]
  have hm : mean s z d = ((∑ u, e u * (a u * (1 / L)) : ℝ) : EReal) := by
    rw [mean, coe_sum]
    refine Finset.sum_congr rfl fun u _ => ?_
    rw [pr, he u, hae u, hi, ← EReal.coe_mul, ← EReal.coe_mul]
  have hw : back s z d = ((-(∑ u, e u * (1 / (L * L)) * a u) : ℝ) : EReal) := by
    rw [back, EReal.coe_neg, coe_sum]
    refine congrArg Neg.neg (Finset.sum_congr rfl fun u _ => ?_)
    rw [he u, hae u, hL, ← EReal.coe_mul, ← EReal.coe_one, div_real _ (mul_pos hp hp), ← EReal.coe_mul, ← EReal.coe_mul]
  set T : ℝ := ∑ u, e u * a u with hT
  have hm' : ∑ u, e u * (a u * (1 / L)) = T / L := by
    rw [hT, Finset.sum_div]; exact Finset.sum_congr rfl fun u _ => by ring
  have hw' : ∑ u, e u * (1 / (L * L)) * a u = T / (L * L) := by
    rw [hT, Finset.sum_div]; exact Finset.sum_congr rfl fun u _ => by ring
  rw [hm'] at hm
  rw [hw'] at hw
  have hq : ∀ u, qgrad s z d u = (((e u / L + -(T / (L * L))) * a u : ℝ) : EReal) := fun u => by
    rw [qgrad, he u, hL, div_real _ hp, hw, hae u, ← EReal.coe_add, ← EReal.coe_mul]
  refine ⟨fun u => ?_, ?_, ?_⟩
  · rw [hq u, grad, pr, hm, he u, hae u, hi, ← EReal.coe_mul, ← EReal.coe_sub, ← EReal.coe_mul]
    congr 1; field_simp; ring
  · rw [qgradz, gradz, hw, hbe, hi, hm, ← EReal.coe_zero, ← EReal.coe_mul, ← EReal.coe_mul, ← EReal.coe_sub, ← EReal.coe_mul]
    congr 1; field_simp; ring
  · have hsum : ∑ u, -(qgrad s z d u) = ((-(T / L + -(T / (L * L)) * (L - b)) : ℝ) : EReal) := by
      have : -(T / L + -(T / (L * L)) * (L - b)) = ∑ u, -((e u / L + -(T / (L * L))) * a u) := by
        rw [Finset.sum_neg_distrib]
        refine congrArg Neg.neg ?_
        rw [← hLr, hT]
        simp only [add_mul, Finset.sum_add_distrib, ← Finset.mul_sum, add_sub_cancel_right, Finset.sum_div]
        refine congrArg₂ (· + ·) (Finset.sum_congr rfl fun u _ => by ring) rfl
      rw [this, coe_sum]
      exact Finset.sum_congr rfl fun u _ => by rw [hq u, EReal.coe_neg]
    rw [rest, hsum, hw, hbe, ← EReal.coe_mul, ← EReal.coe_neg, ← EReal.coe_add, ← EReal.coe_zero]
    congr 1; field_simp; ring

end Agree

/-- At least one score is the largest one. -/
theorem count_ne_zero (s : Fin 256 → EReal) : count s ≠ 0 := by
  have hmem : ∃ u, s u = Finset.univ.fold max ⊥ s := by
    have h : Finset.univ.fold max ⊥ s = Finset.univ.sup s := rfl
    obtain ⟨u, -, hu⟩ := Finset.exists_mem_eq_sup (Finset.univ : Finset (Fin 256)) ⟨0, Finset.mem_univ _⟩ s
    exact ⟨u, by rw [h, hu]⟩
  obtain ⟨u, hu⟩ := hmem
  rw [count, ← coe_sum, ← EReal.coe_zero, Ne, EReal.coe_eq_coe_iff]
  refine (Finset.sum_pos' (fun i _ => Nat.cast_nonneg _) ⟨u, Finset.mem_univ _, ?_⟩).ne'
  rw [decide_eq_true hu]; simp

theorem div_zero_of_ne {x : EReal} (h : x ≠ 0) : Ideal.div 0 x = 0 := by
  rw [Ideal.div, if_neg h, zero_mul]

section Congr

variable (s : Fin 256 → EReal) (z : EReal) (d d' : Fin 256 → EReal) (hs : ∀ u, Low (s u)) (hz : Fin' z)
variable (hd : ∀ u, s u ≠ ⊥ → d u = d' u)

include hs hz in
theorem pr_bot (u : Fin 256) (h : s u = ⊥) : pr s z u = 0 := by rw [pr, ex_bot s z hs hz u h, zero_mul]

include hs hz hd in
/-- The gradient does not depend on the weights' gradient at a masked score. -/
theorem mean_congr : mean s z d = mean s z d' := Finset.sum_congr rfl fun u _ => by
  by_cases h : s u = ⊥
  · rw [pr_bot s z hs hz u h, mul_zero, mul_zero]
  · rw [hd u h]

include hs hz hd in
theorem grad_congr (u : Fin 256) : grad s z d u = grad s z d' u := by
  rw [grad, grad, mean_congr s z d d' hs hz hd]
  by_cases h : s u = ⊥
  · rw [pr_bot s z hs hz u h, zero_mul, zero_mul]
  · rw [hd u h]

include hs hz in
theorem grad_bot (u : Fin 256) (h : s u = ⊥) : grad s z d u = 0 := by rw [grad, pr_bot s z hs hz u h, zero_mul]

end Congr

end Cert.Row

end
-- ==== Proof.Attn.Spec.lean ====
/- The gradient of the attention as plain sums over the three arguments' entries, one number at a time. -/
module

public import proofs.«01_k».proof.Proof.Attn.Row
public import Idealize.ShloMosaic.Lib.Pointwise
public import Idealize.ShloMosaic.Lib.IdealHost

@[expose] public section

noncomputable section

namespace Cert.Spec

open Idealize.ShloMosaic

/-- The scale of the queries, the word of one eighth. -/
def c8 : EReal := Ideal.ofBits .f32 0x3E000000#32

/-- The word of minus infinity is the bottom of the extended reals. -/
theorem bot_word : Ideal.ofBits .f32 0xFF800000#32 = (⊥ : EReal) := by
  unfold Ideal.ofBits Ideal.ieee
  simp

/-- The mask: key `u` of the two blocks is at most 127 behind query `i`, not after it, and the first block has no block before it. -/
def keep (n : Fin 64) (i : Fin 128) (u : Fin 256) : Prop :=
  i.val < u.val ∧ u.val ≤ i.val + 128 ∧ (n.val = 0 → 128 ≤ u.val)

instance (n : Fin 64) (i : Fin 128) (u : Fin 256) : Decidable (keep n i u) := by unfold keep; infer_instance

section

variable (X : Fin 8192 → Fin 1280 → EReal) (Z : Fin 2 → Fin 8 → EReal) (O : Fin 8192 → Fin 1024 → EReal)

/-- The row of query `i` of block `n`, and the column of lane `d` of head `(h, g)`. -/
def row (n : Fin 64) (i : Fin 128) : Fin 8192 := ⟨n.val * 128 + i.val, by omega⟩
def col (h : Fin 2) (g : Fin 8) (d : Fin 64) : Fin 1024 := ⟨h.val * 512 + g.val * 64 + d.val, by omega⟩

/-- The row of key `u` of the pair of blocks `n - 1` and `n` (row `u` where there is no block before). -/
def krow (n : Fin 64) (u : Fin 256) : Fin 8192 :=
  if u.val < 128 then ⟨(n.val - 1) * 128 + u.val % 128, by omega⟩ else ⟨n.val * 128 + (u.val - 128), by omega⟩

def qv (n : Fin 64) (i : Fin 128) (h : Fin 2) (g : Fin 8) (d : Fin 64) : EReal :=
  X (row n i) ⟨(col h g d).val, by have := (col h g d).isLt; omega⟩ * c8
def kv (n : Fin 64) (u : Fin 256) (h : Fin 2) (d : Fin 64) : EReal := X (krow n u) ⟨1024 + (h.val * 64 + d.val), by omega⟩
def vv (n : Fin 64) (u : Fin 256) (h : Fin 2) (d : Fin 64) : EReal := X (krow n u) ⟨1152 + (h.val * 64 + d.val), by omega⟩
def ov (n : Fin 64) (i : Fin 128) (h : Fin 2) (g : Fin 8) (d : Fin 64) : EReal := O (row n i) (col h g d)

/-- The scores of a query's row, minus infinity where the mask hides the key. -/
def sc (n : Fin 64) (h : Fin 2) (g : Fin 8) (i : Fin 128) (u : Fin 256) : EReal :=
  if keep n i u then ∑ d, qv X n i h g d * kv X n u h d else ⊥
/-- The gradient of a weight. -/
def dp (n : Fin 64) (h : Fin 2) (g : Fin 8) (i : Fin 128) (u : Fin 256) : EReal :=
  ∑ d, ov O n i h g d * vv X n u h d
/-- The weight, and the gradients of the scores and of the sink's score. -/
def pr (n : Fin 64) (h : Fin 2) (g : Fin 8) (i : Fin 128) (u : Fin 256) : EReal := Row.pr (sc X n h g i) (Z h g) u
def gr (n : Fin 64) (h : Fin 2) (g : Fin 8) (i : Fin 128) (u : Fin 256) : EReal := Row.grad (sc X n h g i) (Z h g) (dp X O n h g i) u
def gz (n : Fin 64) (h : Fin 2) (g : Fin 8) (i : Fin 128) : EReal := Row.gradz (sc X n h g i) (Z h g) (dp X O n h g i)

/-- The gradient of the queries. -/
def dq (n : Fin 64) (i : Fin 128) (h : Fin 2) (g : Fin 8) (d : Fin 64) : EReal := (∑ u, gr X Z O n h g i u * kv X n u h d) * c8
/-- Block `n`'s part of the gradients of the keys and of the values. -/
def dk (n : Fin 64) (u : Fin 256) (h : Fin 2) (d : Fin 64) : EReal := ∑ g, ∑ i, gr X Z O n h g i u * qv X n i h g d
def dv (n : Fin 64) (u : Fin 256) (h : Fin 2) (d : Fin 64) : EReal := ∑ g, ∑ i, pr X Z n h g i u * ov O n i h g d
/-- Either of the two, the 256 columns side by side: the keys' 128, then the values'. -/
def dkv (n : Fin 64) (u : Fin 256) (c : Fin 256) : EReal :=
  if hc : c.val < 128 then dk X Z O n u ⟨c.val / 64, by omega⟩ ⟨c.val % 64, by omega⟩
  else dv X Z O n u ⟨(c.val - 128) / 64, by omega⟩ ⟨c.val % 64, by omega⟩
/-- The whole gradient at a row of block `b`: that of its own block, and that of the next one, which sees it as the block before. -/
def gkv (b : Fin 64) (j : Fin 128) (c : Fin 256) : EReal :=
  dkv X Z O b ⟨128 + j.val, by omega⟩ c + if h : b.val < 63 then dkv X Z O ⟨1 + b.val, by omega⟩ ⟨j.val, by omega⟩ c else 0
/-- The gradient of a sink. -/
def ds (h : Fin 2) (g : Fin 8) : EReal := ∑ n, ∑ i, gz X Z O n h g i

/-- The two gradients of the projection by row and column. -/
def dqAt (r : Fin 8192) (c : Fin 1024) : EReal :=
  dq X Z O ⟨r.val / 128, by omega⟩ ⟨r.val % 128, by omega⟩ ⟨c.val / 512, by omega⟩ ⟨c.val / 64 % 8, by omega⟩ ⟨c.val % 64, by omega⟩
def gkvAt (r : Fin 8192) (c : Fin 256) : EReal := gkv X Z O ⟨r.val / 128, by omega⟩ ⟨r.val % 128, by omega⟩ c

end

end Cert.Spec

end
-- ==== Proof.Attn.Finite.lean ====
/- What the precondition says of the three arguments: every entry is a real number. -/
module

public import proofs.«01_k».proof.Proof.Gen.Pre_finite
public import proofs.«01_k».proof.Proof.Attn.Spec
public import Idealize.ShloMosaic.Lib.ReduceAll

@[expose] public section

set_option maxRecDepth 16384

noncomputable section

namespace Cert.Pre_finite.Attn

open Cert.Pre_finite Cert.Pre_finite.Gen Idealize.ShloMosaic

theorem one_and {a b : BitVec 1} (h : a &&& b = 1#1) : a = 1#1 ∧ b = 1#1 := by
  revert a b; decide

theorem of_bool {p : Prop} [Decidable p] (h : BitVec.ofBool (decide p) = 1#1) : p := by
  by_contra hp
  rw [decide_eq_false hp] at h
  exact absurd h (by decide)

theorem top_word : Ideal.ofBits .f32 0x7F800000#32 = (⊤ : EReal) := by
  unfold Ideal.ofBits Ideal.ieee
  simp

/-- An extended real between the two infinities is a real. -/
theorem real_of_between {x : EReal} (h1 : x > ⊥) (h2 : x < ⊤) : Row.Fin' x :=
  ⟨x.toReal, (EReal.coe_toReal h2.ne h1.ne').symm⟩

instance : Subsingleton S_.Idx := ⟨fun a b => funext fun k => k.elim0⟩

theorem real_of_words {x : EReal}
    (h : IntOp.andi (FloatOps.cmpf (F := Ideal) (φ := .f32) .ogt x (Ideal.ofBits .f32 0xFF800000#32))
      (FloatOps.cmpf (F := Ideal) (φ := .f32) .olt x (Ideal.ofBits .f32 0x7F800000#32)) = 1#1) : Row.Fin' x := by
  obtain ⟨a, b⟩ := one_and h
  rw [Spec.bot_word] at a
  rw [top_word] at b
  exact real_of_between (of_bool a) (of_bool b)

theorem reals (x : FVec Ideal S8192x1280 .f32) (z : FVec Ideal S2x8 .f32) (o : FVec Ideal S8192x1024 .f32)
    (h : fn (F := Ideal) x z o = fun _ => 1#1) :
    (∀ j, Row.Fin' (x j)) ∧ (∀ j, Row.Fin' (z j)) ∧ ∀ j, Row.Fin' (o j) := by
  have h0 := congrFun h (fun k => k.elim0)
  unfold fn fn_part1 at h0
  obtain ⟨h1, ho⟩ := one_and h0
  obtain ⟨hx, hz⟩ := one_and h1
  exact ⟨fun j => real_of_words (Host.reduce_andi_all _ _ _ _ _ hx j),
    fun j => real_of_words (Host.reduce_andi_all _ _ _ _ _ hz j),
    fun j => real_of_words (Host.reduce_andi_all _ _ _ _ _ ho j)⟩

end Cert.Pre_finite.Attn

end
-- ==== Proof.Mm.LossRow.lean ====
/- One row of the end of the last sublayer: the error, its cotangent, and the two forms of the norm's derivative. -/
module

public import proofs.«01_k».proof.Proof.Mm.Rms
public import proofs.«01_k».proof.Proof.Attn.Row

@[expose] public section

noncomputable section

namespace Cert.Mm.Loss

open Idealize.ShloMosaic Cert.Row

/-- The row's mean square plus the constant, and the factor of the norm. -/
def ms (z : Fin 1024 → EReal) : EReal := Ideal.div (∑ k, z k * z k) (Ideal.ofBits .f32 0x44800000#32) + Ideal.ofBits .f32 0x358637BD#32
def rr (z : Fin 1024 → EReal) : EReal := Ideal.rsqrt (ms z)

/-- The error, the cotangent of the row, and the mean squared error. -/
def err (z g h t : Fin 1024 → EReal) (n : Fin 1024) : EReal := h n + rms z g n - t n
def dy (e : Fin 1024 → EReal) (n : Fin 1024) : EReal := e n * Ideal.ofBits .f32 0x3A800000#32
def meanSq (e : Fin 1024 → EReal) : EReal := Ideal.div (∑ k, e k * e k) (Ideal.ofBits .f32 0x44800000#32)

/-- The norm's derivative as the kernel writes it. -/
def dz (z g d : Fin 1024 → EReal) (n : Fin 1024) : EReal :=
  rr z * (d n * g n - z n * rr z * Ideal.div (∑ k, d k * g k * (z k * rr z)) (Ideal.ofBits .f32 0x44800000#32))

/-- The same as the derivative of the norm's text has it. -/
def dyRef (e : Fin 1024 → EReal) (n : Fin 1024) : EReal :=
  Ideal.div (Ideal.ofBits .f32 0x3F000000#32 * Ideal.ofBits .f32 0x3F800000#32) (Ideal.ofBits .f32 0x44800000#32)
    * (Ideal.ofBits .f32 0x40000000#32 * e n)
def uRef (z g d : Fin 1024 → EReal) : EReal :=
  Ideal.div ((∑ k, z k * (d k * g k)) * (Ideal.ofBits .f32 0xBF000000#32 * Ideal.div (rr z) (ms z))) (Ideal.ofBits .f32 0x44800000#32)
def dzRef (z g d : Fin 1024 → EReal) (n : Fin 1024) : EReal := d n * g n * rr z + z n * uRef z g d + uRef z g d * z n

/-- The words of the constants. -/
theorem w1024 : Ideal.ofBits .f32 0x44800000#32 = ((1024 : ℝ) : EReal) := by
  unfold Ideal.ofBits Ideal.ieee
  simp
  norm_num
  rw [← EReal.coe_mul]
  norm_num
theorem wInv : Ideal.ofBits .f32 0x3A800000#32 = ((1 / 1024 : ℝ) : EReal) := by
  unfold Ideal.ofBits Ideal.ieee
  simp
  norm_num
  rw [← EReal.coe_mul]
  norm_num
theorem wHalf : Ideal.ofBits .f32 0x3F000000#32 = ((1 / 2 : ℝ) : EReal) := by
  unfold Ideal.ofBits Ideal.ieee
  simp
  norm_num
  rw [← EReal.coe_mul]
  norm_num
theorem wOne : Ideal.ofBits .f32 0x3F800000#32 = ((1 : ℝ) : EReal) := by
  unfold Ideal.ofBits Ideal.ieee
  simp
  norm_num
  rw [← EReal.coe_mul]
  norm_num
theorem wTwo : Ideal.ofBits .f32 0x40000000#32 = ((2 : ℝ) : EReal) := by
  unfold Ideal.ofBits Ideal.ieee
  simp
  norm_num
  rw [← EReal.coe_mul]
  norm_num
theorem wNeg : Ideal.ofBits .f32 0xBF000000#32 = ((-(1 / 2) : ℝ) : EReal) := by
  unfold Ideal.ofBits Ideal.ieee
  simp
  norm_num
  rw [← EReal.coe_mul]
  norm_num
theorem wEps : ∃ e : ℝ, 0 < e ∧ Ideal.ofBits .f32 0x358637BD#32 = (e : EReal) := by
  unfold Ideal.ofBits Ideal.ieee
  simp
  norm_num
  exact ⟨8796093 * (1 / 8796093022208), by norm_num, (EReal.coe_mul _ _).symm⟩

/-- The row's mean square is a positive real, and the norm's factor the real root of its inverse. -/
theorem ms_real (z : Fin 1024 → ℝ) : ∃ q : ℝ, 0 < q ∧ ms (fun k => (z k : EReal)) = (q : EReal) ∧ rr (fun k => (z k : EReal)) = (((Real.sqrt q)⁻¹ : ℝ) : EReal) := by
  obtain ⟨e, he, hw⟩ := wEps
  have hq : 0 < (∑ k, z k * z k) / 1024 + e := by
    have : 0 ≤ ∑ k, z k * z k := Finset.sum_nonneg fun k _ => mul_self_nonneg _
    positivity
  have h : ms (fun k => (z k : EReal)) = (((∑ k, z k * z k) / 1024 + e : ℝ) : EReal) := by
    unfold ms
    rw [w1024, hw]
    simp only [← EReal.coe_mul, ← coe_sum]
    rw [div_real _ (by norm_num : (0 : ℝ) < 1024), ← EReal.coe_add]
  refine ⟨_, hq, h, ?_⟩
  unfold rr
  rw [h, Ideal.rsqrt_coe, if_neg (not_lt.mpr hq.le), if_neg hq.ne']

theorem dyRef_eq (e : Fin 1024 → EReal) (n : Fin 1024) : dyRef e n = dy e n := by
  unfold dyRef dy
  rw [wHalf, wOne, w1024, wTwo, wInv, ← EReal.coe_mul, div_real _ (by norm_num : (0 : ℝ) < 1024), ← mul_assoc, ← EReal.coe_mul, mul_comm]
  norm_num

/-- The two forms of the norm's derivative agree on reals. -/
theorem dzRef_eq (z g d : Fin 1024 → EReal) (hz : ∀ k, Fin' (z k)) (hg : ∀ k, Fin' (g k)) (hd : ∀ k, Fin' (d k)) (n : Fin 1024) :
    dzRef z g d n = dz z g d n := by
  choose z' hz using hz
  choose g' hg using hg
  choose d' hd using hd
  obtain rfl : z = fun k => (z' k : EReal) := funext hz
  obtain rfl : g = fun k => (g' k : EReal) := funext hg
  obtain rfl : d = fun k => (d' k : EReal) := funext hd
  obtain ⟨q, hq, h1, h2⟩ := ms_real z'
  unfold dzRef uRef dz
  rw [h1, h2, w1024, wNeg]
  simp only [div_real _ hq, ← EReal.coe_mul, ← coe_sum]
  rw [div_real _ (by norm_num : (0 : ℝ) < 1024), div_real _ (by norm_num : (0 : ℝ) < 1024)]
  simp only [← EReal.coe_mul, ← EReal.coe_add, ← EReal.coe_sub]
  congr 1
  have hs : ∑ k, d' k * g' k * (z' k * (Real.sqrt q)⁻¹) = (∑ k, z' k * (d' k * g' k)) * (Real.sqrt q)⁻¹ := by
    rw [Finset.sum_mul]
    exact Finset.sum_congr rfl fun k _ => by ring
  have hr : (Real.sqrt q)⁻¹ / q = (Real.sqrt q)⁻¹ * (Real.sqrt q)⁻¹ * (Real.sqrt q)⁻¹ := by
    rw [mul_assoc, ← mul_inv, Real.mul_self_sqrt hq.le, div_eq_mul_inv]
  rw [hs, hr]
  ring

/-- Reals stay reals through the row. -/
theorem fin_err (z g h t : Fin 1024 → EReal) (hz : ∀ k, Fin' (z k)) (hg : ∀ k, Fin' (g k)) (hh : ∀ k, Fin' (h k)) (ht : ∀ k, Fin' (t k))
    (n : Fin 1024) : Fin' (err z g h t n) := by
  choose z' hz using hz
  obtain rfl : z = fun k => (z' k : EReal) := funext hz
  obtain ⟨q, hq, h1, h2⟩ := ms_real z'
  obtain ⟨a, ha⟩ := hg n
  obtain ⟨b, hb⟩ := hh n
  obtain ⟨c, hc⟩ := ht n
  have e : rms (fun k => (z' k : EReal)) g n = z' n * rr (fun k => (z' k : EReal)) * g n := rfl
  exact ⟨b + z' n * (Real.sqrt q)⁻¹ * a - c, by unfold err; rw [e, h2, ha, hb, hc]; simp only [EReal.coe_mul, EReal.coe_add, EReal.coe_sub]⟩

theorem fin_dy (e : Fin 1024 → EReal) (he : ∀ k, Fin' (e k)) (n : Fin 1024) : Fin' (dy e n) := by
  unfold dy
  exact fin_mul (he n) ⟨_, wInv⟩

theorem fin_meanSq (e : Fin 1024 → EReal) (he : ∀ k, Fin' (e k)) : Fin' (meanSq e) := by
  obtain ⟨s, hs⟩ := fin_sum Finset.univ (fun k => e k * e k) fun k => fin_mul (he k) (he k)
  unfold meanSq
  rw [hs, w1024, div_real _ (by norm_num : (0 : ℝ) < 1024)]
  exact ⟨_, rfl⟩

/-- A real factor moves out of a finite sum of reals. -/
theorem mul_sum_real {ι : Type} (t : Finset ι) (c : EReal) (hc : Fin' c) (f : ι → EReal) (hf : ∀ i, Fin' (f i)) : ∑ i ∈ t, c * f i = c * ∑ i ∈ t, f i := by
  obtain ⟨a, rfl⟩ := hc
  choose g hg using hf
  obtain rfl : f = fun i => (g i : EReal) := funext hg
  simp only [← EReal.coe_mul, ← coe_sum, Finset.mul_sum]

end Cert.Mm.Loss

end
-- ==== Proof.Mm.LossEnd.lean ====
/- The down projection with the end of the last sublayer: the product, the cotangents of its row and its norm, and the sums over all rows. -/
module

public import proofs.«01_k».proof.Defs
public import proofs.«01_k».proof.Proof.Gen.Kernel15Ideal
public import proofs.«01_k».proof.Proof.Gen.Kernel15Ideal.Value
public import proofs.«01_k».proof.Proof.Mm.LossRow
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Mm.LossEnd

open Idealize.ShloMosaic Idealize.ShloMosaic.TcCoe Idealize.SL.Sem Cert.Mm.Loss
open Cert.Kernel15Ideal Cert.Kernel15Ideal.Gen

variable (m : (ℓ : Loc nD τ sig) → Buf (Elt Ideal) ℓ)

/-- The input, the weight, the residual, the target and the norm's weight, by entry. -/
def argA (c : Dev nD) (r : Fin 8192) (k : Fin 2816) : EReal := (m ((c : Thread nD τ).loc main_arg0) : FVec Ideal S8192x2816 .bf16) (ix2 r k)
def argW (c : Dev nD) (k : Fin 2816) (n : Fin 1024) : EReal := (m ((c : Thread nD τ).loc main_arg1) : FVec Ideal S2816x1024 .bf16) (ix2 k n)
def argH (c : Dev nD) (r : Fin 8192) (n : Fin 1024) : EReal := (m ((c : Thread nD τ).loc main_arg2) : FVec Ideal S8192x1024 .f32) (ix2 r n)
def argT (c : Dev nD) (r : Fin 8192) (n : Fin 1024) : EReal := (m ((c : Thread nD τ).loc main_arg3) : FVec Ideal S8192x1024 .f32) (ix2 r n)
def argG (c : Dev nD) (n : Fin 1024) : EReal := (m ((c : Thread nD τ).loc main_arg4) : FVec Ideal S1x1024 .f32) (ix2 0 n)

/-- The product's row, the error's row, and its cotangent. -/
def zRow (c : Dev nD) (r : Fin 8192) (n : Fin 1024) : EReal := ∑ k, argA m c r k * argW m c k n
def eRow (c : Dev nD) (r : Fin 8192) (n : Fin 1024) : EReal := err (zRow m c r) (argG m c) (argH m c r) (argT m c r) n
def dRow (c : Dev nD) (r : Fin 8192) (n : Fin 1024) : EReal := dy (eRow m c r) n

/-- The five results. -/
def outZ (c : Dev nD) : FVec Ideal S8192x1024 .f32 := fun j => zRow m c (j 0) (j 1)
def outD (c : Dev nD) : FVec Ideal S8192x1024 .f32 := fun j => dRow m c (j 0) (j 1)
def outX (c : Dev nD) : FVec Ideal S8192x1024 .bf16 := fun j => dz (zRow m c (j 0)) (argG m c) (dRow m c (j 0)) (j 1)
def outG (c : Dev nD) : FVec Ideal S1x1024 .f32 := fun j => ∑ r, dRow m c r (j 1) * (zRow m c r (j 1) * rr (zRow m c r))
def outL (c : Dev nD) : FVec Ideal S1x1024 .f32 := fun _ =>
  ∑ s : Fin 16, Ideal.ofBits .f32 0x3F000000#32 * ∑ i : Fin 512, meanSq (eRow m c ⟨s.val * 512 + i.val, by omega⟩)

/-- The windows' blocks at a point. -/
theorem idx : ∀ t : Fin cfg0.N, win0_0.index t = ![t.val, 0] ∧ win0_1.index t = ![0, 0] ∧ win0_2.index t = ![t.val, 0]
    ∧ win0_3.index t = ![t.val, 0] ∧ win0_4.index t = ![0, 0]
    ∧ win0_5.index t = ![t.val, 0] ∧ win0_6.index t = ![t.val, 0] ∧ win0_7.index t = ![t.val, 0]
    ∧ win0_8.index t = ![0, 0] ∧ win0_9.index t = ![0, 0] := (by decide +kernel : ∀ t : Fin grid0.N, _)

section
variable (a : FVec Ideal S512x2816 .bf16) (b : FVec Ideal S2816x1024 .bf16) (h t : FVec Ideal S512x1024 .f32)
  (g : FVec Ideal S1x1024 .f32) (i : Fin 512) (n : Fin 1024)

/-- One point's product, by entry. -/
theorem z_at : (k0_pay4 (F := Ideal) a b (ix2 i n) : EReal) = ∑ k : Fin 2816, (a (ix2 i k) : EReal) * b (ix2 k n) := by
  unfold k0_pay4
  pointwise

/-- One point's error, by entry. -/
theorem e_at : (k0_pay5 (F := Ideal) a b h t g (ix2 i n) : EReal)
    = err (fun n => k0_pay4 (F := Ideal) a b (ix2 i n)) (fun n => g (ix2 0 n)) (fun n => h (ix2 i n)) (fun n => t (ix2 i n)) n := by
  unfold k0_pay5 err rms
  generalize k0_pay4 (F := Ideal) a b = z
  pointwise

theorem d_at : (k0_pay6 (F := Ideal) a b h t g (ix2 i n) : EReal) = dy (fun n => k0_pay5 (F := Ideal) a b h t g (ix2 i n)) n := by
  unfold k0_pay6 dy
  generalize k0_pay5 (F := Ideal) a b h t g = z
  pointwise

theorem r_at : (k0_pay7 (F := Ideal) a b (ix2 i 0) : EReal) = rr (fun n => k0_pay4 (F := Ideal) a b (ix2 i n)) := by
  unfold k0_pay7 rr ms
  generalize k0_pay4 (F := Ideal) a b = z
  pointwise
end

section
variable (z d : FVec Ideal S512x1024 .f32) (g v : FVec Ideal S1x1024 .f32) (r : FVec Ideal S512x1 .f32) (i : Fin 512) (n : Fin 1024)

theorem x_at : (k0_pay8 (F := Ideal) z r (ix2 i n) : EReal) = (z (ix2 i n) : EReal) * r (ix2 i 0) := by
  unfold k0_pay8
  pointwise

/-- One point's derivative of the norm, by entry. -/
theorem dz_at (hr : (r (ix2 i 0) : EReal) = rr (fun n => z (ix2 i n))) : (k0_pay10 (F := Ideal) z g d r (ix2 i n) : EReal)
    = dz (fun n => z (ix2 i n)) (fun n => g (ix2 0 n)) (fun n => d (ix2 i n)) n := by
  have e : (k0_pay10 (F := Ideal) z g d r (ix2 i n) : EReal) = (r (ix2 i 0) : EReal) * ((d (ix2 i n) : EReal) * g (ix2 0 n)
      - k0_pay8 (F := Ideal) z r (ix2 i n) * Ideal.div (∑ k : Fin 1024, (d (ix2 i k) : EReal) * g (ix2 0 k) * k0_pay8 (F := Ideal) z r (ix2 i k)) (Ideal.ofBits .f32 0x44800000#32)) := by
    unfold k0_pay10
    generalize k0_pay8 (F := Ideal) z r = x
    pointwise
  rw [e]
  simp only [x_at]
  rw [hr]
  rfl

/-- One point's step of the sum for the norm's weight, by entry. -/
theorem g_at : (k0_pay11 (F := Ideal) z d r v (ix2 0 n) : EReal)
    = (v (ix2 0 n) : EReal) + ∑ i : Fin 512, (d (ix2 i n) : EReal) * ((z (ix2 i n) : EReal) * r (ix2 i 0)) := by
  have e : (k0_pay11 (F := Ideal) z d r v (ix2 0 n) : EReal)
      = (v (ix2 0 n) : EReal) + ∑ i : Fin 512, (d (ix2 i n) : EReal) * k0_pay8 (F := Ideal) z r (ix2 i n) := by
    unfold k0_pay11
    generalize k0_pay8 (F := Ideal) z r = x
    pointwise
  rw [e]
  simp only [x_at]

/-- One point's part of the loss. -/
theorem l_at : (k0_pay9 (F := Ideal) z (ix2 0 n) : EReal)
    = Ideal.ofBits .f32 0x3F000000#32 * ∑ i : Fin 512, meanSq (fun n => z (ix2 i n)) := by
  unfold k0_pay9 meanSq
  pointwise

theorem l_step : (k0_pay1 (F := Ideal) g v (ix2 0 n) : EReal) = (v (ix2 0 n) : EReal) + g (ix2 0 n) := by
  unfold k0_pay1
  pointwise

theorem zero2 : (k0_pay2 (F := Ideal) (ix2 0 n) : EReal) = 0 := Ideal.ofBits_zero_f32
theorem zero3 : (k0_pay3 (F := Ideal) (ix2 0 n) : EReal) = 0 := Ideal.ofBits_zero_f32
end

section
variable (c : Dev nD) (t : Fin cfg0.N) (i : Fin 512) (n : Fin 1024) (r : Fin 8192) (hr : r.val = t.val * 512 + i.val)

theorem gb : ((iblk m c 4 t : FVec Ideal S1x1024 .f32) (ix2 0 n) : EReal) = argG m c n := by
  unfold argG
  blk_ext [iblk, V, idx t]

include hr

/-- The blocks at a point, at the rows of the arrays that they are. -/
theorem zb : (k0_pay4 (F := Ideal) (iblk m c 0 t) (iblk m c 1 t) (ix2 i n) : EReal) = zRow m c r n := by
  refine (z_at _ _ _ _).trans (Finset.sum_congr rfl fun k _ => ?_)
  unfold argA argW
  congr 1 <;> blk_ext [iblk, V, idx t, hr]

theorem hb : ((iblk m c 2 t : FVec Ideal S512x1024 .f32) (ix2 i n) : EReal) = argH m c r n := by
  unfold argH
  blk_ext [iblk, V, idx t, hr]

theorem tb : ((iblk m c 3 t : FVec Ideal S512x1024 .f32) (ix2 i n) : EReal) = argT m c r n := by
  unfold argT
  blk_ext [iblk, V, idx t, hr]

theorem eb : (k0_pay5 (F := Ideal) (iblk m c 0 t) (iblk m c 1 t) (iblk m c 2 t) (iblk m c 3 t) (iblk m c 4 t) (ix2 i n) : EReal) = eRow m c r n := by
  refine (e_at _ _ _ _ _ _ _).trans ?_
  unfold eRow
  rw [funext fun k => zb m c t i k r hr, funext fun k => gb m c t k, funext fun k => hb m c t i k r hr, funext fun k => tb m c t i k r hr]

theorem db : (k0_pay6 (F := Ideal) (iblk m c 0 t) (iblk m c 1 t) (iblk m c 2 t) (iblk m c 3 t) (iblk m c 4 t) (ix2 i n) : EReal) = dRow m c r n := by
  refine (d_at _ _ _ _ _ _ _).trans ?_
  unfold dRow
  rw [funext fun k => eb m c t i k r hr]

theorem rb : (k0_pay7 (F := Ideal) (iblk m c 0 t) (iblk m c 1 t) (ix2 i 0) : EReal) = rr (zRow m c r) := by
  refine (r_at _ _ _).trans ?_
  rw [funext fun k => zb m c t i k r hr]

theorem xb : (k0_pay10 (F := Ideal) (k0_pay4 (F := Ideal) (iblk m c 0 t) (iblk m c 1 t)) (iblk m c 4 t)
      (k0_pay6 (F := Ideal) (iblk m c 0 t) (iblk m c 1 t) (iblk m c 2 t) (iblk m c 3 t) (iblk m c 4 t))
      (k0_pay7 (F := Ideal) (iblk m c 0 t) (iblk m c 1 t)) (ix2 i n) : EReal)
    = dz (zRow m c r) (argG m c) (dRow m c r) n := by
  refine (dz_at _ _ _ _ _ _ (r_at _ _ _)).trans ?_
  rw [funext fun k => zb m c t i k r hr, funext fun k => gb m c t k, funext fun k => db m c t i k r hr]
end

/-- The row of the arrays that a point's block has at its row `i`. -/
def rowOf (t : Fin cfg0.N) (i : Fin 512) : Fin 8192 :=
  ⟨t.val * 512 + i.val, by have h1 := t.isLt; have h2 := i.isLt; have h3 : t.val < 16 := lt_of_lt_of_eq h1 (show cfg0.N = 16 from N_0); omega⟩

/-- The contents of the first three windows after a point. -/
theorem at5 (c : Dev nD) (t : Fin cfg0.N) : (outsAt0 m c t.val t.isLt).1 = k0_pay4 (F := Ideal) (iblk m c 0 t) (iblk m c 1 t) := by
  by_cases h : t.val % 16 = 0
  · rw [outsAt0_A m c t h]
    frame_out
  · rw [outsAt0_B m c t h]
    frame_out

theorem at6 (c : Dev nD) (t : Fin cfg0.N) : (outsAt0 m c t.val t.isLt).2.1
    = k0_pay6 (F := Ideal) (iblk m c 0 t) (iblk m c 1 t) (iblk m c 2 t) (iblk m c 3 t) (iblk m c 4 t) := by
  by_cases h : t.val % 16 = 0
  · rw [outsAt0_A m c t h]
    frame_out
  · rw [outsAt0_B m c t h]
    frame_out

theorem at7 (c : Dev nD) (t : Fin cfg0.N) : (outsAt0 m c t.val t.isLt).2.2.1
    = k0_pay10 (F := Ideal) (k0_pay4 (F := Ideal) (iblk m c 0 t) (iblk m c 1 t)) (iblk m c 4 t)
      (k0_pay6 (F := Ideal) (iblk m c 0 t) (iblk m c 1 t) (iblk m c 2 t) (iblk m c 3 t) (iblk m c 4 t))
      (k0_pay7 (F := Ideal) (iblk m c 0 t) (iblk m c 1 t)) := by
  by_cases h : t.val % 16 = 0
  · rw [outsAt0_A m c t h]
    frame_out
  · rw [outsAt0_B m c t h]
    frame_out

/-- The arrays of the three windows after the launch. -/
theorem arrZ (c : Dev nD) : (dats m 0 c).arrAt 5 cfg0.N = outZ m c := by
  refine (dats m 0 c).arrAt_eq_of_covers 5 _ (by decide +kernel) fun t hf y => ?_
  blk_simp
  rw [after0_5, at5, eq_ix2 y]
  refine (zb m c t (y 0) (y 1) (rowOf t (y 0)) rfl).trans ?_
  show outZ m c (ix2 (rowOf t (y 0)) (y 1)) = _
  refine congrArg (outZ m c) (funext fun a => Fin.ext ?_)
  fin_cases a <;> simp [idx t, rowOf]

theorem arrD (c : Dev nD) : (dats m 0 c).arrAt 6 cfg0.N = outD m c := by
  refine (dats m 0 c).arrAt_eq_of_covers 6 _ (by decide +kernel) fun t hf y => ?_
  blk_simp
  rw [after0_6, at6, eq_ix2 y]
  refine (db m c t (y 0) (y 1) (rowOf t (y 0)) rfl).trans ?_
  show outD m c (ix2 (rowOf t (y 0)) (y 1)) = _
  refine congrArg (outD m c) (funext fun a => Fin.ext ?_)
  fin_cases a <;> simp [idx t, rowOf]

theorem arrX (c : Dev nD) : (dats m 0 c).arrAt 7 cfg0.N = outX m c := by
  refine (dats m 0 c).arrAt_eq_of_covers 7 _ (by decide +kernel) fun t hf y => ?_
  blk_simp
  rw [after0_7, at7, eq_ix2 y]
  refine (xb m c t (y 0) (y 1) (rowOf t (y 0)) rfl).trans ?_
  show outX m c (ix2 (rowOf t (y 0)) (y 1)) = _
  refine congrArg (outX m c) (funext fun a => Fin.ext ?_)
  fin_cases a <;> simp [idx t, rowOf]

/-- What a point adds to the two sums. -/
def addG (c : Dev nD) (t : Fin cfg0.N) (n : Fin 1024) : EReal :=
  ∑ i : Fin 512, dRow m c (rowOf t i) n * (zRow m c (rowOf t i) n * rr (zRow m c (rowOf t i)))
def addL (c : Dev nD) (t : Fin cfg0.N) : EReal := Ideal.ofBits .f32 0x3F000000#32 * ∑ i : Fin 512, meanSq (eRow m c (rowOf t i))

theorem stepG (c : Dev nD) (t : Fin cfg0.N) (v : FVec Ideal S1x1024 .f32) (n : Fin 1024) :
    (k0_pay11 (F := Ideal) (k0_pay4 (F := Ideal) (iblk m c 0 t) (iblk m c 1 t))
      (k0_pay6 (F := Ideal) (iblk m c 0 t) (iblk m c 1 t) (iblk m c 2 t) (iblk m c 3 t) (iblk m c 4 t))
      (k0_pay7 (F := Ideal) (iblk m c 0 t) (iblk m c 1 t)) v (ix2 0 n) : EReal) = (v (ix2 0 n) : EReal) + addG m c t n := by
  refine (g_at _ _ _ _ _).trans (congrArg (_ + ·) (Finset.sum_congr rfl fun i _ => ?_))
  rw [db m c t i n (rowOf t i) rfl, zb m c t i n (rowOf t i) rfl, rb m c t i (rowOf t i) rfl]

theorem stepL (c : Dev nD) (t : Fin cfg0.N) (v : FVec Ideal S1x1024 .f32) (n : Fin 1024) :
    (k0_pay1 (F := Ideal) (k0_pay9 (F := Ideal) (k0_pay5 (F := Ideal) (iblk m c 0 t) (iblk m c 1 t) (iblk m c 2 t) (iblk m c 3 t) (iblk m c 4 t))) v
      (ix2 0 n) : EReal) = (v (ix2 0 n) : EReal) + addL m c t := by
  refine (l_step _ _ _).trans (congrArg (_ + ·) ((l_at _ _).trans (congrArg (_ * ·) (Finset.sum_congr rfl fun i _ => ?_))))
  rw [funext fun k => eb m c t i k (rowOf t i) rfl]

/-- The two sums' windows at the last point. -/
theorem sumG (c : Dev nD) (t : Fin cfg0.N) (ht : t.val % 16 = 15) (n : Fin 1024) :
    ((outsAt0 m c t.val t.isLt).2.2.2.1 (ix2 0 n) : EReal)
      = 0 + ∑ s : Fin 16, addG m c ⟨16 * (t.val / 16) + s.val, Pipeline.run_point_lt_of_flush t ht s⟩ n := by
  refine Pipeline.eq_sum_fin_of_reset_step_apply_of_flush (M := EReal) (fun k h n => (outsAt0 m c k h).2.2.2.1 (ix2 0 n)) 16 (fun _ => 0)
    (fun t n => addG m c t n) (fun t h i => ?_) (fun t h i => ?_) t ht n
  · rw [outsAt0_A m c t h]
    frame_out
    exact (stepG m c t _ i).trans (by rw [zero2])
  · rw [outsAt0_B m c t h]
    frame_out
    exact stepG m c t _ i

theorem sumL (c : Dev nD) (t : Fin cfg0.N) (ht : t.val % 16 = 15) (n : Fin 1024) :
    ((outsAt0 m c t.val t.isLt).2.2.2.2 (ix2 0 n) : EReal)
      = 0 + ∑ s : Fin 16, addL m c ⟨16 * (t.val / 16) + s.val, Pipeline.run_point_lt_of_flush t ht s⟩ := by
  refine Pipeline.eq_sum_fin_of_reset_step_apply_of_flush (M := EReal) (fun k h n => (outsAt0 m c k h).2.2.2.2 (ix2 0 n)) 16 (fun _ => 0)
    (fun t n => addL m c t) (fun t h i => ?_) (fun t h i => ?_) t ht n
  · rw [outsAt0_A m c t h]
    frame_out
    exact (stepL m c t _ i).trans (by rw [zero3])
  · rw [outsAt0_B m c t h]
    frame_out
    exact stepL m c t _ i

theorem point_row (t : Fin cfg0.N) (ht : t.val % 16 = 15) (s : Fin 16) (i : Fin 512) (hl : s.val * 512 + i.val < 8192) :
    rowOf ⟨16 * (t.val / 16) + s.val, Pipeline.run_point_lt_of_flush t ht s⟩ i = ⟨s.val * 512 + i.val, hl⟩ := by
  have h3 : t.val < 16 := lt_of_lt_of_eq t.isLt (show cfg0.N = 16 from N_0)
  have h4 : t.val / 16 = 0 := by omega
  refine Fin.ext ?_
  show (16 * (t.val / 16) + s.val) * 512 + i.val = _
  rw [h4]
  simp

/-- The arrays of the two sums after the launch. -/
theorem arrG (c : Dev nD) : (dats m 0 c).arrAt 8 cfg0.N = outG m c := by
  refine (dats m 0 c).arrAt_eq_of_covers 8 _ (by decide +kernel) fun t hf y => ?_
  have ht : t.val % 16 = 15 := (flush0_8 t).mp hf
  have hy : y = ix2 (0 : Fin 1) (y 1 : Fin 1024) := (eq_ix2 y).trans (congrArg (fun a : Fin 1 => ix2 a (y 1 : Fin 1024)) (Subsingleton.elim (α := Fin 1) _ _))
  blk_simp
  rw [after0_8, hy]
  refine (sumG m c t ht (y 1)).trans ?_
  rw [zero_add]
  refine (?_ : _ = outG m c (ix2 0 (y 1))).trans (congrArg (outG m c) (funext fun a => Fin.ext ?_))
  · refine Fin.sum_mul_add_congr (f := fun r => dRow m c r (y 1) * (zRow m c r (y 1) * rr (zRow m c r))) fun s k hl => ?_
    rw [point_row t ht s k hl]
  · fin_cases a <;> simp [idx t]

theorem arrL (c : Dev nD) : (dats m 0 c).arrAt 9 cfg0.N = outL m c := by
  refine (dats m 0 c).arrAt_eq_of_covers 9 _ (by decide +kernel) fun t hf y => ?_
  have ht : t.val % 16 = 15 := (flush0_9 t).mp hf
  have hy : y = ix2 (0 : Fin 1) (y 1 : Fin 1024) := (eq_ix2 y).trans (congrArg (fun a : Fin 1 => ix2 a (y 1 : Fin 1024)) (Subsingleton.elim (α := Fin 1) _ _))
  blk_simp
  rw [after0_9, hy]
  refine (sumL m c t ht (y 1)).trans ?_
  rw [zero_add]
  refine Finset.sum_congr rfl fun s _ => congrArg (_ * ·) (Finset.sum_congr rfl fun i _ => ?_)
  rw [point_row t ht s i (by omega)]

end Cert.Mm.LossEnd

end
-- ==== Proof.Mm.LossRef.lean ====
/- The reference's end of the last sublayer and its derivative, by entry. -/
module

public import proofs.«01_k».proof.Defs
public import proofs.«01_k».proof.Proof.Gen.Reference15Ideal
public import proofs.«01_k».proof.Proof.Mm.LossRow
public import Idealize.ShloMosaic.Lib.Pointwise

@[expose] public section

set_option maxRecDepth 16384

noncomputable section

namespace Cert.Mm.LossRef

open Idealize.ShloMosaic Cert.Mm.Loss
open Cert.Reference15Ideal Cert.Reference15Ideal.Gen

/-- The reference's product. -/
def refZ (a : FVec Ideal S8192x2816 .bf16) (w : FVec Ideal S2816x1024 .bf16) : FVec Ideal S8192x1024 .f32 :=
  Host.dotGeneral dot_S8192x2816_S2816x1024_S8192x1024_1_0_0_1_n_n none
    (extf (F := Ideal) (φ := .bf16) .f32 a bitsLt_bf16_f32) (extf (F := Ideal) (φ := .bf16) .f32 w bitsLt_bf16_f32)

section
variable (z e d : FVec Ideal S8192x1024 .f32) (h t : FVec Ideal S8192x1024 .f32) (g : FVec Ideal S1x1024 .f32)

/-- The mean square plus the constant, the norm's factor, and the weight on every row. -/
def refMs : FVec Ideal S8192x1 .f32 :=
  addf (Host.divf
    (broadcastInDim S8192x1 ![0] bcast_S8192_S8192x1_0 (Host.reduceAdd (mulf z z) (constant S_ .f32 0x00000000#32) reducesTo_S8192x1024_S8192_d1 h_S_))
    (broadcastInDim S8192x1 ![] bcast_S_S8192x1 (constant S_ .f32 0x44800000#32)))
    (broadcastInDim S8192x1 ![] bcast_S_S8192x1 (constant S_ .f32 0x358637BD#32))
def refR : FVec Ideal S8192x1 .f32 := Host.rsqrt (refMs z)
def refG : FVec Ideal S8192x1024 .f32 :=
  broadcastInDim S8192x1024 ![0, 1] bcast_S1x1024_S8192x1024_0_1 (broadcastInDim S1x1024 ![1] bcast_S1024_S1x1024_1
    (shapeCast S1024 g shapeCasts_S1x1024_S1024))
def refX : FVec Ideal S8192x1024 .f32 := mulf z (broadcastInDim S8192x1024 ![0, 1] bcast_S8192x1_S8192x1024_0_1 (refR z))

/-- The error and its cotangent. -/
def refE : FVec Ideal S8192x1024 .f32 := subf (addf h (mulf (refX z) (refG g))) t
def refD : FVec Ideal S8192x1024 .f32 :=
  mulf (broadcastInDim S8192x1024 ![0] bcast_S8192_S8192x1024_0 (Host.divf (broadcastInDim S8192 ![] bcast_S_S8192
    (mulf (constant S_ .f32 0x3F000000#32) (constant S_ .f32 0x3F800000#32))) (broadcastInDim S8192 ![] bcast_S_S8192 (constant S_ .f32 0x44800000#32))))
    (mulf (broadcastInDim S8192x1024 ![] bcast_S_S8192x1024 (constant S_ .f32 0x40000000#32)) e)

/-- The factor that multiplies the row in the norm's derivative. -/
def refU : FVec Ideal S8192x1024 .f32 :=
  broadcastInDim S8192x1024 ![0] bcast_S8192_S8192x1024_0 (Host.reduceAdd (Host.divf (mulf
    (shapeCast S8192x1 (Host.reduceAdd (mulf z (mulf d (refG g))) (constant S_ .f32 0x00000000#32) reducesTo_S8192x1024_S8192_d1 h_S_) shapeCasts_S8192_S8192x1)
    (mulf (broadcastInDim S8192x1 ![] bcast_S_S8192x1 (constant S_ .f32 0xBF000000#32)) (Host.divf (refR z) (refMs z))))
    (broadcastInDim S8192x1 ![] bcast_S_S8192x1 (constant S_ .f32 0x44800000#32))) (constant S_ .f32 0x00000000#32) reducesTo_S8192x1_S8192_d1 h_S_)
def refDz : FVec Ideal S8192x1024 .bf16 :=
  truncf .bf16 (addf (addf (mulf (mulf d (refG g)) (broadcastInDim S8192x1024 ![0, 1] bcast_S8192x1_S8192x1024_0_1 (refR z)))
    (mulf z (refU z d g))) (mulf (refU z d g) z)) bitsLt_bf16_f32

/-- The two sums over the rows. -/
def refDg : FVec Ideal S1x1024 .f32 :=
  broadcastInDim S1x1024 ![1] bcast_S1024_S1x1024_1 (Host.reduceAdd (shapeCast S1x1024 (Host.reduceAdd (mulf (refX z) d)
    (constant S_ .f32 0x00000000#32) reducesTo_S8192x1024_S1024_d0 h_S_) shapeCasts_S1024_S1x1024)
    (constant S_ .f32 0x00000000#32) reducesTo_S1x1024_S1024_d0 h_S_)
def refL : FVec Ideal S1x1024 .f32 :=
  broadcastInDim S1x1024 ![] bcast_S_S1x1024 (mulf (constant S_ .f32 0x3F000000#32) (Host.reduceAdd (Host.divf
    (Host.reduceAdd (mulf e e) (constant S_ .f32 0x00000000#32) reducesTo_S8192x1024_S8192_d1 h_S_)
    (broadcastInDim S8192 ![] bcast_S_S8192 (constant S_ .f32 0x44800000#32))) (constant S_ .f32 0x00000000#32) reducesTo_S8192_S_d0 h_S_))
end

theorem refZ_at (a : FVec Ideal S8192x2816 .bf16) (w : FVec Ideal S2816x1024 .bf16) (r : Fin 8192) (n : Fin 1024) :
    (refZ a w (ix2 r n) : EReal) = ∑ k : Fin 2816, (a (ix2 r k) : EReal) * w (ix2 k n) := by
  unfold refZ
  pointwise

section
variable (z e d : FVec Ideal S8192x1024 .f32) (h t : FVec Ideal S8192x1024 .f32) (g : FVec Ideal S1x1024 .f32) (r : Fin 8192) (n : Fin 1024)

theorem refMs_at : (refMs z (ix2 r 0) : EReal) = ms (fun k => z (ix2 r k)) := by
  unfold refMs ms
  pointwise

theorem refR_at : (refR z (ix2 r 0) : EReal) = rr (fun k => z (ix2 r k)) := congrArg Ideal.rsqrt (refMs_at z r)

theorem refG_at : (refG g (ix2 r n) : EReal) = g (ix2 0 n) := by
  unfold refG
  pointwise

theorem refX_at : (refX z (ix2 r n) : EReal) = (z (ix2 r n) : EReal) * rr (fun k => z (ix2 r k)) := by
  rw [← refR_at]
  unfold refX
  generalize refR z = x
  pointwise

theorem refE_at : (refE z h t g (ix2 r n) : EReal)
    = err (fun k => z (ix2 r k)) (fun k => g (ix2 0 k)) (fun k => h (ix2 r k)) (fun k => t (ix2 r k)) n := by
  have e1 : (refE z h t g (ix2 r n) : EReal) = (h (ix2 r n) : EReal) + refX z (ix2 r n) * refG g (ix2 r n) - t (ix2 r n) := rfl
  rw [e1, refX_at, refG_at]
  rfl

theorem refD_at : (refD e (ix2 r n) : EReal) = dy (fun k => e (ix2 r k)) n := by
  rw [← dyRef_eq]
  unfold refD dyRef
  pointwise

theorem refU_at : (refU z d g (ix2 r n) : EReal) = uRef (fun k => z (ix2 r k)) (fun k => g (ix2 0 k)) (fun k => d (ix2 r k)) := by
  have e1 : (refU z d g (ix2 r n) : EReal) = Ideal.div ((∑ k : Fin 1024, (z (ix2 r k) : EReal) * ((d (ix2 r k) : EReal) * refG g (ix2 r k)))
      * (Ideal.ofBits .f32 0xBF000000#32 * Ideal.div (refR z (ix2 r 0)) (refMs z (ix2 r 0)))) (Ideal.ofBits .f32 0x44800000#32) := by
    unfold refU
    generalize refR z = x
    generalize refMs z = y
    generalize refG g = w
    pointwise
    exact Fin.sum_univ_one _
  rw [e1, refR_at, refMs_at]
  simp only [refG_at]
  rfl

theorem refDz_at : (refDz z d g (ix2 r n) : EReal) = dzRef (fun k => z (ix2 r k)) (fun k => g (ix2 0 k)) (fun k => d (ix2 r k)) n := by
  have e1 : (refDz z d g (ix2 r n) : EReal) = (d (ix2 r n) : EReal) * refG g (ix2 r n) * refR z (ix2 r 0)
      + (z (ix2 r n) : EReal) * refU z d g (ix2 r n) + (refU z d g (ix2 r n) : EReal) * z (ix2 r n) := by
    unfold refDz
    generalize refR z = x
    generalize refU z d g = y
    generalize refG g = w
    pointwise
  rw [e1, refR_at, refU_at, refG_at]
  rfl

theorem refDg_at : (refDg z d (ix2 0 n) : EReal) = ∑ r : Fin 8192, (d (ix2 r n) : EReal) * (z (ix2 r n) * rr (fun k => z (ix2 r k))) := by
  have e1 : (refDg z d (ix2 0 n) : EReal) = ∑ r : Fin 8192, (refX z (ix2 r n) : EReal) * d (ix2 r n) := by
    unfold refDg
    generalize refX z = x
    pointwise
    exact Fin.sum_univ_one _
  rw [e1]
  exact Finset.sum_congr rfl fun r _ => by rw [refX_at, mul_comm]

theorem refL_at : (refL e (ix2 0 n) : EReal) = Ideal.ofBits .f32 0x3F000000#32 * ∑ r : Fin 8192, meanSq (fun k => e (ix2 r k)) := by
  unfold refL meanSq
  pointwise
end

end Cert.Mm.LossRef

end
-- ==== Proof.Mm.LossClaims.lean ====
/- The claims of the down projection with the end of the last sublayer: on real arguments its results are the reference's. -/
module

public import proofs.«01_k».proof.Defs
public import proofs.«01_k».proof.Proof.Gen.Kernel15
public import proofs.«01_k».proof.Proof.Gen.Kernel15Ideal
public import proofs.«01_k».proof.Proof.Gen.Reference15Ideal
public import proofs.«01_k».proof.Proof.Gen.Pre_finite15
public import proofs.«01_k».proof.Proof.Gen.Kernel15Ideal.Value
public import proofs.«01_k».proof.Proof.Gen.Reference15Ideal.Run
public import proofs.«01_k».proof.Proof.Attn.Finite
public import proofs.«01_k».proof.Proof.Mm.LossEnd
public import proofs.«01_k».proof.Proof.Mm.LossRef

@[expose] public section

set_option maxRecDepth 16384

noncomputable section

namespace Cert.Pre_finite15.Loss

open Cert.Pre_finite15 Cert.Pre_finite15.Gen Cert.Pre_finite.Attn Idealize.ShloMosaic

instance : Subsingleton S_.Idx := ⟨fun a b => funext fun k => k.elim0⟩

/-- What the precondition says: every entry of the five arguments is a real number. -/
theorem reals (a : FVec Ideal S8192x2816 .bf16) (w : FVec Ideal S2816x1024 .bf16) (x t : FVec Ideal S8192x1024 .f32) (g : FVec Ideal S1x1024 .f32)
    (h : fn (F := Ideal) a w x t g = fun _ => 1#1) :
    (∀ j, Row.Fin' (a j)) ∧ (∀ j, Row.Fin' (w j)) ∧ (∀ j, Row.Fin' (x j)) ∧ (∀ j, Row.Fin' (t j)) ∧ ∀ j, Row.Fin' (g j) := by
  have h0 := congrFun h (fun k => k.elim0)
  unfold fn fn_part1 fn_part2 at h0
  obtain ⟨h1, hg⟩ := one_and h0
  obtain ⟨h2, ht⟩ := one_and h1
  obtain ⟨h3, hx⟩ := one_and h2
  obtain ⟨ha, hw⟩ := one_and h3
  exact ⟨fun j => real_of_words (Host.reduce_andi_all _ _ _ _ _ ha j),
    fun j => real_of_words (Host.reduce_andi_all _ _ _ _ _ hw j),
    fun j => real_of_words (Host.reduce_andi_all _ _ _ _ _ hx j),
    fun j => real_of_words (Host.reduce_andi_all _ _ _ _ _ ht j),
    fun j => real_of_words (Host.reduce_andi_all _ _ _ _ _ hg j)⟩

end Cert.Pre_finite15.Loss

namespace Cert.Mm.LossEnd

open Idealize.ShloMosaic Idealize.ShloMosaic.TcCoe Idealize.SL.Sem Cert.Mm.Loss Cert.Mm.LossRef
open Cert.Kernel15Ideal Cert.Kernel15Ideal.Gen

variable (m : (ℓ : Loc nD τ sig) → Buf (Elt Ideal) ℓ)

section
variable (c : Dev nD)

/-- The reference's results, over the kernel's arguments. -/
def rZ : FVec Ideal S8192x1024 .f32 := refZ (m ((c : Thread nD τ).loc main_arg0)) (m ((c : Thread nD τ).loc main_arg1))
def rE : FVec Ideal S8192x1024 .f32 :=
  refE (rZ m c) (m ((c : Thread nD τ).loc main_arg2)) (m ((c : Thread nD τ).loc main_arg3)) (m ((c : Thread nD τ).loc main_arg4))
def rD : FVec Ideal S8192x1024 .f32 := refD (rE m c)
def rX : FVec Ideal S8192x1024 .bf16 := refDz (rZ m c) (rD m c) (m ((c : Thread nD τ).loc main_arg4))
def rG : FVec Ideal S1x1024 .f32 := refDg (rZ m c) (rD m c)
def rL : FVec Ideal S1x1024 .f32 := refL (rE m c)

theorem rZ_at (r : Fin 8192) (n : Fin 1024) : (rZ m c (ix2 r n) : EReal) = zRow m c r n := refZ_at _ _ _ _

theorem rE_at (r : Fin 8192) (n : Fin 1024) : (rE m c (ix2 r n) : EReal) = eRow m c r n := by
  refine (refE_at _ _ _ _ _ _).trans ?_
  rw [funext fun k => rZ_at m c r k]
  rfl

theorem rD_at (r : Fin 8192) (n : Fin 1024) : (rD m c (ix2 r n) : EReal) = dRow m c r n := by
  refine (refD_at _ _ _).trans ?_
  rw [funext fun k => rE_at m c r k]
  rfl

theorem rZ_eq : rZ m c = outZ m c := by
  funext j
  rw [eq_ix2 j]
  exact rZ_at _ _ _ _

theorem rD_eq : rD m c = outD m c := by
  funext j
  rw [eq_ix2 j]
  exact rD_at _ _ _ _

theorem rG_at (n : Fin 1024) : (rG m c (ix2 0 n) : EReal) = ∑ r, dRow m c r n * (zRow m c r n * rr (zRow m c r)) := by
  refine (refDg_at _ _ _).trans (Finset.sum_congr rfl fun r _ => ?_)
  rw [rD_at, rZ_at, funext fun k => rZ_at m c r k]

theorem rG_eq : rG m c = outG m c := by
  funext j
  have hj : j = ix2 (0 : Fin 1) (j 1 : Fin 1024) := (eq_ix2 j).trans (congrArg (fun a : Fin 1 => ix2 a (j 1 : Fin 1024)) (Subsingleton.elim (α := Fin 1) _ _))
  rw [hj]
  exact rG_at m c (j 1)

/-- Every entry of the arguments is a real. -/
def Real' : Prop := (∀ r k, Row.Fin' (argA m c r k)) ∧ (∀ k n, Row.Fin' (argW m c k n)) ∧ (∀ r n, Row.Fin' (argH m c r n))
  ∧ (∀ r n, Row.Fin' (argT m c r n)) ∧ ∀ n, Row.Fin' (argG m c n)

theorem real_of_pre (h : Cert.Pre_Kernel15Ideal_finite15 m) : Real' m c := by
  obtain ⟨ha, hw, hh, ht, hg⟩ := Cert.Pre_finite15.Loss.reals _ _ _ _ _ (h c)
  exact ⟨fun _ _ => ha _, fun _ _ => hw _, fun _ _ => hh _, fun _ _ => ht _, fun _ => hg _⟩

variable (hr : Real' m c)
include hr

theorem fin_z (r : Fin 8192) (n : Fin 1024) : Row.Fin' (zRow m c r n) :=
  Row.fin_sum _ _ fun k => Row.fin_mul (hr.1 r k) (hr.2.1 k n)

theorem fin_e (r : Fin 8192) (n : Fin 1024) : Row.Fin' (eRow m c r n) :=
  fin_err _ _ _ _ (fin_z m c hr r) hr.2.2.2.2 (hr.2.2.1 r) (hr.2.2.2.1 r) n

theorem rX_eq : rX m c = outX m c := by
  funext j
  rw [eq_ix2 j]
  refine (refDz_at _ _ _ _ _).trans ?_
  rw [funext fun k => rZ_at m c (j 0) k, funext fun k => rD_at m c (j 0) k]
  exact dzRef_eq _ _ _ (fin_z m c hr (j 0)) hr.2.2.2.2 (fun k => fin_dy _ (fin_e m c hr (j 0)) k) _

theorem rL_eq : rL m c = outL m c := by
  funext j
  have hj : j = ix2 (0 : Fin 1) (j 1 : Fin 1024) := (eq_ix2 j).trans (congrArg (fun a : Fin 1 => ix2 a (j 1 : Fin 1024)) (Subsingleton.elim (α := Fin 1) _ _))
  rw [hj]
  refine (refL_at _ _).trans ?_
  have hh : Row.Fin' (Ideal.ofBits .f32 0x3F000000#32) := ⟨_, wHalf⟩
  have hs : ∀ r, Row.Fin' (meanSq (eRow m c r)) := fun r => fin_meanSq _ (fin_e m c hr r)
  have e1 : ∀ r : Fin 8192, meanSq (fun k => (rE m c (ix2 r k) : EReal)) = meanSq (eRow m c r) := fun r => congrArg meanSq (funext fun k => rE_at m c r k)
  rw [Finset.sum_congr rfl fun r _ => e1 r]
  show _ = ∑ s : Fin 16, Ideal.ofBits .f32 0x3F000000#32 * ∑ i : Fin 512, meanSq (eRow m c ⟨s.val * 512 + i.val, by omega⟩)
  rw [mul_sum_real _ _ hh _ fun s => Row.fin_sum _ _ fun i => hs _]
  exact congrArg (_ * ·) (Fin.sum_mul_add_congr (f := fun r => meanSq (eRow m c r)) fun s k hl => rfl).symm
end

theorem algebraic : Cert.algebraic_Kernel15Ideal_Reference15Ideal_pre_finite15 := fun m ρ m' ρ' hm ha =>
  ⟨outZ m, outD m, outX m, outG m, outL m,
    (θ_run Kernel15Ideal.defs _ _).mono (fun r h c => ⟨(h c).1.trans (arrZ m c), (h c).2.1.trans (arrD m c), (h c).2.2.1.trans (arrX m c),
        (h c).2.2.2.1.trans (arrG m c), (h c).2.2.2.2.1.trans (arrL m c), (h c).2.2.2.2.2⟩)
      (Kernel15Ideal.Value.run_blocks (F := Ideal) m ρ),
    (θ_run Reference15Ideal.defs _ _).mono (fun r h c => ⟨(h c).1.trans (by
        rw [(ha c).1, (ha c).2.1]
        exact rZ_eq m c), (h c).2.1.trans (by
        rw [(ha c).1, (ha c).2.1, (ha c).2.2.1, (ha c).2.2.2.1, (ha c).2.2.2.2]
        exact rD_eq m c), (h c).2.2.1.trans (by
        unfold Cert.Reference15Ideal.Value.res_main_v57
        rw [(ha c).1, (ha c).2.1, (ha c).2.2.1, (ha c).2.2.2.1, (ha c).2.2.2.2]
        exact rX_eq m c (real_of_pre m c hm)), (h c).2.2.2.1.trans (by
        rw [(ha c).1, (ha c).2.1, (ha c).2.2.1, (ha c).2.2.2.1, (ha c).2.2.2.2]
        exact rG_eq m c), (h c).2.2.2.2.1.trans (by
        rw [(ha c).1, (ha c).2.1, (ha c).2.2.1, (ha c).2.2.2.1, (ha c).2.2.2.2]
        exact rL_eq m c (real_of_pre m c hm)), (h c).2.2.2.2.2⟩) (Reference15Ideal.Value.run (F := Ideal) m' ρ')⟩

/-- The two printed programs' bodies and pipelines are one. -/
theorem same_body : Cert.Kernel15.defs₀ (F := Bits) = Cert.Kernel15Ideal.defs₀ (F := Bits) := by
  unfold Cert.Kernel15.defs₀ Cert.Kernel15Ideal.defs₀
  refine congrArg Defs.onTc (funext fun ℓ => funext fun a => ?_)
  match ℓ, a with
  | ⟨0, _⟩, (t, s) => rfl
theorem same_loose : Cert.Kernel15.cfg0.loose = Cert.Kernel15Ideal.cfg0.loose := funext fun w => by fin_cases w <;> rfl
theorem same_cfg : Cert.Kernel15.cfg0 = Cert.Kernel15Ideal.cfg0 :=
  congrArg (fun l => ({ Cert.Kernel15Ideal.cfg0 with loose := l } : Pipeline.Cfg Cert.Kernel15Ideal.sig Cert.Kernel15Ideal.Λ₀)) same_loose

/-- The statement of the frame at a pipeline and a body table. -/
def FrameAt (m : (ℓ : Loc Kernel15.nD Kernel15.τ Kernel15.sig) → Buf (Elt Bits) ℓ) (ρ : Dev Kernel15.nD → PrngReg)
    (cfg : Pipeline.Cfg Kernel15.sig Kernel15.Λ₀) (d : Defs Kernel15.nD Kernel15.τ Kernel15.sig (Elt Bits) Kernel15.Λ₀) : Prop :=
  θ_run (Pipeline.defs (fun _ => cfg.toPCfg) d : Defs Kernel15.nD Kernel15.τ Kernel15.sig (Elt Bits)
      (Pipeline.Sig Kernel15.Λ₀ (Fin 1) fun p => (Kernel15.pcfgs (F := Bits) p).Adm))
    (onTc (τ := Kernel15.τ) (Kernel15.main (F := Bits))) ⟨m, fun _ => 0, ρ⟩ (fun r => (∀ c : Dev Kernel15.nD,
      r.2.mem ((c.tc : Thread Kernel15.nD Kernel15.τ).loc Kernel15.main_arg0) = m ((c.tc : Thread Kernel15.nD Kernel15.τ).loc Kernel15.main_arg0)
      ∧ r.2.mem ((c.tc : Thread Kernel15.nD Kernel15.τ).loc Kernel15.main_arg1) = m ((c.tc : Thread Kernel15.nD Kernel15.τ).loc Kernel15.main_arg1)
      ∧ r.2.mem ((c.tc : Thread Kernel15.nD Kernel15.τ).loc Kernel15.main_arg2) = m ((c.tc : Thread Kernel15.nD Kernel15.τ).loc Kernel15.main_arg2)
      ∧ r.2.mem ((c.tc : Thread Kernel15.nD Kernel15.τ).loc Kernel15.main_arg3) = m ((c.tc : Thread Kernel15.nD Kernel15.τ).loc Kernel15.main_arg3)
      ∧ r.2.mem ((c.tc : Thread Kernel15.nD Kernel15.τ).loc Kernel15.main_arg4) = m ((c.tc : Thread Kernel15.nD Kernel15.τ).loc Kernel15.main_arg4))
      ∧ r.2.sem = fun _ => 0)

/-- The frame over bit patterns is the idealized program's run, read at bit patterns. -/
theorem frame_kernel : Cert.quiescent_Kernel15 := fun m ρ _ =>
  (congrArg₂ (FrameAt m ρ) same_cfg same_body).mpr (Cert.Kernel15Ideal.Gen.frame (F := Bits) m ρ)

theorem frame_ideal : Cert.quiescent_Kernel15Ideal := fun m ρ _ => Cert.Kernel15Ideal.Gen.frame (F := Ideal) m ρ

theorem frame_ideal_pre : Cert.quiescent_Kernel15Ideal_pre_finite15 := fun m ρ _ => Cert.Kernel15Ideal.Gen.frame (F := Ideal) m ρ

theorem frame_reference : Cert.quiescent_Reference15Ideal := fun m ρ _ =>
  (θ_run Cert.Reference15Ideal.defs _ _).mono (fun r h => ⟨fun c => (h c).2.2.2.2.2, sem_eq_zero_of_no_sems (by decide) r.2⟩)
    (Cert.Reference15Ideal.Value.run (F := Ideal) m ρ)

theorem frame_reference_pre : Cert.quiescent_Reference15Ideal_pre_finite15 := fun m ρ _ => frame_reference m ρ trivial

end Cert.Mm.LossEnd

end
-- ==== Proof.Attn.Words.lean ====
/- Signed comparisons of small index words. -/
module

public import Idealize.ShloMosaic.Lib.WordCmp
public import Mathlib.Data.BitVec
public import Mathlib.Tactic.Ring

@[expose] public section

namespace Cert.Words

open Idealize.ShloMosaic

theorem toInt_diff (a b : Nat) (ha : a < 2 ^ 20) (hb : b < 2 ^ 20) :
    (BitVec.ofNat 32 a - BitVec.ofNat 32 b).toInt = (a : Int) - b := by
  have h31 : (2 : Nat) ^ (32 - 1) = 2147483648 := rfl
  have h20 : (2 : Nat) ^ 20 = 1048576 := rfl
  rw [BitVec.toInt_sub, WordCmp.toInt_ofNat_of_lt (by omega), WordCmp.toInt_ofNat_of_lt (by omega)]
  have e : ((2 ^ 32 : Nat) : Int) = 4294967296 := rfl
  simp only [Int.bmod, e]
  omega

theorem diff_ge (a b c : Nat) (ha : a < 2 ^ 20) (hb : b < 2 ^ 20) (hc : c < 2 ^ 20) :
    IntOp.cmpi .sge (BitVec.ofNat 32 a - BitVec.ofNat 32 b) (BitVec.ofNat 32 c) = BitVec.ofBool (decide (b + c ≤ a)) := by
  have h31 : (2 : Nat) ^ (32 - 1) = 2147483648 := rfl
  have h20 : (2 : Nat) ^ 20 = 1048576 := rfl
  show BitVec.ofBool ((BitVec.ofNat 32 c).sle _) = _
  rw [BitVec.sle, toInt_diff a b ha hb, WordCmp.toInt_ofNat_of_lt (by omega)]
  congr 1
  apply decide_eq_decide.2
  omega

theorem diff_lt (a b c : Nat) (ha : a < 2 ^ 20) (hb : b < 2 ^ 20) (hc : c < 2 ^ 20) :
    IntOp.cmpi .slt (BitVec.ofNat 32 a - BitVec.ofNat 32 b) (BitVec.ofNat 32 c) = BitVec.ofBool (decide (a < b + c)) := by
  have h31 : (2 : Nat) ^ (32 - 1) = 2147483648 := rfl
  have h20 : (2 : Nat) ^ 20 = 1048576 := rfl
  show BitVec.ofBool (BitVec.slt _ (BitVec.ofNat 32 c)) = _
  rw [BitVec.slt, toInt_diff a b ha hb, WordCmp.toInt_ofNat_of_lt (by omega)]
  congr 1
  apply decide_eq_decide.2
  omega

theorem and_bit (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

/-- The place of a query seen from a key, as the programs write it. -/
theorem behind (i u : Nat) :
    IntOp.subi (BitVec.ofNat 32 i) (IntOp.subi (BitVec.ofNat 32 u) (128#32)) = BitVec.ofNat 32 (i + 128) - BitVec.ofNat 32 u := by
  show BitVec.ofNat 32 i - (BitVec.ofNat 32 u - 128#32) = _
  rw [BitVec.ofNat_add]; ring

theorem place (n u : Nat) :
    IntOp.subi (IntOp.addi (IntOp.muli (BitVec.ofNat 32 n) (128#32)) (BitVec.ofNat 32 u)) (128#32)
      = BitVec.ofNat 32 (n * 128 + u) - BitVec.ofNat 32 128 := by
  show BitVec.ofNat 32 n * 128#32 + BitVec.ofNat 32 u - 128#32 = _
  rw [BitVec.ofNat_add, BitVec.ofNat_mul]

end Cert.Words
-- ==== Proof.Attn.Bias.lean ====
/- The mask the kernel is launched with: the block of the first grid point and that of the others. -/
module

public import proofs.«01_k».proof.Proof.Attn.Run
public import proofs.«01_k».proof.Proof.Attn.Words
public import proofs.«01_k».proof.Proof.Attn.Spec
public import Idealize.ShloMosaic.Lib.Pipeline.ValueKit

@[expose] public section

set_option maxRecDepth 16384

noncomputable section

namespace Cert.KernelIdeal.Attn

open Cert.KernelIdeal Cert.KernelIdeal.Gen
open Idealize.ShloMosaic Idealize.ShloMosaic.TcCoe

variable (m : (ℓ : Loc nD τ sig) → Buf (Elt Ideal) ℓ)

/-- The mask's two blocks. -/
def maskIn (c : Dev nD) : FVec Ideal S2x1024x256 .f32 := V m c main_v19

theorem mod_word (r : Nat) (h : r < 1024) : IntOp.andi (BitVec.ofNat 32 r) 127#32 = BitVec.ofNat 32 (r % 128) := by
  apply BitVec.eq_of_toNat_eq
  show (BitVec.ofNat 32 r &&& 127#32).toNat = _
  rw [BitVec.toNat_and, BitVec.toNat_ofNat, BitVec.toNat_ofNat, Nat.mod_eq_of_lt (by omega : r < 2 ^ 32)]
  exact (Nat.and_two_pow_sub_one_eq_mod r 7).trans (Nat.mod_eq_of_lt (by omega)).symm

/-- How far a key is behind a query, the band of the mask, and the band of the first block. -/
def gap : IVec S1024x256 32 :=
  subi (andi (iotaInDim S1024x256 32 0) (broadcastInDim S1024x256 ![] bcast_S_S1024x256 (constantI S_ 32 127#32)))
    (subi (iotaInDim S1024x256 32 1) (broadcastInDim S1024x256 ![] bcast_S_S1024x256 (constantI S_ 32 128#32)))
def band : IVec S1024x256 1 :=
  andi (cmpi .sge gap (broadcastInDim S1024x256 ![] bcast_S_S1024x256 (constantI S_ 32 0#32)))
    (cmpi .slt gap (broadcastInDim S1024x256 ![] bcast_S_S1024x256 (constantI S_ 32 128#32)))
def bandFirst : IVec S1024x256 1 :=
  andi band (cmpi .sge (iotaInDim S1024x256 32 1) (broadcastInDim S1024x256 ![] bcast_S_S1024x256 (constantI S_ 32 128#32)))
def bands : IVec S2x1024x256 1 :=
  concatenate S2x1024x256 0 [⟨S1x1024x256, broadcastInDim S1x1024x256 ![1, 2] bcast_S1024x256_S1x1024x256_1_2 band⟩,
    ⟨S1x1024x256, broadcastInDim S1x1024x256 ![1, 2] bcast_S1024x256_S1x1024x256_1_2 bandFirst⟩] concatenates_S1x1024x256_S1x1024x256_S2x1024x256_d0

theorem maskIn_eq (c : Dev nD) : maskIn m c = select bands (broadcastInDim S2x1024x256 ![] bcast_S_S2x1024x256 (constant S_ .f32 0x00000000#32))
    (broadcastInDim S2x1024x256 ![] bcast_S_S2x1024x256 (constant S_ .f32 0xFF800000#32)) := by
  unfold maskIn V
  simp only [hostOps0, hostOps0_1, hostOps0_2, List.flatten_cons, List.flatten_nil, List.append_nil, List.cons_append, List.nil_append]
  after_results
  rfl

theorem band_at (r : Fin 1024) (u : Fin 256) :
    band (ix2 r u) = BitVec.ofBool (decide (r.val % 128 < u.val ∧ u.val ≤ r.val % 128 + 128)) := by
  refine Eq.trans (b := IntOp.andi
    (IntOp.cmpi .sge (IntOp.subi (IntOp.andi (BitVec.ofNat 32 r.val) 127#32) (IntOp.subi (BitVec.ofNat 32 u.val) 128#32)) 0#32)
    (IntOp.cmpi .slt (IntOp.subi (IntOp.andi (BitVec.ofNat 32 r.val) 127#32) (IntOp.subi (BitVec.ofNat 32 u.val) 128#32)) 128#32)) ?_ ?_
  · unfold band gap
    pointwise <;> rfl
  · rw [mod_word r.val r.isLt, Words.behind, Words.diff_ge _ _ 0 (by omega) (by omega) (by omega), Words.diff_lt _ _ 128 (by omega) (by omega) (by omega),
      Words.and_bit]
    refine congrArg BitVec.ofBool (decide_eq_decide.2 ?_)
    omega

theorem bandFirst_at (r : Fin 1024) (u : Fin 256) :
    bandFirst (ix2 r u) = BitVec.ofBool (decide ((r.val % 128 < u.val ∧ u.val ≤ r.val % 128 + 128) ∧ 128 ≤ u.val)) := by
  refine Eq.trans (b := IntOp.andi (band (ix2 r u)) (IntOp.cmpi .sge (BitVec.ofNat 32 u.val) 128#32)) ?_ ?_
  · unfold bandFirst
    pointwise <;> rfl
  · have e : IntOp.cmpi .sge (BitVec.ofNat 32 u.val) 128#32 = BitVec.ofBool (decide (128 ≤ u.val)) := by
      have h := Words.diff_ge u.val 0 128 (by omega) (by omega) (by omega)
      rw [BitVec.sub_zero] at h
      rw [h]
    rw [e, band_at, Words.and_bit]

theorem mask_at (c : Dev nD) (b : Fin 2) (r : Fin 1024) (u : Fin 256) :
    maskIn m c (ix3 b r u) = if (r.val % 128 < u.val ∧ u.val ≤ r.val % 128 + 128) ∧ (b.val = 1 → 128 ≤ u.val) then 0 else ⊥ := by
  rw [maskIn_eq]
  refine Eq.trans (b := Scalar.select (if h : b.val < 1 then band (ix2 r u) else bandFirst (ix2 r u)) (Ideal.ofBits .f32 0x00000000#32)
    (Ideal.ofBits .f32 0xFF800000#32)) ?_ ?_
  · unfold bands
    generalize band = x
    generalize bandFirst = y
    pointwise <;> rfl
  · rw [Ideal.ofBits_zero_f32, Spec.bot_word, band_at, bandFirst_at]
    by_cases hb : b.val < 1
    · rw [dif_pos hb]
      by_cases hp : r.val % 128 < u.val ∧ u.val ≤ r.val % 128 + 128
      · rw [if_pos ⟨hp, fun h => absurd h (by omega)⟩, decide_eq_true hp]; rfl
      · rw [if_neg fun h => hp h.1, decide_eq_false hp]; rfl
    · rw [dif_neg hb]
      have hb1 : b.val = 1 := by omega
      by_cases hp : (r.val % 128 < u.val ∧ u.val ≤ r.val % 128 + 128) ∧ 128 ≤ u.val
      · rw [if_pos ⟨hp.1, fun _ => hp.2⟩, decide_eq_true hp]; rfl
      · rw [if_neg fun h => hp ⟨h.1, h.2 hb1⟩, decide_eq_false hp]; rfl

end Cert.KernelIdeal.Attn

end
-- ==== Proof.Attn.HeadRows.lean ====
/- One key head's chain of values at a grid point, read at an index: scores, weights and the gradients of the scores. -/
module

public import proofs.«01_k».proof.Proof.Attn.Conds
public import proofs.«01_k».proof.Proof.Attn.Spec

@[expose] public section

set_option maxRecDepth 16384

noncomputable section

namespace Cert.KernelIdeal.Attn

open Cert.KernelIdeal Cert.KernelIdeal.Gen
open Idealize.ShloMosaic Idealize.ShloMosaic.TcCoe

/-- The scores of the even heads, the queries by the keys in the low lanes. -/
def lowScores (q : FVec Ideal S512x128 .f32) (k : FVec Ideal S256x128 .f32) : FVec Ideal S512x256 .f32 :=
  matmul dot_S512x128_S256x128_S512x256_1_1_0_0_n_n none (truncf .bf16 q bitsLt_bf16_f32) (truncf .bf16 k bitsLt_bf16_f32) (constant S512x256 .f32 0x00000000#32)

variable (b : FVec Ideal S1024x256 .f32) (z : FVec Ideal S1x8 .f32) (kl kh vl vh : FVec Ideal S256x128 .f32) (q : FVec Ideal S512x128 .f32)
  (e0 e1 e2 e3 : FVec Ideal S128x128 .f32) (p : FVec Ideal S1024x256 .f32) (ps : FVec Ideal S1024x1 .f32)

theorem max_arrays {s : Shape} (x y : FVec Ideal s .f32) (j : s.Idx) : maximumf x y j = max (x j) (y j) := by
  rfl

theorem pay22_at (r : Fin 1024) (u : Fin 256) :
    k0_pay22 b kh q (lowScores q kl) (ix2 r u)
      = (if h : r.val < 512 then ∑ l : Fin 128, q (ix2 (⟨r.val, h⟩ : Fin 512) l) * kl (ix2 u l)
          else ∑ l : Fin 128, q (ix2 (⟨r.val - 512, by omega⟩ : Fin 512) l) * kh (ix2 u l)) + b (ix2 r u) := by
  unfold k0_pay22 lowScores
  pointwise <;> rfl

theorem pay24_at (r : Fin 1024) :
    k0_pay24 z (ix2 r (0 : Fin 1)) = ∑ g : Fin 8, Scalar.select (k0_pay23 (ix2 r g)) (z (ix2 (0 : Fin 1) g)) 0 := by
  unfold k0_pay24
  pointwise <;> rfl

theorem pay25_at (x : FVec Ideal S512x256 .f32) (r : Fin 1024) :
    k0_pay25 b kh z q x (ix2 r (0 : Fin 1))
      = max (Finset.univ.fold max ⊥ fun u : Fin 256 => k0_pay22 b kh q x (ix2 r u)) (k0_pay24 z (ix2 r (0 : Fin 1))) := by
  unfold k0_pay25
  rw [max_arrays]
  refine congrArg (fun t : EReal => max t (k0_pay24 (F := Ideal) z (ix2 r (0 : Fin 1)))) ?_
  generalize k0_pay22 b kh q x = s
  pointwise <;> rfl

theorem pay26_at (x : FVec Ideal S512x256 .f32) (r : Fin 1024) (u : Fin 256) :
    k0_pay26 b kh z q x (ix2 r u) = Ideal.exp (k0_pay22 b kh q x (ix2 r u) - k0_pay25 b kh z q x (ix2 r (0 : Fin 1))) := by
  unfold k0_pay26
  pointwise <;> rfl

theorem pay27_at (x : FVec Ideal S512x256 .f32) (r : Fin 1024) :
    k0_pay27 b kh z q x (ix2 r (0 : Fin 1)) = Ideal.exp ((k0_pay24 (F := Ideal) z (ix2 r (0 : Fin 1)) : EReal) - k0_pay25 b kh z q x (ix2 r (0 : Fin 1))) := by
  unfold k0_pay27
  pointwise <;> rfl

theorem pay28_at (x : FVec Ideal S512x256 .f32) (r : Fin 1024) :
    k0_pay28 b kh z q x (ix2 r (0 : Fin 1))
      = Ideal.div 1 ((∑ u : Fin 256, k0_pay26 b kh z q x (ix2 r u)) + k0_pay27 b kh z q x (ix2 r (0 : Fin 1))) := by
  unfold k0_pay28
  pointwise <;> rfl

theorem pay29_at (x : FVec Ideal S512x256 .f32) (r : Fin 1024) (u : Fin 256) :
    k0_pay29 b kh z q x (ix2 r u) = k0_pay26 b kh z q x (ix2 r u) * k0_pay28 b kh z q x (ix2 r (0 : Fin 1)) := by
  unfold k0_pay29
  pointwise <;> rfl

theorem pay30_at (x : FVec Ideal S512x256 .f32) (r : Fin 1024) :
    k0_pay30 b kh z q x (ix2 r (0 : Fin 1)) = k0_pay27 b kh z q x (ix2 r (0 : Fin 1)) * k0_pay28 b kh z q x (ix2 r (0 : Fin 1)) := by
  unfold k0_pay30
  pointwise <;> rfl

theorem pay36_at (r : Fin 1024) (u : Fin 256) :
    k0_pay36 vl vh e0 e1 e2 e3 (ix2 r u)
      = if h : r.val < 512 then ∑ l : Fin 128, k0_pay33 (F := Ideal) e0 e1 e2 e3 (ix2 (⟨r.val, h⟩ : Fin 512) l) * vl (ix2 u l)
          else ∑ l : Fin 128, k0_pay33 (F := Ideal) e0 e1 e2 e3 (ix2 (⟨r.val - 512, by omega⟩ : Fin 512) l) * vh (ix2 u l) := by
  refine Eq.trans (b := (if h : r.val < 512 then 0 else ∑ l : Fin 128, k0_pay33 (F := Ideal) e0 e1 e2 e3 (ix2 (⟨r.val - 512, by omega⟩ : Fin 512) l) * vh (ix2 u l))
    + (if h : r.val < 512 then ∑ l : Fin 128, k0_pay33 (F := Ideal) e0 e1 e2 e3 (ix2 (⟨r.val, h⟩ : Fin 512) l) * vl (ix2 u l) else 0)) ?_ ?_
  · unfold k0_pay36
    generalize k0_pay33 (F := Ideal) e0 e1 e2 e3 = e
    pointwise <;> rfl
  · by_cases h : r.val < 512
    · rw [dif_pos h, dif_pos h, dif_pos h, zero_add]
    · rw [dif_neg h, dif_neg h, dif_neg h, add_zero]

theorem pay37_at (r : Fin 1024) :
    k0_pay37 vl vh p e0 e1 e2 e3 (ix2 r (0 : Fin 1)) = ∑ u : Fin 256, k0_pay36 vl vh e0 e1 e2 e3 (ix2 r u) * p (ix2 r u) := by
  unfold k0_pay37
  generalize k0_pay36 vl vh e0 e1 e2 e3 = e
  pointwise <;> rfl

theorem pay38_at (r : Fin 1024) (u : Fin 256) :
    k0_pay38 vl vh p e0 e1 e2 e3 (ix2 r u)
      = p (ix2 r u) * (k0_pay36 vl vh e0 e1 e2 e3 (ix2 r u) - k0_pay37 vl vh p e0 e1 e2 e3 (ix2 r (0 : Fin 1))) := by
  unfold k0_pay38
  generalize k0_pay36 vl vh e0 e1 e2 e3 = e
  generalize k0_pay37 vl vh p e0 e1 e2 e3 = f
  pointwise <;> rfl

theorem pay39_at (r : Fin 1024) (g : Fin 8) :
    k0_pay39 vl vh p ps e0 e1 e2 e3 (ix2 r g) = (0 - ps (ix2 r (0 : Fin 1))) * k0_pay37 vl vh p e0 e1 e2 e3 (ix2 r (0 : Fin 1)) := by
  unfold k0_pay39
  generalize k0_pay37 vl vh p e0 e1 e2 e3 = f
  pointwise
  rw [Fin.sum_univ_one]

end Cert.KernelIdeal.Attn

end
-- ==== Proof.Attn.HeadParts.lean ====
/- One key head's products and sums at a grid point, read at an index: the cotangent rows, the sinks' sums, the gradients of keys, values and queries. -/
module

public import proofs.«01_k».proof.Proof.Attn.Conds
public import proofs.«01_k».proof.Proof.Attn.Spec

@[expose] public section

set_option maxRecDepth 16384

noncomputable section

namespace Cert.KernelIdeal.Attn

open Cert.KernelIdeal Cert.KernelIdeal.Gen
open Idealize.ShloMosaic Idealize.ShloMosaic.TcCoe

variable (kl kh : FVec Ideal S256x128 .f32) (q : FVec Ideal S512x128 .f32)
  (e0 e1 e2 e3 : FVec Ideal S128x128 .f32) (p : FVec Ideal S512x256 .f32) (w : FVec Ideal S1024x256 .f32)

theorem pay33_at (r : Fin 512) (l : Fin 128) :
    k0_pay33 (F := Ideal) e0 e1 e2 e3 (ix2 r l)
      = if h : r.val < 128 then e0 (ix2 (⟨r.val, h⟩ : Fin 128) l)
        else if h : r.val < 256 then e1 (ix2 (⟨r.val - 128, by omega⟩ : Fin 128) l)
        else if h : r.val < 384 then e2 (ix2 (⟨r.val - 256, by omega⟩ : Fin 128) l)
        else e3 (ix2 (⟨r.val - 384, by omega⟩ : Fin 128) l) := by
  unfold k0_pay33
  pointwise
  by_cases h1 : r.val < 128
  · have h2 : r.val < 256 := by omega
    have h3 : r.val < 384 := by omega
    simp only [dif_pos h1, dif_pos h2, dif_pos h3, zero_add, add_zero]
  · by_cases h2 : r.val < 256
    · have h3 : r.val < 384 := by omega
      simp only [dif_neg h1, dif_pos h2, dif_pos h3, zero_add, add_zero]
    · by_cases h3 : r.val < 384
      · simp only [dif_neg h1, dif_neg h2, dif_pos h3, zero_add, add_zero]
      · simp only [dif_neg h1, dif_neg h2, dif_neg h3, zero_add, add_zero]

theorem pay20_at (q0 q1 q2 q3 : FVec Ideal S128x128 .f32) (r : Fin 512) (l : Fin 128) :
    k0_pay20 q0 q1 q2 q3 (ix2 r l)
      = (if h : r.val < 128 then q0 (ix2 (⟨r.val, h⟩ : Fin 128) l)
        else if h : r.val < 256 then q1 (ix2 (⟨r.val - 128, by omega⟩ : Fin 128) l)
        else if h : r.val < 384 then q2 (ix2 (⟨r.val - 256, by omega⟩ : Fin 128) l)
        else q3 (ix2 (⟨r.val - 384, by omega⟩ : Fin 128) l)) * Spec.c8 := by
  unfold k0_pay20
  pointwise
  refine congrArg (· * Spec.c8) ?_
  by_cases h1 : r.val < 128
  · rw [dif_pos h1, dif_pos h1]
  · rw [dif_neg h1, dif_neg h1]
    by_cases h2 : r.val < 256
    · rw [dif_pos h2, dif_pos (show r.val - 128 < 128 by omega)]
    · rw [dif_neg h2, dif_neg (show ¬ r.val - 128 < 128 by omega)]
      by_cases h3 : r.val < 384
      · rw [dif_pos h3, dif_pos (show r.val - 128 - 128 < 128 by omega)]
        exact congrArg (fun a => q2 (ix2 a l)) (Fin.ext (by show r.val - 128 - 128 = r.val - 256; omega))
      · rw [dif_neg h3, dif_neg (show ¬ r.val - 128 - 128 < 128 by omega)]
        exact congrArg (fun a => q3 (ix2 a l)) (Fin.ext (by show r.val - 128 - 128 - 128 = r.val - 384; omega))

theorem pay34_at (u : Fin 256) (l : Fin 128) :
    k0_pay34 p e0 e1 e2 e3 (ix2 u l) = ∑ r : Fin 512, p (ix2 r u) * k0_pay33 (F := Ideal) e0 e1 e2 e3 (ix2 r l) := by
  unfold k0_pay34
  generalize k0_pay33 (F := Ideal) e0 e1 e2 e3 = e
  pointwise <;> rfl

theorem pay35_at (u : Fin 256) (l : Fin 128) :
    k0_pay35 p e0 e1 e2 e3 (ix2 u l) = ∑ r : Fin 512, p (ix2 r u) * k0_pay33 (F := Ideal) e0 e1 e2 e3 (ix2 r l) := by
  unfold k0_pay35
  generalize k0_pay33 (F := Ideal) e0 e1 e2 e3 = e
  pointwise <;> rfl

theorem pay40_at (o : IVec S1024x8 1) (t : FVec Ideal S1024x8 .f32) (g : Fin 8) :
    k0_pay40 o t (ix2 (0 : Fin 1) g) = ∑ r : Fin 1024, Scalar.select (o (ix2 r g)) (t (ix2 r g)) 0 := by
  unfold k0_pay40
  pointwise <;> rfl

theorem pay43_at (u : Fin 256) (l : Fin 128) :
    k0_pay43 q w (ix2 u l) = ∑ r : Fin 512, w (ix2 (⟨512 + r.val, by omega⟩ : Fin 1024) u) * q (ix2 r l) := by
  unfold k0_pay43 k0_pay42
  pointwise <;> rfl

theorem pay44_at (u : Fin 256) (l : Fin 128) :
    k0_pay44 q w (ix2 u l) = ∑ r : Fin 512, w (ix2 (⟨r.val, by omega⟩ : Fin 1024) u) * q (ix2 r l) := by
  unfold k0_pay44 k0_pay41
  pointwise <;> rfl

theorem pay45_at (r : Fin 512) (l : Fin 128) :
    k0_pay45 kl kh w (ix2 r l)
      = (∑ u : Fin 256, w (ix2 (⟨512 + r.val, by omega⟩ : Fin 1024) u) * kh (ix2 u l)
        + ∑ u : Fin 256, w (ix2 (⟨r.val, by omega⟩ : Fin 1024) u) * kl (ix2 u l)) * Spec.c8 := by
  unfold k0_pay45 k0_pay42 k0_pay41
  pointwise <;> rfl

end Cert.KernelIdeal.Attn

end
-- ==== Proof.Attn.HeadWords.lean ====
/- The words by which the kernel tells the rows of its heads. -/
module

public import proofs.«01_k».proof.Proof.Attn.Conds
public import proofs.«01_k».proof.Proof.Attn.Spec

@[expose] public section

set_option maxRecDepth 16384

noncomputable section

namespace Cert.KernelIdeal.Attn

open Cert.KernelIdeal Cert.KernelIdeal.Gen
open Idealize.ShloMosaic Idealize.ShloMosaic.TcCoe

/-- The head a row belongs to, as the kernel's words say it. -/
theorem pay23_at (r : Fin 1024) (g : Fin 8) :
    k0_pay23 (ix2 r g) = BitVec.ofBool (decide (2 * (r.val % 512 / 128) + r.val / 512 = g.val)) := by
  revert r g
  decide +kernel

end Cert.KernelIdeal.Attn

end
-- ==== Proof.Attn.Sums.lean ====
/- The rows of a key head regrouped: 1024 rows are 8 heads of 128 queries, a half of them 4 heads. -/
module

public import proofs.«01_k».proof.Proof.Attn.Spec

@[expose] public section

noncomputable section

namespace Cert.Spec

/-- The head and the query of a row of a key head's 1024. -/
def hd (r : Fin 1024) : Fin 8 := ⟨2 * (r.val % 512 / 128) + r.val / 512, by omega⟩
def qr (r : Fin 1024) : Fin 128 := ⟨r.val % 128, by omega⟩

/-- Rows against heads and queries. -/
def rows : Fin 1024 ≃ Fin 8 × Fin 128 where
  toFun r := (hd r, qr r)
  invFun k := ⟨k.1.val % 2 * 512 + k.1.val / 2 * 128 + k.2.val, by omega⟩
  left_inv r := Fin.ext (by
    show (2 * (r.val % 512 / 128) + r.val / 512) % 2 * 512 + (2 * (r.val % 512 / 128) + r.val / 512) / 2 * 128 + r.val % 128 = r.val
    omega)
  right_inv k := Prod.ext
    (Fin.ext (by
      show 2 * ((k.1.val % 2 * 512 + k.1.val / 2 * 128 + k.2.val) % 512 / 128) + (k.1.val % 2 * 512 + k.1.val / 2 * 128 + k.2.val) / 512 = k.1.val
      omega))
    (Fin.ext (by
      show (k.1.val % 2 * 512 + k.1.val / 2 * 128 + k.2.val) % 128 = k.2.val
      omega))

theorem sum_rows (f : Fin 8 → Fin 128 → EReal) : ∑ r, f (hd r) (qr r) = ∑ g, ∑ i, f g i :=
  (Fintype.sum_equiv rows _ (fun k : Fin 8 × Fin 128 => f k.1 k.2) fun _ => rfl).trans (Fintype.sum_prod_type _)

/-- The rows of one head picked out of all. -/
theorem sum_head (f : Fin 8 → Fin 128 → EReal) (g : Fin 8) : (∑ r, if hd r = g then f (hd r) (qr r) else 0) = ∑ i, f g i := by
  refine (sum_rows fun g' i => if g' = g then f g' i else 0).trans ?_
  rw [Finset.sum_comm]
  exact Finset.sum_congr rfl fun i _ => by simp

/-- Half of the rows. -/
def halfRows : Fin 512 ≃ Fin 4 × Fin 128 where
  toFun r := (⟨r.val / 128, by omega⟩, ⟨r.val % 128, by omega⟩)
  invFun k := ⟨k.1.val * 128 + k.2.val, by omega⟩
  left_inv r := Fin.ext (by show r.val / 128 * 128 + r.val % 128 = r.val; omega)
  right_inv k := Prod.ext (Fin.ext (by show (k.1.val * 128 + k.2.val) / 128 = k.1.val; omega))
    (Fin.ext (by show (k.1.val * 128 + k.2.val) % 128 = k.2.val; omega))

theorem sum_half (f : Fin 4 → Fin 128 → EReal) :
    (∑ r : Fin 512, f ⟨r.val / 128, by omega⟩ ⟨r.val % 128, by omega⟩) = ∑ j, ∑ i, f j i :=
  (Fintype.sum_equiv halfRows _ (fun k : Fin 4 × Fin 128 => f k.1 k.2) fun _ => rfl).trans (Fintype.sum_prod_type _)

/-- The even heads and the odd ones are all heads. -/
theorem sum_even_odd (f : Fin 8 → EReal) :
    (∑ j : Fin 4, f ⟨2 * j.val, by omega⟩) + (∑ j : Fin 4, f ⟨2 * j.val + 1, by omega⟩) = ∑ g, f g := by
  rw [Fin.sum_univ_four, Fin.sum_univ_four, Fin.sum_univ_eight]
  show f 0 + f 2 + f 4 + f 6 + (f 1 + f 3 + f 5 + f 7) = _
  abel

/-- The lanes of two heads. -/
theorem sum_lanes (f : Fin 128 → EReal) :
    ∑ l, f l = (∑ d : Fin 64, f ⟨d.val, by omega⟩) + ∑ d : Fin 64, f ⟨64 + d.val, by omega⟩ :=
  Fin.sum_univ_add (a := 64) (b := 64) f

end Cert.Spec

end
-- ==== Proof.Attn.Head.lean ====
/- One key head's chain at a grid point: what its weights, gradients and sums are in terms of the entries. -/
module

public import proofs.«01_k».proof.Proof.Attn.HeadRows
public import proofs.«01_k».proof.Proof.Attn.HeadParts
public import proofs.«01_k».proof.Proof.Attn.HeadWords
public import proofs.«01_k».proof.Proof.Attn.Sums

@[expose] public section

set_option maxRecDepth 16384

noncomputable section

namespace Cert.KernelIdeal.Attn

open Cert.KernelIdeal Cert.KernelIdeal.Gen
open Idealize.ShloMosaic Idealize.ShloMosaic.TcCoe
open Cert.Spec (hd qr)

/-- What a key head's chain reads, by entries: the mask, the sinks, the keys and values in the low lanes and in the high lanes, the
    scaled queries and the cotangents, each of its 512 rows two heads side by side. -/
structure Head where
  kp : Fin 128 → Fin 256 → Prop
  dec : ∀ i u, Decidable (kp i u)
  zf : Fin 8 → EReal
  kf : Fin 256 → Fin 64 → EReal
  vf : Fin 256 → Fin 64 → EReal
  qf : Fin 128 → Fin 8 → Fin 64 → EReal
  of : Fin 128 → Fin 8 → Fin 64 → EReal

instance (H : Head) (i : Fin 128) (u : Fin 256) : Decidable (H.kp i u) := H.dec i u

/-- A row's entry by head and lane. -/
def pairAt (f : Fin 128 → Fin 8 → Fin 64 → EReal) (r : Fin 512) (l : Fin 128) : EReal :=
  f ⟨r.val % 128, by omega⟩ ⟨2 * (r.val / 128) + l.val / 64, by omega⟩ ⟨l.val % 64, by omega⟩
def lowAt (f : Fin 256 → Fin 64 → EReal) (u : Fin 256) (l : Fin 128) : EReal := if h : l.val < 64 then f u ⟨l.val, h⟩ else 0
def highAt (f : Fin 256 → Fin 64 → EReal) (u : Fin 256) (l : Fin 128) : EReal := if l.val < 64 then 0 else f u ⟨l.val - 64, by omega⟩

namespace Head

variable (H : Head)

def s (g : Fin 8) (i : Fin 128) (u : Fin 256) : EReal := if H.kp i u then ∑ d, H.qf i g d * H.kf u d else ⊥
def d (g : Fin 8) (i : Fin 128) (u : Fin 256) : EReal := ∑ e, H.of i g e * H.vf u e
def pr (g : Fin 8) (i : Fin 128) (u : Fin 256) : EReal := Row.pr (H.s g i) (H.zf g) u
def gr (g : Fin 8) (i : Fin 128) (u : Fin 256) : EReal := Row.grad (H.s g i) (H.zf g) (H.d g i) u
def gz (g : Fin 8) (i : Fin 128) : EReal := Row.gradz (H.s g i) (H.zf g) (H.d g i)

end Head

/-- A row of the products of pairs by lanes: its head's lanes alone. -/
theorem half_dot (a : FVec Ideal S512x128 .f32) (af : Fin 128 → Fin 8 → Fin 64 → EReal) (ha : ∀ r l, a (ix2 r l) = pairAt af r l)
    (xl xh : FVec Ideal S256x128 .f32) (xf : Fin 256 → Fin 64 → EReal) (hl : ∀ u l, xl (ix2 u l) = lowAt xf u l)
    (hh : ∀ u l, xh (ix2 u l) = highAt xf u l) (r : Fin 1024) (u : Fin 256) :
    (if h : r.val < 512 then ∑ l : Fin 128, a (ix2 (⟨r.val, h⟩ : Fin 512) l) * xl (ix2 u l)
      else ∑ l : Fin 128, a (ix2 (⟨r.val - 512, by omega⟩ : Fin 512) l) * xh (ix2 u l)) = ∑ e, af (qr r) (hd r) e * xf u e := by
  by_cases h : r.val < 512
  · rw [dif_pos h, Spec.sum_lanes]
    have e1 : ∀ e : Fin 64, xl (ix2 u (⟨e.val, by omega⟩ : Fin 128)) = xf u e := fun e => (hl _ _).trans (dif_pos e.isLt)
    have e2 : ∀ e : Fin 64, xl (ix2 u (⟨64 + e.val, by omega⟩ : Fin 128)) = 0 := fun e =>
      (hl _ _).trans (dif_neg (by show ¬ 64 + e.val < 64; omega))
    simp only [e1, e2, mul_zero, Finset.sum_const_zero, add_zero]
    refine Finset.sum_congr rfl fun e _ => congrArg (· * _) ((ha _ _).trans ?_)
    refine congr (congr (congrArg af (Fin.ext rfl)) (Fin.ext ?_)) (Fin.ext ?_)
    · show 2 * (r.val / 128) + e.val / 64 = 2 * (r.val % 512 / 128) + r.val / 512
      omega
    · show e.val % 64 = e.val
      omega
  · rw [dif_neg h, Spec.sum_lanes]
    have e1 : ∀ e : Fin 64, xh (ix2 u (⟨64 + e.val, by omega⟩ : Fin 128)) = xf u e := fun e =>
      (hh _ _).trans ((if_neg (by show ¬ 64 + e.val < 64; omega)).trans (congrArg (xf u) (Fin.ext (by show 64 + e.val - 64 = e.val; omega))))
    have e2 : ∀ e : Fin 64, xh (ix2 u (⟨e.val, by omega⟩ : Fin 128)) = 0 := fun e => (hh _ _).trans (if_pos e.isLt)
    simp only [e1, e2, mul_zero, Finset.sum_const_zero, zero_add]
    refine Finset.sum_congr rfl fun e _ => congrArg (· * _) ((ha _ _).trans ?_)
    refine congr (congr (congrArg af (Fin.ext ?_)) (Fin.ext ?_)) (Fin.ext ?_)
    · show (r.val - 512) % 128 = r.val % 128
      omega
    · show 2 * ((r.val - 512) / 128) + (64 + e.val) / 64 = 2 * (r.val % 512 / 128) + r.val / 512
      omega
    · show (64 + e.val) % 64 = e.val
      omega

/-- The odd heads' rows against the pairs, and the even heads'. -/
theorem high_cols (w : FVec Ideal S1024x256 .f32) (f : Fin 8 → Fin 128 → Fin 256 → EReal) (hw : ∀ r u, w (ix2 r u) = f (hd r) (qr r) u)
    (a : FVec Ideal S512x128 .f32) (af : Fin 128 → Fin 8 → Fin 64 → EReal) (ha : ∀ r l, a (ix2 r l) = pairAt af r l) (u : Fin 256) (l : Fin 128) :
    (∑ r : Fin 512, w (ix2 (⟨512 + r.val, by omega⟩ : Fin 1024) u) * a (ix2 r l))
      = ∑ j : Fin 4, ∑ i, f ⟨2 * j.val + 1, by omega⟩ i u * af i ⟨2 * j.val + l.val / 64, by omega⟩ ⟨l.val % 64, by omega⟩ := by
  refine Eq.trans ?_ (Spec.sum_half fun j i => f ⟨2 * j.val + 1, by omega⟩ i u * af i ⟨2 * j.val + l.val / 64, by omega⟩ ⟨l.val % 64, by omega⟩)
  refine Finset.sum_congr rfl fun r _ => ?_
  rw [hw, ha]
  refine congrArg₂ (· * ·) (congrFun (congr (congrArg f (Fin.ext ?_)) (Fin.ext ?_)) u) rfl
  · show 2 * ((512 + r.val) % 512 / 128) + (512 + r.val) / 512 = 2 * (r.val / 128) + 1
    omega
  · show (512 + r.val) % 128 = r.val % 128
    omega

theorem low_cols (w : FVec Ideal S1024x256 .f32) (f : Fin 8 → Fin 128 → Fin 256 → EReal) (hw : ∀ r u, w (ix2 r u) = f (hd r) (qr r) u)
    (a : FVec Ideal S512x128 .f32) (af : Fin 128 → Fin 8 → Fin 64 → EReal) (ha : ∀ r l, a (ix2 r l) = pairAt af r l) (u : Fin 256) (l : Fin 128) :
    (∑ r : Fin 512, w (ix2 (⟨r.val, by omega⟩ : Fin 1024) u) * a (ix2 r l))
      = ∑ j : Fin 4, ∑ i, f ⟨2 * j.val, by omega⟩ i u * af i ⟨2 * j.val + l.val / 64, by omega⟩ ⟨l.val % 64, by omega⟩ := by
  refine Eq.trans ?_ (Spec.sum_half fun j i => f ⟨2 * j.val, by omega⟩ i u * af i ⟨2 * j.val + l.val / 64, by omega⟩ ⟨l.val % 64, by omega⟩)
  refine Finset.sum_congr rfl fun r _ => ?_
  rw [hw, ha]
  refine congrArg₂ (· * ·) (congrFun (congr (congrArg f (Fin.ext ?_)) (Fin.ext ?_)) u) rfl
  · show 2 * (r.val % 512 / 128) + r.val / 512 = 2 * (r.val / 128)
    omega
  · show r.val % 128 = r.val % 128
    omega

/-- The two together, lane by lane: a sum over the key head's eight heads. -/
theorem cols (f : Fin 8 → Fin 128 → Fin 256 → EReal) (af : Fin 128 → Fin 8 → Fin 64 → EReal) (u : Fin 256) (e : Fin 64) (lo hi : EReal)
    (hlo : lo = ∑ j : Fin 4, ∑ i, f ⟨2 * j.val, by omega⟩ i u * af i ⟨2 * j.val, by omega⟩ e)
    (hhi : hi = ∑ j : Fin 4, ∑ i, f ⟨2 * j.val + 1, by omega⟩ i u * af i ⟨2 * j.val + 1, by omega⟩ e) :
    lo + hi = ∑ g, ∑ i, f g i u * af i g e := by
  rw [hlo, hhi]
  exact Spec.sum_even_odd fun g => ∑ i, f g i u * af i g e

section Chain

variable (H : Head) (b : FVec Ideal S1024x256 .f32) (z : FVec Ideal S1x8 .f32) (kl kh vl vh : FVec Ideal S256x128 .f32) (q : FVec Ideal S512x128 .f32)
  (e0 e1 e2 e3 : FVec Ideal S128x128 .f32)

/-- The arrays hold the entries. -/
structure Holds : Prop where
  hb : ∀ r u, b (ix2 r u) = if H.kp (qr r) u then 0 else ⊥
  hz : ∀ g, z (ix2 (0 : Fin 1) g) = H.zf g
  hkl : ∀ u l, kl (ix2 u l) = lowAt H.kf u l
  hkh : ∀ u l, kh (ix2 u l) = highAt H.kf u l
  hvl : ∀ u l, vl (ix2 u l) = lowAt H.vf u l
  hvh : ∀ u l, vh (ix2 u l) = highAt H.vf u l
  hq : ∀ r l, q (ix2 r l) = pairAt H.qf r l
  ho : ∀ r l, k0_pay33 (F := Ideal) e0 e1 e2 e3 (ix2 r l) = pairAt H.of r l

variable (hH : Holds H b z kl kh vl vh q e0 e1 e2 e3)

include hH in
theorem score_at (r : Fin 1024) (u : Fin 256) : k0_pay22 b kh q (lowScores q kl) (ix2 r u) = H.s (hd r) (qr r) u := by
  rw [pay22_at, half_dot q H.qf hH.hq kl kh H.kf hH.hkl hH.hkh, hH.hb, Head.s]
  by_cases hk : H.kp (qr r) u
  · rw [if_pos hk, if_pos hk, add_zero]
  · rw [if_neg hk, if_neg hk, EReal.add_bot]

include hH in
theorem sink_at (r : Fin 1024) : (k0_pay24 (F := Ideal) z (ix2 r (0 : Fin 1)) : EReal) = H.zf (hd r) := by
  rw [pay24_at]
  have e : ∀ g : Fin 8, Scalar.select (k0_pay23 (ix2 r g)) (z (ix2 (0 : Fin 1) g)) 0 = if g = hd r then H.zf g else 0 := fun g => by
    rw [pay23_at, hH.hz]
    by_cases hg : g = hd r
    · subst hg
      rw [if_pos rfl]
      simp [hd, Scalar.select]
    · rw [if_neg hg]
      have hn : ¬ 2 * (r.val % 512 / 128) + r.val / 512 = g.val := fun hh => hg (Fin.ext hh.symm)
      simp [hn, Scalar.select]
  rw [Finset.sum_congr rfl fun g _ => e g]
  simp

include hH in
theorem weight_at (r : Fin 1024) (u : Fin 256) :
    k0_pay29 b kh z q (lowScores q kl) (ix2 r u) = H.pr (hd r) (qr r) u
      ∧ k0_pay30 b kh z q (lowScores q kl) (ix2 r (0 : Fin 1)) = Row.exz (H.s (hd r) (qr r)) (H.zf (hd r)) * Row.inv (H.s (hd r) (qr r)) (H.zf (hd r)) := by
  have hs : ∀ u, k0_pay22 b kh q (lowScores q kl) (ix2 r u) = H.s (hd r) (qr r) u := score_at H b z kl kh vl vh q e0 e1 e2 e3 hH r
  have hz := sink_at H b z kl kh vl vh q e0 e1 e2 e3 hH r
  have ht : k0_pay25 b kh z q (lowScores q kl) (ix2 r (0 : Fin 1)) = Row.top (H.s (hd r) (qr r)) (H.zf (hd r)) := by
    rw [pay25_at, hz, Row.top, funext hs]
  have hx : ∀ u, k0_pay26 b kh z q (lowScores q kl) (ix2 r u) = Row.ex (H.s (hd r) (qr r)) (H.zf (hd r)) u := fun u => by
    rw [pay26_at, hs, ht, Row.ex]
  have hxz : k0_pay27 b kh z q (lowScores q kl) (ix2 r (0 : Fin 1)) = Row.exz (H.s (hd r) (qr r)) (H.zf (hd r)) := by
    rw [pay27_at, hz, ht, Row.exz]
  have hi : k0_pay28 b kh z q (lowScores q kl) (ix2 r (0 : Fin 1)) = Row.inv (H.s (hd r) (qr r)) (H.zf (hd r)) := by
    rw [pay28_at, hxz, Finset.sum_congr rfl fun u _ => hx u, Row.inv, Row.den]
  exact ⟨by rw [pay29_at, hx, hi, Head.pr, Row.pr], by rw [pay30_at, hxz, hi]⟩

include hH in
theorem back_at (r : Fin 1024) (u : Fin 256) : k0_pay36 vl vh e0 e1 e2 e3 (ix2 r u) = H.d (hd r) (qr r) u := by
  rw [pay36_at]
  exact half_dot (k0_pay33 (F := Ideal) e0 e1 e2 e3) H.of hH.ho vl vh H.vf hH.hvl hH.hvh r u

variable (p : FVec Ideal S1024x256 .f32) (hp : ∀ r u, p (ix2 r u) = H.pr (hd r) (qr r) u)

include hH hp in
theorem mean_at (r : Fin 1024) : k0_pay37 vl vh p e0 e1 e2 e3 (ix2 r (0 : Fin 1)) = Row.mean (H.s (hd r) (qr r)) (H.zf (hd r)) (H.d (hd r) (qr r)) := by
  rw [pay37_at, Row.mean]
  exact Finset.sum_congr rfl fun u _ => congrArg₂ (· * ·) (back_at H b z kl kh vl vh q e0 e1 e2 e3 hH r u) (hp r u)

include hH hp in
theorem grad_at (r : Fin 1024) (u : Fin 256) : k0_pay38 vl vh p e0 e1 e2 e3 (ix2 r u) = H.gr (hd r) (qr r) u := by
  rw [pay38_at, hp, back_at H b z kl kh vl vh q e0 e1 e2 e3 hH, mean_at H b z kl kh vl vh q e0 e1 e2 e3 hH p hp, Head.gr, Row.grad, Head.pr]

include hH hp in
theorem gradz_at (ps : FVec Ideal S1024x1 .f32)
    (hps : ∀ r, ps (ix2 r (0 : Fin 1)) = Row.exz (H.s (hd r) (qr r)) (H.zf (hd r)) * Row.inv (H.s (hd r) (qr r)) (H.zf (hd r))) (r : Fin 1024) (g : Fin 8) :
    k0_pay39 vl vh p ps e0 e1 e2 e3 (ix2 r g) = H.gz (hd r) (qr r) := by
  rw [pay39_at, hps, mean_at H b z kl kh vl vh q e0 e1 e2 e3 hH p hp, Head.gz, Row.gradz]

theorem sinks_at (t : FVec Ideal S1024x8 .f32) (ht : ∀ r g, t (ix2 r g) = H.gz (hd r) (qr r)) (g : Fin 8) :
    k0_pay40 k0_pay23 t (ix2 (0 : Fin 1) g) = ∑ i, H.gz g i := by
  rw [pay40_at, ← Spec.sum_head]
  refine Finset.sum_congr rfl fun r _ => ?_
  rw [pay23_at, ht]
  by_cases hg : hd r = g
  · subst hg
    rw [if_pos rfl]
    simp [hd, Scalar.select]
  · rw [if_neg hg]
    have hn : ¬ 2 * (r.val % 512 / 128) + r.val / 512 = g.val := fun hh => hg (Fin.ext hh)
    simp [hn, Scalar.select]

end Chain

end Cert.KernelIdeal.Attn

end
-- ==== Proof.Attn.Fold.lean ====
/- The two key heads side by side in 128 lanes: how the kernel cuts them apart and lays their gradients together again. -/
module

public import proofs.«01_k».proof.Proof.Attn.HeadWords

@[expose] public section

set_option maxRecDepth 16384

noncomputable section

namespace Cert.KernelIdeal.Attn

open Cert.KernelIdeal Cert.KernelIdeal.Gen
open Idealize.ShloMosaic Idealize.ShloMosaic.TcCoe

variable (hi lo x : FVec Ideal S256x128 .f32)

theorem pay15_at (u : Fin 256) (l : Fin 128) : k0_pay15 (ix2 u l) = BitVec.ofBool (decide (l.val < 64)) := by
  unfold k0_pay15
  pointwise
  revert l
  decide

theorem xor_one (p : Prop) [Decidable p] : IntOp.xori (BitVec.ofBool (decide p)) 1#1 = BitVec.ofBool (decide (¬ p)) := by
  by_cases hp : p <;> simp [hp, IntOp.xori]

theorem pay62_at (u : Fin 256) (l : Fin 128) : k0_pay62 (ix2 u l) = BitVec.ofBool (decide (¬ l.val < 64)) := by
  refine Eq.trans (b := IntOp.xori (k0_pay15 (ix2 u l)) 1#1) rfl ?_
  rw [pay15_at, xor_one]

theorem pick {α : Type} (p : Prop) [Decidable p] (x y : α) : Scalar.select (BitVec.ofBool (decide p)) x y = if p then x else y := by
  by_cases hp : p <;> simp [hp, Scalar.select]

/-- Two blocks of rows, one under the other. -/
def both (x y : FVec Ideal S128x128 .f32) : FVec Ideal S256x128 .f32 :=
  concatenate S256x128 0 [⟨S128x128, x⟩, ⟨S128x128, y⟩] concatenates_S128x128_S128x128_S256x128_d0

theorem both_at (x y : FVec Ideal S128x128 .f32) (u : Fin 256) (l : Fin 128) :
    both x y (ix2 u l) = if h : u.val < 128 then x (ix2 (⟨u.val, h⟩ : Fin 128) l) else y (ix2 (⟨u.val - 128, by omega⟩ : Fin 128) l) := by
  unfold both
  pointwise <;> rfl

/-- The other half of the lanes. -/
def swap (l : Fin 128) : Fin 128 := ⟨(l.val + 64) % 128, by omega⟩

theorem rot_at (x : FVec Ideal S256x128 .f32) (u : Fin 256) (l : Fin 128) :
    dynamicRotate 1 64#32 none x rotates_S256x128_d1 (ix2 u l) = x (ix2 u (swap l)) := by
  unfold swap
  pointwise
  rfl

theorem pay16_at (x y : FVec Ideal S128x128 .f32) (u : Fin 256) (l : Fin 128) :
    k0_pay16 x y (ix2 u l) = if l.val < 64 then both x y (ix2 u l) else 0 := by
  refine Eq.trans (b := Scalar.select (k0_pay15 (ix2 u l)) (both x y (ix2 u l)) (Ideal.ofBits .f32 0x00000000#32)) rfl ?_
  rw [pay15_at, pick, Ideal.ofBits_zero_f32]

theorem pay63_at (x y : FVec Ideal S128x128 .f32) (u : Fin 256) (l : Fin 128) :
    k0_pay63 x y (ix2 u l) = if ¬ l.val < 64 then both x y (ix2 u l) else 0 := by
  refine Eq.trans (b := Scalar.select (k0_pay62 (ix2 u l)) (both x y (ix2 u l)) (Ideal.ofBits .f32 0x00000000#32)) rfl ?_
  rw [pay62_at, pick, Ideal.ofBits_zero_f32]

theorem swap_lt (l : Fin 128) : (swap l).val < 64 ↔ ¬ l.val < 64 := by
  show (l.val + 64) % 128 < 64 ↔ _
  omega

theorem pay60_at (u : Fin 256) (l : Fin 128) :
    k0_pay60 k0_pay13 k0_pay15 hi lo (ix2 u l) = if l.val < 64 then lo (ix2 u l) + hi (ix2 u (swap l)) else 0 := by
  refine Eq.trans (b := Scalar.select (k0_pay15 (ix2 u l)) (lo (ix2 u l)) 0 + Scalar.select (k0_pay15 (ix2 u (swap l))) 0 (hi (ix2 u (swap l)))) ?_ ?_
  · unfold k0_pay60 k0_pay13
    pointwise <;> rfl
  · simp only [pay15_at, pay62_at, pick, swap_lt]
    by_cases h : l.val < 64 <;> simp [h]

theorem pay61_at (u : Fin 256) (l : Fin 128) :
    k0_pay61 k0_pay14 k0_pay15 hi lo (ix2 u l) = if l.val < 64 then lo (ix2 u l) + hi (ix2 u (swap l)) else 0 := by
  refine Eq.trans (b := Scalar.select (k0_pay15 (ix2 u l)) (lo (ix2 u l)) 0 + Scalar.select (k0_pay15 (ix2 u (swap l))) 0 (hi (ix2 u (swap l)))) ?_ ?_
  · unfold k0_pay61 k0_pay14
    pointwise <;> rfl
  · simp only [pay15_at, pay62_at, pick, swap_lt]
    by_cases h : l.val < 64 <;> simp [h]

theorem pay104_at (u : Fin 256) (l : Fin 128) :
    k0_pay104 x k0_pay62 hi lo (ix2 u l) = if l.val < 64 then x (ix2 u l) else x (ix2 u l) + hi (ix2 u l) + lo (ix2 u (swap l)) := by
  refine Eq.trans (b := x (ix2 u l) + Scalar.select (k0_pay62 (ix2 u l)) (hi (ix2 u l)) 0 + Scalar.select (k0_pay62 (ix2 u (swap l))) 0 (lo (ix2 u (swap l)))) ?_ ?_
  · unfold k0_pay104
    pointwise <;> rfl
  · simp only [pay15_at, pay62_at, pick, swap_lt]
    by_cases h : l.val < 64 <;> simp [h]

theorem pay105_at (u : Fin 256) (l : Fin 128) :
    k0_pay105 x k0_pay62 hi lo (ix2 u l) = if l.val < 64 then x (ix2 u l) else x (ix2 u l) + hi (ix2 u l) + lo (ix2 u (swap l)) := by
  refine Eq.trans (b := x (ix2 u l) + Scalar.select (k0_pay62 (ix2 u l)) (hi (ix2 u l)) 0 + Scalar.select (k0_pay62 (ix2 u (swap l))) 0 (lo (ix2 u (swap l)))) ?_ ?_
  · unfold k0_pay105
    pointwise <;> rfl
  · simp only [pay15_at, pay62_at, pick, swap_lt]
    by_cases h : l.val < 64 <;> simp [h]

theorem pay5_at (u c : Fin 256) :
    k0_pay5 x hi (ix2 u c) = if h : c.val < 128 then x (ix2 u (⟨c.val, h⟩ : Fin 128)) else hi (ix2 u (⟨c.val - 128, by omega⟩ : Fin 128)) := by
  unfold k0_pay5
  pointwise

end Cert.KernelIdeal.Attn

end
-- ==== Proof.Attn.HeadCols.lean ====
/- The products of a key head's weights and gradients with the pairs of heads, and the query gradient's rows. -/
module

public import proofs.«01_k».proof.Proof.Attn.Head
public import proofs.«01_k».proof.Proof.Attn.Fold

@[expose] public section

set_option maxRecDepth 16384

noncomputable section

namespace Cert.KernelIdeal.Attn

open Cert.KernelIdeal Cert.KernelIdeal.Gen
open Idealize.ShloMosaic Idealize.ShloMosaic.TcCoe
open Cert.Spec (hd qr)

section

variable (w : FVec Ideal S1024x256 .f32) (f : Fin 8 → Fin 128 → Fin 256 → EReal) (hw : ∀ r u, w (ix2 r u) = f (hd r) (qr r) u)
  (a : FVec Ideal S512x128 .f32) (af : Fin 128 → Fin 8 → Fin 64 → EReal) (ha : ∀ r l, a (ix2 r l) = pairAt af r l)

include hw ha in
theorem lo_at (lo : FVec Ideal S256x128 .f32)
    (hlo : ∀ u l, lo (ix2 u l) = ∑ r : Fin 512, w (ix2 (⟨r.val, by omega⟩ : Fin 1024) u) * a (ix2 r l))
    (u : Fin 256) (l : Fin 128) (e : Fin 64) (hl : l.val = e.val) :
    lo (ix2 u l) = ∑ j : Fin 4, ∑ i, f ⟨2 * j.val, by omega⟩ i u * af i ⟨2 * j.val, by omega⟩ e := by
  rw [hlo, low_cols w f hw a af ha]
  refine Finset.sum_congr rfl fun j _ => Finset.sum_congr rfl fun i _ => congrArg (_ * ·) ?_
  exact congr (congrArg (af i) (Fin.ext (by show 2 * j.val + l.val / 64 = 2 * j.val; omega))) (Fin.ext (by show l.val % 64 = e.val; omega))

include hw ha in
theorem hi_at (hi : FVec Ideal S256x128 .f32)
    (hhi : ∀ u l, hi (ix2 u l) = ∑ r : Fin 512, w (ix2 (⟨512 + r.val, by omega⟩ : Fin 1024) u) * a (ix2 r l))
    (u : Fin 256) (l : Fin 128) (e : Fin 64) (hl : l.val = 64 + e.val) :
    hi (ix2 u l) = ∑ j : Fin 4, ∑ i, f ⟨2 * j.val + 1, by omega⟩ i u * af i ⟨2 * j.val + 1, by omega⟩ e := by
  rw [hhi, high_cols w f hw a af ha]
  refine Finset.sum_congr rfl fun j _ => Finset.sum_congr rfl fun i _ => congrArg (_ * ·) ?_
  exact congr (congrArg (af i) (Fin.ext (by show 2 * j.val + l.val / 64 = 2 * j.val + 1; omega))) (Fin.ext (by show l.val % 64 = e.val; omega))

include hw ha in
theorem fold_at (lo hi : FVec Ideal S256x128 .f32)
    (hlo : ∀ u l, lo (ix2 u l) = ∑ r : Fin 512, w (ix2 (⟨r.val, by omega⟩ : Fin 1024) u) * a (ix2 r l))
    (hhi : ∀ u l, hi (ix2 u l) = ∑ r : Fin 512, w (ix2 (⟨512 + r.val, by omega⟩ : Fin 1024) u) * a (ix2 r l))
    (u : Fin 256) (l l' : Fin 128) (e : Fin 64) (hl : l.val = e.val) (hl' : l'.val = 64 + e.val) :
    lo (ix2 u l) + hi (ix2 u l') = ∑ g, ∑ i, f g i u * af i g e :=
  cols f af u e _ _ (lo_at w f hw a af ha lo hlo u l e hl) (hi_at w f hw a af ha hi hhi u l' e hl')

end

/-- The query gradient's rows, two heads side by side. -/
theorem dq_rows (w : FVec Ideal S1024x256 .f32) (f : Fin 8 → Fin 128 → Fin 256 → EReal) (hw : ∀ r u, w (ix2 r u) = f (hd r) (qr r) u)
    (kl kh : FVec Ideal S256x128 .f32) (kf : Fin 256 → Fin 64 → EReal) (hl : ∀ u l, kl (ix2 u l) = lowAt kf u l)
    (hh : ∀ u l, kh (ix2 u l) = highAt kf u l) (r : Fin 512) (l : Fin 128) :
    k0_pay45 kl kh w (ix2 r l) = pairAt (fun i g e => (∑ u, f g i u * kf u e) * Spec.c8) r l := by
  rw [pay45_at]
  refine congrArg (· * Spec.c8) ?_
  by_cases h : l.val < 64
  · have e1 : ∀ u, kh (ix2 u l) = 0 := fun u => (hh u l).trans (if_pos h)
    have e2 : ∀ u, kl (ix2 u l) = kf u ⟨l.val % 64, by omega⟩ := fun u =>
      (hl u l).trans ((dif_pos h).trans (congrArg (kf u) (Fin.ext (by show l.val = l.val % 64; omega))))
    simp only [e1, e2, mul_zero, Finset.sum_const_zero, zero_add]
    refine Finset.sum_congr rfl fun u _ => congrArg (· * _) ((hw _ _).trans ?_)
    refine congrFun (congr (congrArg f (Fin.ext ?_)) (Fin.ext ?_)) u
    · show 2 * (r.val % 512 / 128) + r.val / 512 = 2 * (r.val / 128) + l.val / 64
      omega
    · show r.val % 128 = r.val % 128
      omega
  · have e1 : ∀ u, kl (ix2 u l) = 0 := fun u => (hl u l).trans (dif_neg h)
    have e2 : ∀ u, kh (ix2 u l) = kf u ⟨l.val % 64, by omega⟩ := fun u =>
      (hh u l).trans ((if_neg h).trans (congrArg (kf u) (Fin.ext (by show l.val - 64 = l.val % 64; omega))))
    simp only [e1, e2, mul_zero, Finset.sum_const_zero, add_zero]
    refine Finset.sum_congr rfl fun u _ => congrArg (· * _) ((hw _ _).trans ?_)
    refine congrFun (congr (congrArg f (Fin.ext ?_)) (Fin.ext ?_)) u
    · show 2 * ((512 + r.val) % 512 / 128) + (512 + r.val) / 512 = 2 * (r.val / 128) + l.val / 64
      omega
    · show (512 + r.val) % 128 = r.val % 128
      omega

end Cert.KernelIdeal.Attn

end
-- ==== Proof.Attn.Reads.lean ====
/- A grid point's blocks by entries, and that the slices its chain takes hold what a key head reads. -/
module

public import proofs.«01_k».proof.Proof.Attn.Block
public import proofs.«01_k».proof.Proof.Attn.HeadCols
public import proofs.«01_k».proof.Proof.Attn.Spec
public import Idealize.ShloMosaic.Lib.Pipeline.ValueKit

@[expose] public section

set_option maxRecDepth 16384

noncomputable section

namespace Cert.KernelIdeal.Attn

open Cert.KernelIdeal Cert.KernelIdeal.Gen
open Idealize.ShloMosaic Idealize.ShloMosaic.TcCoe
open Cert.Spec (hd qr)

/-- The blocks of grid point `n`, of the projection `X`, the sinks `Z` and the cotangent `O`. -/
structure BlockIs (x : BlockIn Ideal) (X : Fin 8192 → Fin 1280 → EReal) (Z : Fin 2 → Fin 8 → EReal) (O : Fin 8192 → Fin 1024 → EReal)
    (n : Fin 64) : Prop where
  hq : ∀ (i : Fin 128) (c : Fin 1024), x.q (ix2 i c) = X (Spec.row n i) ⟨c.val, by omega⟩
  hp : ∀ (i : Fin 128) (c : Fin 256), x.kvp (ix2 i c) = X ⟨(n.val - 1) * 128 + i.val, by omega⟩ ⟨1024 + c.val, by omega⟩
  hc : ∀ (i : Fin 128) (c : Fin 256), x.kvc (ix2 i c) = X ⟨n.val * 128 + i.val, by omega⟩ ⟨1024 + c.val, by omega⟩
  hz : ∀ (h : Fin 2) (g : Fin 8), x.sinks (ix2 h g) = Z h g
  ho : ∀ (i : Fin 128) (c : Fin 1024), x.dO (ix2 i c) = O (Spec.row n i) c
  hb : ∀ (r : Fin 1024) (u : Fin 256), x.bias (ix3 (0 : Fin 1) r u) = if Spec.keep n (qr r) u then 0 else ⊥

/-- A key head of grid point `n`. -/
def headOf (X : Fin 8192 → Fin 1280 → EReal) (Z : Fin 2 → Fin 8 → EReal) (O : Fin 8192 → Fin 1024 → EReal) (n : Fin 64) (h : Fin 2) : Head :=
  ⟨Spec.keep n, fun _ _ => inferInstance, Z h, fun u d => Spec.kv X n u h d, fun u d => Spec.vv X n u h d, fun i g d => Spec.qv X n i h g d,
    fun i g d => Spec.ov O n i h g d⟩

theorem ld_col {n : ℕ} {e : EltTy} (y : Vec Ideal ⟨2, ![128, n]⟩ e) (o : ℕ) (h : ∀ a, (![0, o] : Fin 2 → ℕ) a + S128x128.size a ≤ (⟨2, ![128, n]⟩ : Shape).size a)
    (ho : o + 128 ≤ n) (i l : Fin 128) :
    View.ld y (Rect.unit (s := ⟨2, ![128, n]⟩) ![0, o] S128x128.size h) (ix2 i l) = y (ix2 i (⟨o + l.val, by omega⟩ : Fin n)) := by
  refine View.ld_unit_apply_of y _ _ h (ix2 i l) _ fun a => ?_
  refine Fin.cases ?_ (fun b => ?_) a
  · exact (Nat.zero_add _).symm
  · obtain rfl : b = 0 := Subsingleton.elim _ _
    rfl

theorem pair4 (f : Fin 128 → Fin 8 → Fin 64 → EReal) (e0 e1 e2 e3 : Fin 128 → Fin 128 → EReal)
    (h0 : ∀ i l, e0 i l = f i ⟨0 + l.val / 64, by omega⟩ ⟨l.val % 64, by omega⟩) (h1 : ∀ i l, e1 i l = f i ⟨2 + l.val / 64, by omega⟩ ⟨l.val % 64, by omega⟩)
    (h2 : ∀ i l, e2 i l = f i ⟨4 + l.val / 64, by omega⟩ ⟨l.val % 64, by omega⟩) (h3 : ∀ i l, e3 i l = f i ⟨6 + l.val / 64, by omega⟩ ⟨l.val % 64, by omega⟩)
    (r : Fin 512) (l : Fin 128) :
    (if h : r.val < 128 then e0 (⟨r.val, h⟩ : Fin 128) l
        else if h : r.val < 256 then e1 (⟨r.val - 128, by omega⟩ : Fin 128) l
        else if h : r.val < 384 then e2 (⟨r.val - 256, by omega⟩ : Fin 128) l
        else e3 (⟨r.val - 384, by omega⟩ : Fin 128) l) = pairAt f r l := by
  unfold pairAt
  have key : ∀ (k : ℕ) (hk : r.val / 128 = k) (i : Fin 128) (g : Fin 8), i.val = r.val - 128 * k → g.val = 2 * k + l.val / 64 →
      f i g ⟨l.val % 64, by omega⟩ = f ⟨r.val % 128, by omega⟩ ⟨2 * (r.val / 128) + l.val / 64, by omega⟩ ⟨l.val % 64, by omega⟩ := fun k hk i g hi hg =>
    congrFun (congr (congrArg f (Fin.ext (by show i.val = r.val % 128; omega))) (Fin.ext (by show g.val = 2 * (r.val / 128) + l.val / 64; omega))) _
  by_cases c0 : r.val < 128
  · rw [dif_pos c0, h0]
    exact key 0 (by omega) _ _ (by show r.val = _; omega) rfl
  rw [dif_neg c0]
  by_cases c1 : r.val < 256
  · rw [dif_pos c1, h1]
    exact key 1 (by omega) _ _ (by show r.val - 128 = _; omega) rfl
  rw [dif_neg c1]
  by_cases c2 : r.val < 384
  · rw [dif_pos c2, h2]
    exact key 2 (by omega) _ _ (by show r.val - 256 = _; omega) rfl
  rw [dif_neg c2, h3]
  exact key 3 (by omega) _ _ (by show r.val - 384 = _; omega) rfl

section

variable (x : BlockIn Ideal) (X : Fin 8192 → Fin 1280 → EReal) (Z : Fin 2 → Fin 8 → EReal) (O : Fin 8192 → Fin 1024 → EReal) (n : Fin 64)
  (hx : BlockIs x X Z O n)

include hx in
theorem keys_at (u : Fin 256) (l : Fin 128) : both x.kp x.kc (ix2 u l) = X (Spec.krow n u) ⟨1024 + l.val, by omega⟩ := by
  rw [both_at, Spec.krow]
  by_cases h : u.val < 128
  · rw [dif_pos h, if_pos h]
    refine (ld_col x.kvp 0 _ (by omega) _ _).trans ((hx.hp _ _).trans ?_)
    exact congr (congrArg X (Fin.ext (by show (n.val - 1) * 128 + u.val = (n.val - 1) * 128 + u.val % 128; omega))) (Fin.ext (by show 1024 + (0 + l.val) = 1024 + l.val; omega))
  · rw [dif_neg h, if_neg h]
    refine (ld_col x.kvc 0 _ (by omega) _ _).trans ((hx.hc _ _).trans ?_)
    exact congr (congrArg X (Fin.ext (by show n.val * 128 + (u.val - 128) = n.val * 128 + (u.val - 128); rfl))) (Fin.ext (by show 1024 + (0 + l.val) = 1024 + l.val; omega))

include hx in
theorem vals_at (u : Fin 256) (l : Fin 128) : both x.vp x.vc (ix2 u l) = X (Spec.krow n u) ⟨1152 + l.val, by omega⟩ := by
  rw [both_at, Spec.krow]
  by_cases h : u.val < 128
  · rw [dif_pos h, if_pos h]
    refine (ld_col x.kvp 128 _ (by omega) _ _).trans ((hx.hp _ _).trans ?_)
    exact congr (congrArg X (Fin.ext (by show (n.val - 1) * 128 + u.val = (n.val - 1) * 128 + u.val % 128; omega))) (Fin.ext (by show 1024 + (128 + l.val) = 1152 + l.val; omega))
  · rw [dif_neg h, if_neg h]
    refine (ld_col x.kvc 128 _ (by omega) _ _).trans ((hx.hc _ _).trans ?_)
    exact congr (congrArg X (Fin.ext (by show n.val * 128 + (u.val - 128) = n.val * 128 + (u.val - 128); rfl))) (Fin.ext (by show 1024 + (128 + l.val) = 1152 + l.val; omega))

theorem low_first (y : FVec Ideal S256x128 .f32) (f : Fin 256 → Fin 128 → EReal) (hy : ∀ u l, y (ix2 u l) = if l.val < 64 then f u l else 0) (u : Fin 256) (l : Fin 128) :
    y (ix2 u l) = lowAt (fun u d => f u ⟨d.val, by omega⟩) u l := by
  rw [hy, lowAt]
  by_cases h : l.val < 64
  · rw [if_pos h, dif_pos h]
  · rw [if_neg h, dif_neg h]

theorem high_first (y : FVec Ideal S256x128 .f32) (f : Fin 256 → Fin 128 → EReal) (hy : ∀ u l, y (ix2 u l) = if l.val < 64 then f u l else 0) (u : Fin 256) (l : Fin 128) :
    y (ix2 u (swap l)) = highAt (fun u d => f u ⟨d.val, by omega⟩) u l := by
  rw [hy, highAt]
  by_cases h : l.val < 64
  · rw [if_neg (by rw [swap_lt]; exact not_not.mpr h), if_pos h]
  · rw [if_pos ((swap_lt l).mpr h), if_neg h]
    exact congrArg (f u) (Fin.ext (by show (l.val + 64) % 128 = l.val - 64; omega))

theorem high_second (y : FVec Ideal S256x128 .f32) (f : Fin 256 → Fin 128 → EReal) (hy : ∀ u l, y (ix2 u l) = if ¬ l.val < 64 then f u l else 0) (u : Fin 256) (l : Fin 128) :
    y (ix2 u l) = highAt (fun u d => f u ⟨64 + d.val, by omega⟩) u l := by
  rw [hy, highAt]
  by_cases h : l.val < 64
  · rw [if_neg (not_not.mpr h), if_pos h]
  · rw [if_pos h, if_neg h]
    exact congrArg (f u) (Fin.ext (by show l.val = 64 + (l.val - 64); omega))

theorem low_second (y : FVec Ideal S256x128 .f32) (f : Fin 256 → Fin 128 → EReal) (hy : ∀ u l, y (ix2 u l) = if ¬ l.val < 64 then f u l else 0) (u : Fin 256) (l : Fin 128) :
    y (ix2 u (swap l)) = lowAt (fun u d => f u ⟨64 + d.val, by omega⟩) u l := by
  rw [hy, lowAt]
  by_cases h : l.val < 64
  · rw [if_pos (by rw [swap_lt]; exact not_not.mpr h), dif_pos h]
    exact congrArg (f u) (Fin.ext (by show (l.val + 64) % 128 = 64 + l.val; omega))
  · rw [if_neg (by rw [swap_lt]; exact not_not.mpr h), dif_neg h]

include hx in
theorem holds0 : Holds (headOf X Z O n 0) x.b10 x.s0 x.b23 x.b26 x.b25 x.b27 x.b35 x.d0 x.d1 x.d2 x.d3 where
  hb r u := (Eq.trans (b := x.bias (ix3 (0 : Fin 1) r u)) (by unfold BlockIn.b10 BlockIn.b9 k0_pay12; pointwise) (hx.hb r u))
  hz g := (Eq.trans (b := x.sinks (ix2 (0 : Fin 2) g)) (by unfold BlockIn.s0; pointwise) (hx.hz 0 g))
  hkl u l := (low_first x.b23 _ (fun u l => (pay16_at x.kp x.kc u l)) u l).trans (by
    unfold lowAt
    refine dite_congr rfl (fun h => (keys_at x X Z O n hx _ _).trans ?_) fun _ => rfl
    exact congrArg (X _) (Fin.ext (by show 1024 + l.val = 1024 + (0 * 64 + l.val); omega)))
  hkh u l := (rot_at (k0_pay16 x.kp x.kc) u l).trans ((high_first x.b23 _ (fun u l => (pay16_at x.kp x.kc u l)) u l).trans (by
    unfold highAt
    refine ite_congr rfl (fun _ => rfl) (fun h => (keys_at x X Z O n hx _ _).trans ?_)
    exact congrArg (X _) (Fin.ext (by show 1024 + (l.val - 64) = 1024 + (0 * 64 + (l.val - 64)); omega))))
  hvl u l := (low_first x.b25 _ (fun u l => (pay16_at x.vp x.vc u l)) u l).trans (by
    unfold lowAt
    refine dite_congr rfl (fun h => (vals_at x X Z O n hx _ _).trans ?_) fun _ => rfl
    exact congrArg (X _) (Fin.ext (by show 1152 + l.val = 1152 + (0 * 64 + l.val); omega)))
  hvh u l := (rot_at (k0_pay16 x.vp x.vc) u l).trans ((high_first x.b25 _ (fun u l => (pay16_at x.vp x.vc u l)) u l).trans (by
    unfold highAt
    refine ite_congr rfl (fun _ => rfl) (fun h => (vals_at x X Z O n hx _ _).trans ?_)
    exact congrArg (X _) (Fin.ext (by show 1152 + (l.val - 64) = 1152 + (0 * 64 + (l.val - 64)); omega))))
  hq r l := by
    refine (pay20_at x.q0 x.q1 x.q2 x.q3 r l).trans (congrArg (· * Spec.c8) (a₂ := pairAt (fun i g d => X (Spec.row n i) ⟨(Spec.col 0 g d).val, by have := (Spec.col 0 g d).isLt; omega⟩) r l) ?_)
    refine pair4 _ (fun i l => x.q0 (ix2 i l)) (fun i l => x.q1 (ix2 i l)) (fun i l => x.q2 (ix2 i l)) (fun i l => x.q3 (ix2 i l)) ?_ ?_ ?_ ?_ r l
    · exact fun i l => (ld_col x.q 0 _ (by omega) i l).trans ((hx.hq _ _).trans (congrArg (X _) (Fin.ext (by show 0 + l.val = 0 * 512 + (0 + l.val / 64) * 64 + l.val % 64; omega))))
    · exact fun i l => (ld_col x.q 128 _ (by omega) i l).trans ((hx.hq _ _).trans (congrArg (X _) (Fin.ext (by show 128 + l.val = 0 * 512 + (2 + l.val / 64) * 64 + l.val % 64; omega))))
    · exact fun i l => (ld_col x.q 256 _ (by omega) i l).trans ((hx.hq _ _).trans (congrArg (X _) (Fin.ext (by show 256 + l.val = 0 * 512 + (4 + l.val / 64) * 64 + l.val % 64; omega))))
    · exact fun i l => (ld_col x.q 384 _ (by omega) i l).trans ((hx.hq _ _).trans (congrArg (X _) (Fin.ext (by show 384 + l.val = 0 * 512 + (6 + l.val / 64) * 64 + l.val % 64; omega))))
  ho r l := by
    refine (pay33_at x.d0 x.d1 x.d2 x.d3 r l).trans ?_
    refine pair4 _ (fun i l => x.d0 (ix2 i l)) (fun i l => x.d1 (ix2 i l)) (fun i l => x.d2 (ix2 i l)) (fun i l => x.d3 (ix2 i l)) ?_ ?_ ?_ ?_ r l
    · exact fun i l => (ld_col x.dO 0 _ (by omega) i l).trans ((hx.ho _ _).trans (congrArg (O _) (Fin.ext (by show 0 + l.val = 0 * 512 + (0 + l.val / 64) * 64 + l.val % 64; omega))))
    · exact fun i l => (ld_col x.dO 128 _ (by omega) i l).trans ((hx.ho _ _).trans (congrArg (O _) (Fin.ext (by show 128 + l.val = 0 * 512 + (2 + l.val / 64) * 64 + l.val % 64; omega))))
    · exact fun i l => (ld_col x.dO 256 _ (by omega) i l).trans ((hx.ho _ _).trans (congrArg (O _) (Fin.ext (by show 256 + l.val = 0 * 512 + (4 + l.val / 64) * 64 + l.val % 64; omega))))
    · exact fun i l => (ld_col x.dO 384 _ (by omega) i l).trans ((hx.ho _ _).trans (congrArg (O _) (Fin.ext (by show 384 + l.val = 0 * 512 + (6 + l.val / 64) * 64 + l.val % 64; omega))))

include hx in
theorem holds1 : Holds (headOf X Z O n 1) x.b10 x.s1 x.b217 x.b214 x.b218 x.b216 x.b226 x.d4 x.d5 x.d6 x.d7 where
  hb r u := (Eq.trans (b := x.bias (ix3 (0 : Fin 1) r u)) (by unfold BlockIn.b10 BlockIn.b9 k0_pay12; pointwise) (hx.hb r u))
  hz g := (Eq.trans (b := x.sinks (ix2 (1 : Fin 2) g)) (by unfold BlockIn.s1; pointwise) (hx.hz 1 g))
  hkl u l := (rot_at (k0_pay63 x.kp x.kc) u l).trans ((low_second x.b214 _ (fun u l => (pay63_at x.kp x.kc u l)) u l).trans (by
    unfold lowAt
    refine dite_congr rfl (fun h => (keys_at x X Z O n hx _ _).trans ?_) fun _ => rfl
    exact congrArg (X _) (Fin.ext (by show 1024 + (64 + l.val) = 1024 + (1 * 64 + l.val); omega))))
  hkh u l := (high_second x.b214 _ (fun u l => (pay63_at x.kp x.kc u l)) u l).trans (by
    unfold highAt
    refine ite_congr rfl (fun _ => rfl) (fun h => (keys_at x X Z O n hx _ _).trans ?_)
    exact congrArg (X _) (Fin.ext (by show 1024 + (64 + (l.val - 64)) = 1024 + (1 * 64 + (l.val - 64)); omega)))
  hvl u l := (rot_at (k0_pay63 x.vp x.vc) u l).trans ((low_second x.b216 _ (fun u l => (pay63_at x.vp x.vc u l)) u l).trans (by
    unfold lowAt
    refine dite_congr rfl (fun h => (vals_at x X Z O n hx _ _).trans ?_) fun _ => rfl
    exact congrArg (X _) (Fin.ext (by show 1152 + (64 + l.val) = 1152 + (1 * 64 + l.val); omega))))
  hvh u l := (high_second x.b216 _ (fun u l => (pay63_at x.vp x.vc u l)) u l).trans (by
    unfold highAt
    refine ite_congr rfl (fun _ => rfl) (fun h => (vals_at x X Z O n hx _ _).trans ?_)
    exact congrArg (X _) (Fin.ext (by show 1152 + (64 + (l.val - 64)) = 1152 + (1 * 64 + (l.val - 64)); omega)))
  hq r l := by
    refine (pay20_at x.q4 x.q5 x.q6 x.q7 r l).trans (congrArg (· * Spec.c8) (a₂ := pairAt (fun i g d => X (Spec.row n i) ⟨(Spec.col 1 g d).val, by have := (Spec.col 1 g d).isLt; omega⟩) r l) ?_)
    refine pair4 _ (fun i l => x.q4 (ix2 i l)) (fun i l => x.q5 (ix2 i l)) (fun i l => x.q6 (ix2 i l)) (fun i l => x.q7 (ix2 i l)) ?_ ?_ ?_ ?_ r l
    · exact fun i l => (ld_col x.q 512 _ (by omega) i l).trans ((hx.hq _ _).trans (congrArg (X _) (Fin.ext (by show 512 + l.val = 1 * 512 + (0 + l.val / 64) * 64 + l.val % 64; omega))))
    · exact fun i l => (ld_col x.q 640 _ (by omega) i l).trans ((hx.hq _ _).trans (congrArg (X _) (Fin.ext (by show 640 + l.val = 1 * 512 + (2 + l.val / 64) * 64 + l.val % 64; omega))))
    · exact fun i l => (ld_col x.q 768 _ (by omega) i l).trans ((hx.hq _ _).trans (congrArg (X _) (Fin.ext (by show 768 + l.val = 1 * 512 + (4 + l.val / 64) * 64 + l.val % 64; omega))))
    · exact fun i l => (ld_col x.q 896 _ (by omega) i l).trans ((hx.hq _ _).trans (congrArg (X _) (Fin.ext (by show 896 + l.val = 1 * 512 + (6 + l.val / 64) * 64 + l.val % 64; omega))))
  ho r l := by
    refine (pay33_at x.d4 x.d5 x.d6 x.d7 r l).trans ?_
    refine pair4 _ (fun i l => x.d4 (ix2 i l)) (fun i l => x.d5 (ix2 i l)) (fun i l => x.d6 (ix2 i l)) (fun i l => x.d7 (ix2 i l)) ?_ ?_ ?_ ?_ r l
    · exact fun i l => (ld_col x.dO 512 _ (by omega) i l).trans ((hx.ho _ _).trans (congrArg (O _) (Fin.ext (by show 512 + l.val = 1 * 512 + (0 + l.val / 64) * 64 + l.val % 64; omega))))
    · exact fun i l => (ld_col x.dO 640 _ (by omega) i l).trans ((hx.ho _ _).trans (congrArg (O _) (Fin.ext (by show 640 + l.val = 1 * 512 + (2 + l.val / 64) * 64 + l.val % 64; omega))))
    · exact fun i l => (ld_col x.dO 768 _ (by omega) i l).trans ((hx.ho _ _).trans (congrArg (O _) (Fin.ext (by show 768 + l.val = 1 * 512 + (4 + l.val / 64) * 64 + l.val % 64; omega))))
    · exact fun i l => (ld_col x.dO 896 _ (by omega) i l).trans ((hx.ho _ _).trans (congrArg (O _) (Fin.ext (by show 896 + l.val = 1 * 512 + (6 + l.val / 64) * 64 + l.val % 64; omega))))

end

end Cert.KernelIdeal.Attn

end
-- ==== Proof.Attn.Blocks.lean ====
/- Every grid point's blocks by the entries of the launch's arguments. -/
module

public import proofs.«01_k».proof.Proof.Attn.Bias
public import proofs.«01_k».proof.Proof.Attn.Reads

@[expose] public section

set_option maxRecDepth 16384

noncomputable section

namespace Cert.KernelIdeal.Attn

open Cert.KernelIdeal Cert.KernelIdeal.Gen
open Idealize.ShloMosaic Idealize.ShloMosaic.TcCoe
open Cert.Spec (hd qr)

variable (m : (ℓ : Loc nD τ sig) → Buf (Elt Ideal) ℓ)

/-- The three arguments by entry. -/
def argX (c : Dev nD) (r : Fin 8192) (k : Fin 1280) : EReal := (m ((c : Thread nD τ).loc main_arg0) : FVec Ideal S8192x1280 .f32) (ix2 r k)
def argZ (c : Dev nD) (h : Fin 2) (g : Fin 8) : EReal := (m ((c : Thread nD τ).loc main_arg1) : FVec Ideal S2x8 .f32) (ix2 h g)
def argO (c : Dev nD) (r : Fin 8192) (k : Fin 1024) : EReal := (m ((c : Thread nD τ).loc main_arg2) : FVec Ideal S8192x1024 .f32) (ix2 r k)

/-- The input windows' blocks at a point. -/
theorem idxIn : ∀ t : Fin cfg0.N, win0_0.index t = ![min t.val 63, 0] ∧ win0_1.index t = ![min (t.val - 1) 63, 4]
    ∧ win0_2.index t = ![min t.val 63, 4] ∧ win0_3.index t = ![0, 0] ∧ win0_4.index t = ![min t.val 63, 0]
    ∧ win0_5.index t = ![if t.val = 0 then 1 else 0, 0, 0] :=
  (by decide +kernel : ∀ t : Fin grid0.N, _)

theorem rd_q (c : Dev nD) (t : Fin cfg0.N) (ht : t.val < 64) (i : Fin 128) (k : Fin 1024) :
    X0_0 m c t (ix2 i k) = argX m c (Spec.row ⟨t.val, ht⟩ i) ⟨k.val, by omega⟩ := by
  unfold X0_0 Pipeline.Window.fill argX
  rw [dif_pos (moved0_0 t (ix2 i k)), ← V_main_arg0 m c]
  unfold Spec.row
  blk_ext [iblk, idxIn t]

theorem rd_p (c : Dev nD) (t : Fin cfg0.N) (ht : t.val < 64) (i : Fin 128) (k : Fin 256) :
    iblk m c 1 t (ix2 i k) = argX m c ⟨(t.val - 1) * 128 + i.val, by omega⟩ ⟨1024 + k.val, by omega⟩ := by
  unfold argX
  rw [← V_main_arg0 m c]
  blk_ext [iblk, idxIn t]

theorem rd_c (c : Dev nD) (t : Fin cfg0.N) (ht : t.val < 64) (i : Fin 128) (k : Fin 256) :
    iblk m c 2 t (ix2 i k) = argX m c ⟨t.val * 128 + i.val, by omega⟩ ⟨1024 + k.val, by omega⟩ := by
  unfold argX
  rw [← V_main_arg0 m c]
  blk_ext [iblk, idxIn t]

theorem rd_z (c : Dev nD) (t : Fin cfg0.N) (h : Fin 2) (g : Fin 8) : iblk m c 3 t (ix2 h g) = argZ m c h g := by
  unfold argZ
  rw [← V_main_arg1 m c]
  blk_ext [iblk, idxIn t]

theorem rd_o (c : Dev nD) (t : Fin cfg0.N) (ht : t.val < 64) (i : Fin 128) (k : Fin 1024) :
    iblk m c 4 t (ix2 i k) = argO m c (Spec.row ⟨t.val, ht⟩ i) k := by
  unfold argO
  rw [← V_main_arg2 m c]
  unfold Spec.row
  blk_ext [iblk, idxIn t]

theorem rd_b (c : Dev nD) (t : Fin cfg0.N) (r : Fin 1024) (u : Fin 256) :
    iblk m c 5 t (ix3 (0 : Fin 1) r u) = maskIn m c (ix3 (⟨if t.val = 0 then 1 else 0, by split <;> omega⟩ : Fin 2) r u) := by
  unfold maskIn
  blk_ext [iblk, idxIn t]

theorem blockIs (c : Dev nD) (t : Fin cfg0.N) (ht : t.val < 64) :
    BlockIs (blockIn m c t) (argX m c) (argZ m c) (argO m c) ⟨t.val, ht⟩ where
  hq := rd_q m c t ht
  hp := rd_p m c t ht
  hc := rd_c m c t ht
  hz := rd_z m c t
  ho := rd_o m c t ht
  hb r u := by
    refine Eq.trans (rd_b m c t r u) (Eq.trans (mask_at m c _ r u) (if_congr ?_ rfl rfl))
    unfold Spec.keep qr
    by_cases h0 : t.val = 0
    · simp [h0]
      tauto
    · simp [h0]

end Cert.KernelIdeal.Attn

end
-- ==== Proof.Attn.BlockVal.lean ====
/- What one grid point's chain computes, by entries: its part of the three gradients and what the column sums gain. -/
module

public import proofs.«01_k».proof.Proof.Attn.Reads

@[expose] public section

set_option maxRecDepth 16384

noncomputable section

namespace Cert.KernelIdeal.Attn

open Cert.KernelIdeal Cert.KernelIdeal.Gen
open Idealize.ShloMosaic Idealize.ShloMosaic.TcCoe
open Cert.Spec (hd qr)

section

variable (x : BlockIn Ideal) (X : Fin 8192 → Fin 1280 → EReal) (Z : Fin 2 → Fin 8 → EReal) (O : Fin 8192 → Fin 1024 → EReal) (n : Fin 64)
  (hx : BlockIs x X Z O n)

include hx in
theorem weight0 (r : Fin 1024) (u : Fin 256) : x.b76 (ix2 r u) = Spec.pr X Z n 0 (hd r) (qr r) u :=
  (weight_at _ _ _ _ _ _ _ _ _ _ _ _ (holds0 x X Z O n hx) r u).1

include hx in
theorem weight1 (r : Fin 1024) (u : Fin 256) : x.b267 (ix2 r u) = Spec.pr X Z n 1 (hd r) (qr r) u :=
  (weight_at _ _ _ _ _ _ _ _ _ _ _ _ (holds1 x X Z O n hx) r u).1

include hx in
theorem grad0 (r : Fin 1024) (u : Fin 256) : x.b125 (ix2 r u) = Spec.gr X Z O n 0 (hd r) (qr r) u :=
  grad_at _ _ _ _ _ _ _ _ _ _ _ _ (holds0 x X Z O n hx) x.b76 (weight0 x X Z O n hx) r u

include hx in
theorem grad1 (r : Fin 1024) (u : Fin 256) : x.b316 (ix2 r u) = Spec.gr X Z O n 1 (hd r) (qr r) u :=
  grad_at _ _ _ _ _ _ _ _ _ _ _ _ (holds1 x X Z O n hx) x.b267 (weight1 x X Z O n hx) r u

include hx in
theorem sinks0 (g : Fin 8) : x.b135 (ix2 (0 : Fin 1) g) = ∑ i, Spec.gz X Z O n 0 g i :=
  sinks_at (headOf X Z O n 0) x.b128 (fun r g => gradz_at _ _ _ _ _ _ _ _ _ _ _ _ (holds0 x X Z O n hx) x.b76 (weight0 x X Z O n hx) x.b77
    (fun r => (weight_at _ _ _ _ _ _ _ _ _ _ _ _ (holds0 x X Z O n hx) r 0).2) r g) g

include hx in
theorem sinks1 (g : Fin 8) : x.b326 (ix2 (0 : Fin 1) g) = ∑ i, Spec.gz X Z O n 1 g i :=
  sinks_at (headOf X Z O n 1) (k0_pay39 x.b218 x.b216 x.b267 x.b268 x.d4 x.d5 x.d6 x.d7) (fun r g => gradz_at _ _ _ _ _ _ _ _ _ _ _ _ (holds1 x X Z O n hx) x.b267 (weight1 x X Z O n hx) x.b268
    (fun r => (weight_at _ _ _ _ _ _ _ _ _ _ _ _ (holds1 x X Z O n hx) r 0).2) r g) g

theorem half_rows (p : FVec Ideal S1024x256 .f32) (r : Fin 512) (u : Fin 256) :
    extractStridedSlice S512x256 ![0, 0] p slices_S1024x256_o0_0_S512x256 (ix2 r u) = p (ix2 (⟨r.val, by omega⟩ : Fin 1024) u) := by
  pointwise

theorem other_rows (p : FVec Ideal S1024x256 .f32) (r : Fin 512) (u : Fin 256) :
    extractStridedSlice S512x256 ![512, 0] p slices_S1024x256_o512_0_S512x256 (ix2 r u) = p (ix2 (⟨512 + r.val, by omega⟩ : Fin 1024) u) := by
  pointwise

include hx in
theorem dk_low (u : Fin 256) (l l' : Fin 128) (e : Fin 64) (hl : l.val = e.val) (hl' : l'.val = 64 + e.val) :
    x.b149 (ix2 u l) + x.b143 (ix2 u l') = Spec.dk X Z O n u 0 e :=
  fold_at x.b125 (Spec.gr X Z O n 0) (grad0 x X Z O n hx) x.b35 (fun i g d => Spec.qv X n i 0 g d) (holds0 x X Z O n hx).hq x.b149 x.b143
    (fun u l => pay44_at _ _ u l) (fun u l => pay43_at _ _ u l) u l l' e hl hl'

include hx in
theorem dk_high (u : Fin 256) (l l' : Fin 128) (e : Fin 64) (hl : l.val = e.val) (hl' : l'.val = 64 + e.val) :
    x.b340 (ix2 u l) + x.b334 (ix2 u l') = Spec.dk X Z O n u 1 e :=
  fold_at x.b316 (Spec.gr X Z O n 1) (grad1 x X Z O n hx) x.b226 (fun i g d => Spec.qv X n i 1 g d) (holds1 x X Z O n hx).hq x.b340 x.b334
    (fun u l => pay44_at _ _ u l) (fun u l => pay43_at _ _ u l) u l l' e hl hl'

include hx in
theorem dv_low (u : Fin 256) (l l' : Fin 128) (e : Fin 64) (hl : l.val = e.val) (hl' : l'.val = 64 + e.val) :
    x.b116 (ix2 u l) + x.b108 (ix2 u l') = Spec.dv X Z O n u 0 e :=
  fold_at x.b76 (Spec.pr X Z n 0) (weight0 x X Z O n hx) (k0_pay33 (F := Ideal) x.d0 x.d1 x.d2 x.d3) (fun i g d => Spec.ov O n i 0 g d) (holds0 x X Z O n hx).ho x.b116 x.b108
    (fun u l => (pay35_at _ _ _ _ _ u l).trans (Finset.sum_congr rfl fun r _ => congrArg (· * _) (half_rows x.b76 r u)))
    (fun u l => (pay34_at _ _ _ _ _ u l).trans (Finset.sum_congr rfl fun r _ => congrArg (· * _) (other_rows x.b76 r u))) u l l' e hl hl'

include hx in
theorem dv_high (u : Fin 256) (l l' : Fin 128) (e : Fin 64) (hl : l.val = e.val) (hl' : l'.val = 64 + e.val) :
    x.b307 (ix2 u l) + x.b299 (ix2 u l') = Spec.dv X Z O n u 1 e :=
  fold_at x.b267 (Spec.pr X Z n 1) (weight1 x X Z O n hx) (k0_pay33 (F := Ideal) x.d4 x.d5 x.d6 x.d7) (fun i g d => Spec.ov O n i 1 g d) (holds1 x X Z O n hx).ho x.b307 x.b299
    (fun u l => (pay35_at _ _ _ _ _ u l).trans (Finset.sum_congr rfl fun r _ => congrArg (· * _) (half_rows x.b267 r u)))
    (fun u l => (pay34_at _ _ _ _ _ u l).trans (Finset.sum_congr rfl fun r _ => congrArg (· * _) (other_rows x.b267 r u))) u l l' e hl hl'

include hx in
theorem keys_grad (u : Fin 256) (l : Fin 128) : x.b386 (ix2 u l) = Spec.dk X Z O n u ⟨l.val / 64, by omega⟩ ⟨l.val % 64, by omega⟩ := by
  refine (pay104_at x.b334 x.b340 x.b195 u l).trans ?_
  have e1 : x.b195 (ix2 u l) = if l.val < 64 then x.b149 (ix2 u l) + x.b143 (ix2 u (swap l)) else 0 := pay60_at x.b143 x.b149 u l
  rw [e1]
  by_cases h : l.val < 64
  · rw [if_pos h, if_pos h, dk_low x X Z O n hx u l (swap l) ⟨l.val % 64, by omega⟩ (by show l.val = l.val % 64; omega)
      (by show (l.val + 64) % 128 = 64 + l.val % 64; omega)]
    exact congrFun (congrArg _ (Fin.ext (by show 0 = l.val / 64; omega))) _
  · rw [if_neg h, if_neg h, zero_add, add_comm, dk_high x X Z O n hx u (swap l) l ⟨l.val % 64, by omega⟩ (by show (l.val + 64) % 128 = l.val % 64; omega)
      (by show l.val = 64 + l.val % 64; omega)]
    exact congrFun (congrArg _ (Fin.ext (by show 1 = l.val / 64; omega))) _

include hx in
theorem vals_grad (u : Fin 256) (l : Fin 128) :
    x.b389 (ix2 u l) = Spec.dv X Z O n u ⟨l.val / 64, by omega⟩ ⟨l.val % 64, by omega⟩ := by
  refine (pay105_at x.b299 x.b307 x.b202 u l).trans ?_
  have e1 : x.b202 (ix2 u l) = if l.val < 64 then x.b116 (ix2 u l) + x.b108 (ix2 u (swap l)) else 0 := pay61_at x.b108 x.b116 u l
  rw [e1]
  by_cases h : l.val < 64
  · rw [if_pos h, if_pos h, dv_low x X Z O n hx u l (swap l) ⟨l.val % 64, by omega⟩ (by show l.val = l.val % 64; omega)
      (by show (l.val + 64) % 128 = 64 + l.val % 64; omega)]
    exact congrFun (congrArg _ (Fin.ext (by show 0 = l.val / 64; omega))) _
  · rw [if_neg h, if_neg h, zero_add, add_comm, dv_high x X Z O n hx u (swap l) l ⟨l.val % 64, by omega⟩ (by show (l.val + 64) % 128 = l.val % 64; omega)
      (by show l.val = 64 + l.val % 64; omega)]
    exact congrFun (congrArg _ (Fin.ext (by show 1 = l.val / 64; omega))) _

/-- The gradient of both blocks' keys and values, -/
def both_grads (x : BlockIn Ideal) : FVec Ideal S256x256 .f32 := k0_pay5 x.b386 x.b389

include hx in
theorem both_grads_at (u c : Fin 256) : both_grads x (ix2 u c) = Spec.dkv X Z O n u c := by
  refine (pay5_at x.b389 x.b386 u c).trans ?_
  rw [Spec.dkv]
  by_cases h : c.val < 128
  · rw [dif_pos h, dif_pos h, keys_grad x X Z O n hx]
  · rw [dif_neg h, dif_neg h, vals_grad x X Z O n hx]
    exact congrArg _ (Fin.ext (by show (c.val - 128) % 64 = c.val % 64; omega))

include hx in
theorem keep_val (j : Fin 128) (c : Fin 256) : x.keep (ix2 j c) = Spec.dkv X Z O n ⟨128 + j.val, by omega⟩ c := by
  rw [← both_grads_at x X Z O n hx]
  unfold BlockIn.keep k0_pay9 both_grads
  generalize k0_pay5 (F := Ideal) x.b386 x.b389 = y
  pointwise

include hx in
theorem dkv_val (k : Vec Ideal S128x256 .f32) (j : Fin 128) (c : Fin 256) :
    x.dkv k (ix2 j c) = k (ix2 j c) + Spec.dkv X Z O n ⟨j.val, by omega⟩ c := by
  rw [← both_grads_at x X Z O n hx]
  unfold BlockIn.dkv k0_pay7 k0_pay6 both_grads
  generalize k0_pay5 (F := Ideal) x.b386 x.b389 = y
  pointwise

theorem ckv_sum (y : FVec Ideal S256x256 .f32) (x : BlockIn Ideal) (hy : k0_pay5 x.b386 x.b389 = y) (k : Vec Ideal S128x256 .f32) (z : Vec Ideal S1x256 .f32) (c : Fin 256) :
    x.ckv k z (ix2 (0 : Fin 1) c) = z (ix2 (0 : Fin 1) c) + ∑ j : Fin 128, (k (ix2 j c) + y (ix2 (⟨j.val, by omega⟩ : Fin 256) c)) := by
  unfold BlockIn.ckv k0_pay8 k0_pay6
  rw [hy]
  pointwise

include hx in
theorem ckv_val (k : Vec Ideal S128x256 .f32) (z : Vec Ideal S1x256 .f32) (c : Fin 256) :
    x.ckv k z (ix2 (0 : Fin 1) c) = z (ix2 (0 : Fin 1) c) + ∑ j : Fin 128, (k (ix2 j c) + Spec.dkv X Z O n ⟨j.val, by omega⟩ c) := by
  rw [ckv_sum (both_grads x) x rfl]
  exact congrArg (_ + ·) (Finset.sum_congr rfl fun j _ => congrArg (_ + ·) (both_grads_at x X Z O n hx _ c))

theorem two_rows (a b : FVec Ideal S1x8 .f32) (y : Vec Ideal S2x8 .f32) (h : Fin 2) (g : Fin 8) :
    k0_pay106 a b y (ix2 h g) = y (ix2 h g) + if h.val = 0 then a (ix2 (0 : Fin 1) g) else b (ix2 (0 : Fin 1) g) := by
  unfold k0_pay106
  pointwise
  refine congrArg (_ + ·) ?_
  match h with
  | ⟨0, _⟩ => rfl
  | ⟨1, _⟩ => rfl

include hx in
theorem ds_val (y : Vec Ideal S2x8 .f32) (h : Fin 2) (g : Fin 8) : x.ds y (ix2 h g) = y (ix2 h g) + ∑ i, Spec.gz X Z O n h g i := by
  refine (two_rows x.b135 x.b326 y h g).trans (congrArg (_ + ·) ?_)
  rw [sinks0 x X Z O n hx, sinks1 x X Z O n hx]
  match h with
  | ⟨0, _⟩ => rfl
  | ⟨1, _⟩ => rfl

/-- Four blocks of rows of the query gradient, by their column of head pairs. -/
theorem rows_at {k : ℕ} (hk : k < 4) (y : FVec Ideal S512x128 .f32) (h : Fin 2)
    (hy : ∀ r l, y (ix2 r l) = pairAt (fun i g e => Spec.dq X Z O n i h g e) r l) (i l : Fin 128) (c : Fin 1024)
    (hc : c.val = 512 * h.val + 128 * k + l.val) :
    y (ix2 (⟨128 * k + i.val, by omega⟩ : Fin 512) l) = Spec.dq X Z O n i ⟨c.val / 512, by omega⟩ ⟨c.val / 64 % 8, by omega⟩ ⟨c.val % 64, by omega⟩ := by
  rw [hy]
  unfold pairAt
  refine congr (congr (congr (congrArg (Spec.dq X Z O n) (Fin.ext ?_)) (Fin.ext ?_)) (Fin.ext ?_)) (Fin.ext ?_)
  · show (128 * k + i.val) % 128 = i.val
    omega
  · show h.val = c.val / 512
    omega
  · show 2 * ((128 * k + i.val) / 128) + l.val / 64 = c.val / 64 % 8
    omega
  · show l.val % 64 = c.val % 64
    omega

include hx in
theorem dq_rows0 (r : Fin 512) (l : Fin 128) : (k0_pay45 (F := Ideal) x.b23 x.b26 x.b125 (ix2 r l) : EReal) = pairAt (fun i g e => Spec.dq X Z O n i 0 g e) r l :=
  dq_rows x.b125 (Spec.gr X Z O n 0) (grad0 x X Z O n hx) x.b23 x.b26 (fun u d => Spec.kv X n u 0 d) (holds0 x X Z O n hx).hkl (holds0 x X Z O n hx).hkh r l

include hx in
theorem dq_rows1 (r : Fin 512) (l : Fin 128) : (k0_pay45 (F := Ideal) x.b217 x.b214 x.b316 (ix2 r l) : EReal) = pairAt (fun i g e => Spec.dq X Z O n i 1 g e) r l :=
  dq_rows x.b316 (Spec.gr X Z O n 1) (grad1 x X Z O n hx) x.b217 x.b214 (fun u d => Spec.kv X n u 1 d) (holds1 x X Z O n hx).hkl (holds1 x X Z O n hx).hkh r l

end

/-- The eight pieces of the query gradient's block. -/
def piece (x : BlockIn Ideal) (k : Fin 8) : FVec Ideal S128x128 .f32 := match k with
  | 0 => k0_pay46 x.b23 x.b26 x.b125
  | 1 => k0_pay47 x.b23 x.b26 x.b125
  | 2 => x.b155
  | 3 => x.b156
  | 4 => k0_pay92 x.b214 x.b217 x.b316 x.b319
  | 5 => k0_pay93 x.b214 x.b217 x.b316 x.b319
  | 6 => x.b346
  | 7 => x.b347

theorem slice0 (y : FVec Ideal S512x128 .f32) (i l : Fin 128) :
    extractStridedSlice S128x128 ![0, 0] y slices_S512x128_o0_0_S128x128 (ix2 i l) = y (ix2 (⟨128 * 0 + i.val, by omega⟩ : Fin 512) l) := by
  pointwise

theorem slice1 (y : FVec Ideal S512x128 .f32) (i l : Fin 128) :
    extractStridedSlice S128x128 ![128, 0] y slices_S512x128_o128_0_S128x128 (ix2 i l) = y (ix2 (⟨128 * 1 + i.val, by omega⟩ : Fin 512) l) := by
  pointwise

theorem slice2 (y : FVec Ideal S512x128 .f32) (i l : Fin 128) :
    extractStridedSlice S128x128 ![256, 0] y slices_S512x128_o256_0_S128x128 (ix2 i l) = y (ix2 (⟨128 * 2 + i.val, by omega⟩ : Fin 512) l) := by
  pointwise

theorem slice3 (y : FVec Ideal S512x128 .f32) (i l : Fin 128) :
    extractStridedSlice S128x128 ![384, 0] y slices_S512x128_o384_0_S128x128 (ix2 i l) = y (ix2 (⟨128 * 3 + i.val, by omega⟩ : Fin 512) l) := by
  pointwise

section

variable (x : BlockIn Ideal) (X : Fin 8192 → Fin 1280 → EReal) (Z : Fin 2 → Fin 8 → EReal) (O : Fin 8192 → Fin 1024 → EReal) (n : Fin 64)
  (hx : BlockIs x X Z O n)

include hx in
theorem piece_val (k : Fin 8) (i l : Fin 128) (c : Fin 1024) (hc : c.val = 128 * k.val + l.val) :
    (piece x k (ix2 i l) : EReal) = Spec.dq X Z O n i ⟨c.val / 512, by omega⟩ ⟨c.val / 64 % 8, by omega⟩ ⟨c.val % 64, by omega⟩ := by
  match k with
  | ⟨0, _⟩ => exact (slice0 (k0_pay45 x.b23 x.b26 x.b125) i l).trans (rows_at X Z O n (by omega) _ 0 (dq_rows0 x X Z O n hx) i l c (by simp at hc ⊢; omega))
  | ⟨1, _⟩ => exact (slice1 (k0_pay45 x.b23 x.b26 x.b125) i l).trans (rows_at X Z O n (by omega) _ 0 (dq_rows0 x X Z O n hx) i l c (by simp at hc ⊢; omega))
  | ⟨2, _⟩ => exact (slice2 (k0_pay45 x.b23 x.b26 x.b125) i l).trans (rows_at X Z O n (by omega) _ 0 (dq_rows0 x X Z O n hx) i l c (by simp at hc ⊢; omega))
  | ⟨3, _⟩ => exact (slice3 (k0_pay45 x.b23 x.b26 x.b125) i l).trans (rows_at X Z O n (by omega) _ 0 (dq_rows0 x X Z O n hx) i l c (by simp at hc ⊢; omega))
  | ⟨4, _⟩ => exact (slice0 (k0_pay45 x.b217 x.b214 x.b316) i l).trans (rows_at X Z O n (by omega) _ 1 (dq_rows1 x X Z O n hx) i l c (by simp at hc ⊢; omega))
  | ⟨5, _⟩ => exact (slice1 (k0_pay45 x.b217 x.b214 x.b316) i l).trans (rows_at X Z O n (by omega) _ 1 (dq_rows1 x X Z O n hx) i l c (by simp at hc ⊢; omega))
  | ⟨6, _⟩ => exact (slice2 (k0_pay45 x.b217 x.b214 x.b316) i l).trans (rows_at X Z O n (by omega) _ 1 (dq_rows1 x X Z O n hx) i l c (by simp at hc ⊢; omega))
  | ⟨7, _⟩ => exact (slice3 (k0_pay45 x.b217 x.b214 x.b316) i l).trans (rows_at X Z O n (by omega) _ 1 (dq_rows1 x X Z O n hx) i l c (by simp at hc ⊢; omega))

theorem col_at (y : FVec Ideal S128x128 .f32) (z : Vec Ideal S1x128 .f32) (l : Fin 128) :
    k0_pay57 y z (ix2 (0 : Fin 1) l) = z (ix2 (0 : Fin 1) l) + ∑ i : Fin 128, y (ix2 i l) := by
  unfold k0_pay57
  pointwise

include hx in
theorem dq_val (i : Fin 128) (c : Fin 1024) :
    x.dq (ix2 i c) = Spec.dq X Z O n i ⟨c.val / 512, by omega⟩ ⟨c.val / 64 % 8, by omega⟩ ⟨c.val % 64, by omega⟩ := by
  have key : ∀ (k : Fin 8) (t : S128x128.Idx), i.val = (t 0).val → c.val = 128 * k.val + (t 1).val →
      (piece x k t : EReal) = Spec.dq X Z O n i ⟨c.val / 512, by omega⟩ ⟨c.val / 64 % 8, by omega⟩ ⟨c.val % 64, by omega⟩ := fun k t h0 h1 => by
    obtain ⟨a, b, rfl⟩ : ∃ (a b : Fin 128), t = ix2 a b := ⟨t 0, t 1, eq_ix2 t⟩
    rw [piece_val x X Z O n hx k a b c h1]
    exact congrFun (congrFun (congrFun (congrArg (Spec.dq X Z O n) (Fin.ext h0.symm)) _) _) _
  unfold BlockIn.dq BlockIn.dqPieces
  canon_tiles t h using x.dq_cover _
  · exact key 7 t h0 h1
  · exact key 6 t h0 h1
  · exact key 5 t h0 h1
  · exact key 4 t h0 h1
  · exact key 3 t h0 h1
  · exact key 2 t h0 h1
  · exact key 1 t h0 h1
  · exact key 0 t h0 (h1.trans (Nat.zero_add _).symm)

theorem ld_lane (y : Vec Ideal S1x1024 .f32) (o : ℕ) (h : ∀ a, (![0, o] : Fin 2 → ℕ) a + S1x128.size a ≤ S1x1024.size a) (l : Fin 128) (c : Fin 1024)
    (hc : c.val = o + l.val) : View.ld y (Rect.unit (s := S1x1024) ![0, o] S1x128.size h) (ix2 (0 : Fin 1) l) = y (ix2 (0 : Fin 1) c) := by
  refine View.ld_unit_apply_of y _ _ h (ix2 (0 : Fin 1) l) _ fun a => ?_
  refine Fin.cases ?_ (fun b => ?_) a
  · exact (Nat.zero_add _).symm
  · obtain rfl : b = 0 := Subsingleton.elim _ _
    exact hc

include hx in
theorem cq_val (y : Vec Ideal S1x1024 .f32) (c : Fin 1024) :
    x.cq y (ix2 (0 : Fin 1) c) = y (ix2 (0 : Fin 1) c) + ∑ i, Spec.dq X Z O n i ⟨c.val / 512, by omega⟩ ⟨c.val / 64 % 8, by omega⟩ ⟨c.val % 64, by omega⟩ := by
  have key : ∀ (k : Fin 8) (h : ∀ a, (![0, 128 * k.val] : Fin 2 → ℕ) a + S1x128.size a ≤ S1x1024.size a) (t : S1x128.Idx), c.val = 128 * k.val + (t 1).val →
      (k0_pay57 (F := Ideal) (piece x k) (View.ld y (Rect.unit (s := S1x1024) ![0, 128 * k.val] S1x128.size h)) t : EReal)
        = y (ix2 (0 : Fin 1) c) + ∑ i, Spec.dq X Z O n i ⟨c.val / 512, by omega⟩ ⟨c.val / 64 % 8, by omega⟩ ⟨c.val % 64, by omega⟩ := fun k h t h1 => by
    obtain ⟨l, rfl⟩ : ∃ l : Fin 128, t = ix2 (0 : Fin 1) l := ⟨t 1, (eq_ix2 t).trans (congrArg (fun a : Fin 1 => ix2 a (t 1)) (Subsingleton.elim _ _))⟩
    rw [col_at, ld_lane y _ h l c h1]
    exact congrArg (_ + ·) (Finset.sum_congr rfl fun i _ => piece_val x X Z O n hx k i l c h1)
  unfold BlockIn.cq BlockIn.cqPieces
  canon_tiles t h using x.cq_cover y _
  · exact key 7 _ t h1
  · exact key 6 _ t h1
  · exact key 5 _ t h1
  · exact key 4 _ t h1
  · exact key 3 _ t h1
  · exact key 2 _ t h1
  · exact key 1 _ t h1
  · exact key 0 _ t (h1.trans (Nat.zero_add _).symm)

end

end Cert.KernelIdeal.Attn

end
-- ==== Proof.Attn.Totals.lean ====
/- What a pass over the blocks accumulates, and the same over all rows. -/
module

public import proofs.«01_k».proof.Proof.Attn.Spec
public import Idealize.ShloMosaic.Lib.Pipeline.ValueKit

@[expose] public section

noncomputable section

namespace Cert.Spec

open Idealize.ShloMosaic

/-- An accumulator started at zero that adds one term per block. -/
theorem pass (a : ℕ → EReal) (f : Fin 64 → EReal) (h0 : a 0 = 0) (hs : ∀ (n : ℕ) (hn : n < 64), a (n + 1) = a n + f ⟨n, hn⟩) :
    a 64 = ∑ n, f n := by
  have key : ∀ n, n ≤ 64 → a n = ∑ b ∈ Finset.range n, if h : b < 64 then f ⟨b, h⟩ else 0 := by
    intro n
    induction n with
    | zero => intro _; rw [h0, Finset.sum_range_zero]
    | succ n ih =>
      intro hn
      rw [hs n (by omega), ih (by omega), Finset.sum_range_succ, dif_pos (by omega)]
  rw [key 64 le_rfl, Finset.sum_range]
  exact Finset.sum_congr rfl fun b _ => dif_pos b.isLt

/-- One that adds at block `n` what the block before kept (`e (n - 1)`) and this block's part of it (`d n`), and at the end what
    the last block kept: over all blocks, each block's own part and the next one's. -/
theorem pass_keep (a : ℕ → EReal) (k : ℕ → EReal) (e d : Fin 64 → EReal) (h0 : a 0 = 0) (hk0 : k 0 = 0)
    (hk : ∀ (n : ℕ) (hn : n < 64), k (n + 1) = e ⟨n, hn⟩) (hd : d 0 = 0)
    (hs : ∀ (n : ℕ) (hn : n < 64), a (n + 1) = a n + (k n + d ⟨n, hn⟩)) :
    a 64 + k 64 = ∑ n, (e n + if h : n.val < 63 then d ⟨1 + n.val, by omega⟩ else 0) := by
  rw [pass a (fun n => k n.val + d n) h0 hs, Finset.sum_add_distrib, Finset.sum_add_distrib, add_right_comm]
  congr 1
  · have e1 : (∑ n : Fin 64, k n.val) + k 64 = ∑ n : Fin 65, k n.val := (Fin.sum_univ_castSucc (n := 64) fun n : Fin 65 => k n.val).symm
    rw [e1]
    refine (Fin.sum_univ_succ (n := 64) fun n : Fin 65 => k n.val).trans ?_
    refine (congrArg (· + ∑ i : Fin 64, k i.succ.val) hk0).trans ((zero_add _).trans ?_)
    exact Finset.sum_congr rfl fun n _ => hk n.val n.isLt
  · refine (Fin.sum_univ_succ (n := 63) d).trans ?_
    rw [hd, zero_add]
    refine Eq.symm ((Fin.sum_univ_castSucc (n := 63) fun n : Fin 64 => if h : n.val < 63 then d ⟨1 + n.val, by omega⟩ else 0).trans ?_)
    rw [dif_neg (by show ¬ (63 < 63); omega), add_zero]
    refine Finset.sum_congr rfl fun n _ => ?_
    rw [dif_pos (show (Fin.castSucc n).val < 63 from n.isLt)]
    exact congrArg d (Fin.ext (Nat.add_comm 1 n.val))

variable (X : Fin 8192 → Fin 1280 → EReal) (Z : Fin 2 → Fin 8 → EReal) (O : Fin 8192 → Fin 1024 → EReal)

/-- The first block has no block before it: nothing of it goes there. -/
theorem sc_first (h : Fin 2) (g : Fin 8) (i : Fin 128) (u : Fin 256) (hu : u.val < 128) : sc X 0 h g i u = ⊥ :=
  if_neg fun hk => by have := hk.2.2 rfl; omega

theorem pr_first (h : Fin 2) (g : Fin 8) (i : Fin 128) (u : Fin 256) (hu : u.val < 128) : pr X Z 0 h g i u = 0 := by
  unfold pr Row.pr Row.ex
  rw [sc_first X h g i u hu, sub_eq_add_neg, EReal.bot_add]
  exact zero_mul _

theorem gr_first (h : Fin 2) (g : Fin 8) (i : Fin 128) (u : Fin 256) (hu : u.val < 128) : gr X Z O 0 h g i u = 0 := by
  have e : Row.pr (sc X 0 h g i) (Z h g) u = 0 := pr_first X Z h g i u hu
  unfold gr Row.grad
  rw [e, zero_mul]

theorem dkv_first (u : Fin 256) (hu : u.val < 128) (c : Fin 256) : dkv X Z O 0 u c = 0 := by
  unfold dkv
  by_cases hc : c.val < 128
  · rw [dif_pos hc]
    unfold dk
    exact Finset.sum_eq_zero fun g _ => Finset.sum_eq_zero fun i _ => by rw [gr_first X Z O _ g i u hu, zero_mul]
  · rw [dif_neg hc]
    unfold dv
    exact Finset.sum_eq_zero fun g _ => Finset.sum_eq_zero fun i _ => by rw [pr_first X Z _ g i u hu, zero_mul]

/-- Over all rows. -/
theorem sum_dqAt (c : Fin 1024) : ∑ r, dqAt X Z O r c
    = ∑ n : Fin 64, ∑ i : Fin 128, dq X Z O n i ⟨c.val / 512, by omega⟩ ⟨c.val / 64 % 8, by omega⟩ ⟨c.val % 64, by omega⟩ :=
  Fin.sum_divmod_congr fun _ _ _ => rfl

theorem sum_gkvAt (c : Fin 256) : ∑ r, gkvAt X Z O r c = ∑ b : Fin 64, ∑ j : Fin 128, gkv X Z O b j c :=
  Fin.sum_divmod_congr fun _ _ _ => rfl

theorem sum_gkv (b : Fin 64) (c : Fin 256) : ∑ j : Fin 128, gkv X Z O b j c = (∑ j : Fin 128, dkv X Z O b ⟨128 + j.val, by omega⟩ c)
    + if h : b.val < 63 then ∑ j : Fin 128, dkv X Z O ⟨1 + b.val, by omega⟩ ⟨j.val, by omega⟩ c else 0 := by
  unfold gkv
  rw [Finset.sum_add_distrib]
  congr 1
  by_cases h : b.val < 63
  · simp only [dif_pos h]
  · simp only [dif_neg h, Finset.sum_const_zero]

end Cert.Spec

end
-- ==== Proof.Attn.Arrays.lean ====
/- The five result arrays after the launch, by entry. -/
module

public import proofs.«01_k».proof.Proof.Attn.Blocks
public import proofs.«01_k».proof.Proof.Attn.BlockVal
public import proofs.«01_k».proof.Proof.Attn.Totals

@[expose] public section

set_option maxRecDepth 16384

noncomputable section

namespace Cert.KernelIdeal.Attn

open Cert.KernelIdeal Cert.KernelIdeal.Gen
open Idealize.ShloMosaic Idealize.ShloMosaic.TcCoe

variable (m : (ℓ : Loc nD τ sig) → Buf (Elt Ideal) ℓ)

/-! ## The scratch and the accumulators -/

theorem zero1 (i : Fin 128) (k : Fin 256) : (k0_pay1 (F := Ideal) (ix2 i k) : EReal) = 0 := by
  unfold k0_pay1
  rw [shapeCast_self]
  exact Ideal.ofBits_zero_f32
theorem zero2 (h : Fin 2) (g : Fin 8) : (k0_pay2 (F := Ideal) (ix2 h g) : EReal) = 0 := Ideal.ofBits_zero_f32
theorem zero3 (k : Fin 1024) : (k0_pay3 (F := Ideal) (ix2 (0 : Fin 1) k) : EReal) = 0 := Ideal.ofBits_zero_f32
theorem zero4 (k : Fin 256) : (k0_pay4 (F := Ideal) (ix2 (0 : Fin 1) k) : EReal) = 0 := Ideal.ofBits_zero_f32

theorem pay10_at (y : FVec Ideal S128x256 .f32) (i : Fin 128) (k : Fin 256) : (k0_pay10 (F := Ideal) y (ix2 i k) : EReal) = y (ix2 i k) := rfl

theorem pay11_at (y : FVec Ideal S128x256 .f32) (z : FVec Ideal S1x256 .f32) (k : Fin 256) :
    (k0_pay11 (F := Ideal) y z (ix2 (0 : Fin 1) k) : EReal) = z (ix2 (0 : Fin 1) k) + ∑ j : Fin 128, y (ix2 j k) := by
  unfold k0_pay11
  pointwise

theorem blockPt (c : Dev nD) (n : ℕ) (hn : n < 64) :
    BlockIs (blockIn m c (pt n)) (argX m c) (argZ m c) (argO m c) ⟨n, hn⟩ := by
  have e : (pt n).val = n := pt_num n (by omega)
  have h := blockIs m c (pt n) (by omega)
  have e' : (⟨(pt n).val, by omega⟩ : Fin 64) = ⟨n, hn⟩ := Fin.ext e
  rwa [e'] at h

theorem keepAt_zero (c : Dev nD) (j : Fin 128) (k : Fin 256) : (keepAt m c 0 (ix2 j k) : EReal) = 0 := zero1 j k
theorem keepAt_succ (c : Dev nD) (n : ℕ) (hn : n < 64) (j : Fin 128) (k : Fin 256) :
    (keepAt m c (n + 1) (ix2 j k) : EReal) = Spec.dkv (argX m c) (argZ m c) (argO m c) ⟨n, hn⟩ ⟨128 + j.val, by omega⟩ k :=
  keep_val _ _ _ _ _ (blockPt m c n hn) j k

theorem dsAt_end (c : Dev nD) (h : Fin 2) (g : Fin 8) :
    (dsAt m c 64 (ix2 h g) : EReal) = Spec.ds (argX m c) (argZ m c) (argO m c) h g :=
  Spec.pass (fun n => dsAt m c n (ix2 h g)) (fun n => ∑ i, Spec.gz (argX m c) (argZ m c) (argO m c) n h g i) (zero2 h g)
    fun n hn => ds_val _ _ _ _ _ (blockPt m c n hn) _ h g

theorem cqAt_end (c : Dev nD) (k : Fin 1024) :
    (cqAt m c 64 (ix2 (0 : Fin 1) k) : EReal) = ∑ r, Spec.dqAt (argX m c) (argZ m c) (argO m c) r k :=
  (Spec.pass (fun n => cqAt m c n (ix2 (0 : Fin 1) k)) (fun n => ∑ i, Spec.dq (argX m c) (argZ m c) (argO m c) n i ⟨k.val / 512, by omega⟩
      ⟨k.val / 64 % 8, by omega⟩ ⟨k.val % 64, by omega⟩) (zero3 k)
    fun n hn => cq_val _ _ _ _ _ (blockPt m c n hn) _ k).trans (Spec.sum_dqAt _ _ _ k).symm

theorem ckvAt_end (c : Dev nD) (k : Fin 256) :
    (ckvAt m c 64 (ix2 (0 : Fin 1) k) : EReal) + ∑ j : Fin 128, (keepAt m c 64 (ix2 j k) : EReal)
      = ∑ r, Spec.gkvAt (argX m c) (argZ m c) (argO m c) r k := by
  rw [Spec.sum_gkvAt]
  simp only [Spec.sum_gkv]
  refine Spec.pass_keep (fun n => ckvAt m c n (ix2 (0 : Fin 1) k)) (fun n => ∑ j : Fin 128, (keepAt m c n (ix2 j k) : EReal))
    (fun n => ∑ j : Fin 128, Spec.dkv (argX m c) (argZ m c) (argO m c) n ⟨128 + j.val, by omega⟩ k)
    (fun n => ∑ j : Fin 128, Spec.dkv (argX m c) (argZ m c) (argO m c) n ⟨j.val, by omega⟩ k) (zero4 k)
    (Finset.sum_eq_zero fun j _ => keepAt_zero m c j k) (fun n hn => Finset.sum_congr rfl fun j _ => keepAt_succ m c n hn j k)
    (Finset.sum_eq_zero fun j _ => Spec.dkv_first _ _ _ _ j.isLt k) fun n hn => ?_
  rw [← Finset.sum_add_distrib]
  exact ckv_val _ _ _ _ _ (blockPt m c n hn) _ _ k

/-! ## The arrays -/

/-- The output windows' blocks at a point. -/
theorem idxOut : ∀ t : Fin cfg0.N, win0_6.index t = ![min t.val 63, 0] ∧ win0_7.index t = ![min (t.val - 1) 63, 0]
    ∧ win0_8.index t = ![0, 0] ∧ win0_9.index t = ![0, 0] ∧ win0_10.index t = ![0, 0] :=
  (by decide +kernel : ∀ t : Fin grid0.N, _)

theorem flush7 : ∀ t : Fin cfg0.N, (cfg0.win 7).flush t = true → t.val ≠ 0 :=
  (by decide +kernel : ∀ t : Fin grid0.N, (cfg0.win 7).flush t = true → t.val ≠ 0)

def outQ (c : Dev nD) : FVec Ideal S8192x1024 .bf16 := fun j => Spec.dqAt (argX m c) (argZ m c) (argO m c) (j 0) (j 1)
def outKV (c : Dev nD) : FVec Ideal S8192x256 .bf16 := fun j => Spec.gkvAt (argX m c) (argZ m c) (argO m c) (j 0) (j 1)
def outS (c : Dev nD) : FVec Ideal S2x8 .f32 := fun j => Spec.ds (argX m c) (argZ m c) (argO m c) (j 0) (j 1)
def outCQ (c : Dev nD) : FVec Ideal S1x1024 .f32 := fun j => ∑ r, Spec.dqAt (argX m c) (argZ m c) (argO m c) r (j 1)
def outCKV (c : Dev nD) : FVec Ideal S1x256 .f32 := fun j => ∑ r, Spec.gkvAt (argX m c) (argZ m c) (argO m c) r (j 1)

theorem dqOut_at (c : Dev nD) (t : Fin cfg0.N) (i : Fin 128) (k : Fin 1024) (r : Fin 8192) (hr : r.val = min t.val 63 * 128 + i.val) :
    (dqOut m c t (ix2 i k) : EReal) = Spec.dqAt (argX m c) (argZ m c) (argO m c) r k := by
  have hn : min t.val 63 < 64 := by omega
  refine (dq_val _ _ _ _ _ (blockPt m c (min t.val 63) hn) i k).trans ?_
  have e1 : (⟨min t.val 63, hn⟩ : Fin 64) = ⟨r.val / 128, by omega⟩ := Fin.ext (by show min t.val 63 = r.val / 128; omega)
  have e2 : i = (⟨r.val % 128, by omega⟩ : Fin 128) := Fin.ext (by show i.val = r.val % 128; omega)
  unfold Spec.dqAt
  rw [e1, ← e2]

theorem dkvOut_at (c : Dev nD) (t : Fin cfg0.N) (h0 : t.val ≠ 0) (i : Fin 128) (k : Fin 256) (r : Fin 8192)
    (hr : r.val = min (t.val - 1) 63 * 128 + i.val) :
    (dkvOut m c t (ix2 i k) : EReal) = Spec.gkvAt (argX m c) (argZ m c) (argO m c) r k := by
  have hN : t.val < 65 := lt_of_lt_of_eq t.isLt N_0
  obtain ⟨n, hn⟩ : ∃ n, t.val = n + 1 := ⟨t.val - 1, by omega⟩
  have e1 : (⟨r.val / 128, by omega⟩ : Fin 64) = ⟨n, by omega⟩ := Fin.ext (by show r.val / 128 = n; omega)
  have e2 : (⟨r.val % 128, by omega⟩ : Fin 128) = i := Fin.ext (by show r.val % 128 = i.val; omega)
  unfold Spec.gkvAt dkvOut
  rw [e1, e2]
  unfold Spec.gkv
  by_cases h : t.val < 64
  · rw [if_pos h, dif_pos (show n < 63 by omega)]
    refine (dkv_val _ _ _ _ _ (blockIs m c t h) _ i k).trans ?_
    have e3 : (⟨t.val, h⟩ : Fin 64) = ⟨1 + n, by omega⟩ := Fin.ext (by show t.val = 1 + n; omega)
    rw [e3, hn, keepAt_succ m c n (by omega) i k]
  · obtain rfl : n = 63 := by omega
    rw [if_neg h, dif_neg (show ¬ 63 < 63 by omega), add_zero]
    exact keepAt_succ m c 63 (by omega) i k

theorem arr6 (c : Dev nD) : (dats m 0 c).arrAt 6 cfg0.N = outQ m c := by
  refine (dats m 0 c).arrAt_eq_of_covers 6 _ (by decide +kernel) fun t hf y => ?_
  blk_simp
  rw [after0_6, eq_ix2 y]
  refine (dqOut_at m c t (y 0) (y 1) _ ?_).trans (congrArg (Spec.dqAt (argX m c) (argZ m c) (argO m c) _) (Fin.ext ?_))
  · blk_simp [idxOut t]
  · blk_simp [idxOut t]

theorem arr7 (c : Dev nD) : (dats m 0 c).arrAt 7 cfg0.N = outKV m c := by
  refine (dats m 0 c).arrAt_eq_of_covers 7 _ (by decide +kernel) fun t hf y => ?_
  blk_simp
  rw [after0_7, eq_ix2 y]
  refine (dkvOut_at m c t (flush7 t hf) (y 0) (y 1) _ ?_).trans (congrArg (Spec.gkvAt (argX m c) (argZ m c) (argO m c) _) (Fin.ext ?_))
  · blk_simp [idxOut t]
  · blk_simp [idxOut t]

theorem arr8 (c : Dev nD) : (dats m 0 c).arrAt 8 cfg0.N = outS m c := by
  refine (dats m 0 c).arrAt_eq_of_after_last 8 (pt 64) (by decide +kernel) _ fun j => ?_
  blk_simp
  rw [after0_8, eq_ix2 j]
  exact dsAt_end m c (j 0) (j 1)

theorem arr9 (c : Dev nD) : (dats m 0 c).arrAt 9 cfg0.N = outCQ m c := by
  refine (dats m 0 c).arrAt_eq_of_after_last 9 (pt 64) (by decide +kernel) _ fun j => ?_
  blk_simp
  have e : j = ix2 (0 : Fin 1) (j 1) := (eq_ix2 j).trans (congrArg (ix2 · (j 1)) (Subsingleton.elim _ _))
  rw [after0_9, e]
  exact cqAt_end m c (j 1)

theorem arr10 (c : Dev nD) : (dats m 0 c).arrAt 10 cfg0.N = outCKV m c := by
  refine (dats m 0 c).arrAt_eq_of_after_last 10 (pt 64) (by decide +kernel) _ fun j => ?_
  blk_simp
  have e : j = ix2 (0 : Fin 1) (j 1) := (eq_ix2 j).trans (congrArg (ix2 · (j 1)) (Subsingleton.elim _ _))
  rw [after0_10, e]
  unfold ckvOut
  rw [if_neg (by rw [pt_num 64 le_rfl]; omega)]
  exact (pay11_at _ _ (j 1)).trans (ckvAt_end m c (j 1))

end Cert.KernelIdeal.Attn

end
-- ==== Proof.Attn.Axes.lean ====
/- Reductions of the reference's arrays of six axes, read along the axes they sum over. -/
module

public import proofs.«01_k».proof.ReferenceIdeal
public import Idealize.ShloMosaic.Lib.Pointwise
public import Idealize.ShloMosaic.Lib.IdealHost

@[expose] public section

noncomputable section

namespace Cert.ReferenceIdeal.Attn

open Cert.ReferenceIdeal Idealize.ShloMosaic

/-- What falls onto a row of scores is the row. -/
theorem row_fiber (h : S1x64x2x8x128x256.ReducesTo [5] S1x64x2x8x128) (n : Fin 64) (a : Fin 2) (g : Fin 8) (i : Fin 128)
    (y : S1x64x2x8x128x256.Idx) :
    h.drop y = ix5 (0 : Fin 1) n a g i ↔ ∃ u : Fin 256, (ix6 (0 : Fin 1) n a g i u : S1x64x2x8x128x256.Idx) = y := by
  constructor
  · intro e
    refine ⟨y 5, funext fun b => ?_⟩
    fin_cases b
    · exact Subsingleton.elim (α := Fin 1) _ _
    · exact Fin.ext (congrArg Fin.val (congrFun e 1)).symm
    · exact Fin.ext (congrArg Fin.val (congrFun e 2)).symm
    · exact Fin.ext (congrArg Fin.val (congrFun e 3)).symm
    · exact Fin.ext (congrArg Fin.val (congrFun e 4)).symm
    · rfl
  · rintro ⟨u, rfl⟩
    refine funext fun b => ?_
    fin_cases b <;> rfl

/-- What falls onto a query's place is its one element. -/
theorem one_fiber (h : S1x64x2x8x128x1.ReducesTo [0, 5] S64x2x8x128) (n : Fin 64) (a : Fin 2) (g : Fin 8) (i : Fin 128)
    (y : S1x64x2x8x128x1.Idx) :
    h.drop y = ix4 n a g i ↔ ∃ _u : Fin 1, (ix6 (0 : Fin 1) n a g i (0 : Fin 1) : S1x64x2x8x128x1.Idx) = y := by
  constructor
  · intro e
    refine ⟨0, funext fun b => ?_⟩
    fin_cases b
    · exact Subsingleton.elim (α := Fin 1) _ _
    · exact Fin.ext (congrArg Fin.val (congrFun e 0)).symm
    · exact Fin.ext (congrArg Fin.val (congrFun e 1)).symm
    · exact Fin.ext (congrArg Fin.val (congrFun e 2)).symm
    · exact Fin.ext (congrArg Fin.val (congrFun e 3)).symm
    · exact Subsingleton.elim (α := Fin 1) _ _
  · rintro ⟨u, rfl⟩
    refine funext fun b => ?_
    fin_cases b <;> rfl

/-- What falls onto a head is its rows of every block. -/
theorem head_fiber (h : S1x64x2x8x128x1.ReducesTo [1, 4] S1x2x8x1) (a : Fin 2) (g : Fin 8)
    (y : S1x64x2x8x128x1.Idx) :
    h.drop y = ix4 (0 : Fin 1) a g (0 : Fin 1) ↔ ∃ k : Fin 64 × Fin 128, (ix6 (0 : Fin 1) k.1 a g k.2 (0 : Fin 1) : S1x64x2x8x128x1.Idx) = y := by
  constructor
  · intro e
    refine ⟨(y 1, y 4), funext fun b => ?_⟩
    fin_cases b
    · exact Subsingleton.elim (α := Fin 1) _ _
    · rfl
    · exact Fin.ext (congrArg Fin.val (congrFun e 1)).symm
    · exact Fin.ext (congrArg Fin.val (congrFun e 2)).symm
    · rfl
    · exact Subsingleton.elim (α := Fin 1) _ _
  · rintro ⟨k, rfl⟩
    refine funext fun b => ?_
    fin_cases b <;> rfl

theorem row_fold (h : S1x64x2x8x128x256.ReducesTo [5] S1x64x2x8x128) (n : Fin 64) (a : Fin 2) (g : Fin 8) (i : Fin 128)
    (b : EReal) (v : S1x64x2x8x128x256.Idx → EReal) :
    (Finset.univ.filter fun y => h.drop y = ix5 (0 : Fin 1) n a g i).fold max b v
      = (Finset.univ : Finset (Fin 256)).fold max b fun u => v (ix6 (0 : Fin 1) n a g i u) :=
  Finset.fold_filter_eq_fold_of_fiber max _ (fun u : Fin 256 => (ix6 (0 : Fin 1) n a g i u : S1x64x2x8x128x256.Idx))
    (fun _ _ e => congrFun e 5) (row_fiber h n a g i) b v

theorem row_sum (h : S1x64x2x8x128x256.ReducesTo [5] S1x64x2x8x128) (n : Fin 64) (a : Fin 2) (g : Fin 8) (i : Fin 128)
    (b : EReal) (v : S1x64x2x8x128x256.Idx → EReal) :
    Ideal.hostReduceAdd h v b (ix5 (0 : Fin 1) n a g i) = b + ∑ u : Fin 256, v (ix6 (0 : Fin 1) n a g i u) :=
  congrArg (b + ·) (Finset.sum_filter_eq_sum_of_fiber _ (fun u : Fin 256 => (ix6 (0 : Fin 1) n a g i u : S1x64x2x8x128x256.Idx))
    (fun _ _ e => congrFun e 5) (row_fiber h n a g i) v)

theorem one_sum (h : S1x64x2x8x128x1.ReducesTo [0, 5] S64x2x8x128) (n : Fin 64) (a : Fin 2) (g : Fin 8) (i : Fin 128)
    (b : EReal) (v : S1x64x2x8x128x1.Idx → EReal) :
    Ideal.hostReduceAdd h v b (ix4 n a g i) = b + v (ix6 (0 : Fin 1) n a g i (0 : Fin 1)) :=
  congrArg (b + ·) ((Finset.sum_filter_eq_sum_of_fiber _ (fun _ : Fin 1 => (ix6 (0 : Fin 1) n a g i (0 : Fin 1) : S1x64x2x8x128x1.Idx))
    (fun _ _ _ => Subsingleton.elim _ _) (one_fiber h n a g i) v).trans (Fin.sum_univ_one _))

theorem head_sum (h : S1x64x2x8x128x1.ReducesTo [1, 4] S1x2x8x1) (a : Fin 2) (g : Fin 8)
    (b : EReal) (v : S1x64x2x8x128x1.Idx → EReal) :
    Ideal.hostReduceAdd h v b (ix4 (0 : Fin 1) a g (0 : Fin 1))
      = b + ∑ n : Fin 64, ∑ i : Fin 128, v (ix6 (0 : Fin 1) n a g i (0 : Fin 1)) :=
  congrArg (b + ·) ((Finset.sum_filter_eq_sum_of_fiber _ (fun k : Fin 64 × Fin 128 => (ix6 (0 : Fin 1) k.1 a g k.2 (0 : Fin 1) : S1x64x2x8x128x1.Idx))
    (fun _ _ e => Prod.ext (congrFun e 1) (congrFun e 4)) (head_fiber h a g) v).trans (Fintype.sum_prod_type _))

/-- A stack of one member, summed over its members, is the member. -/
theorem member_sum (h : S1x8192x1280.ReducesTo [0] S8192x1280) (r : Fin 8192) (c : Fin 1280) (b : EReal) (v : S1x8192x1280.Idx → EReal) :
    Ideal.hostReduceAdd h v b (ix2 r c) = b + v (ix3 (0 : Fin 1) r c) :=
  congrArg (b + ·) ((Finset.sum_filter_eq_sum_of_fiber _ (fun _ : Fin 1 => (ix3 (0 : Fin 1) r c : S1x8192x1280.Idx))
    (fun _ _ _ => Subsingleton.elim _ _) (fun y => by
      constructor
      · intro e
        refine ⟨0, funext fun k => ?_⟩
        fin_cases k
        · exact Subsingleton.elim (α := Fin 1) _ _
        · exact Fin.ext (congrArg Fin.val (congrFun e 0)).symm
        · exact Fin.ext (congrArg Fin.val (congrFun e 1)).symm
      · rintro ⟨u, rfl⟩
        refine funext fun k => ?_
        fin_cases k <;> rfl) v).trans (Fin.sum_univ_one _))

/-- The sum of a column. -/
theorem col_sum (h : S8192x1280.ReducesTo [0] S1280) (c : Fin 1280) (b : EReal) (v : S8192x1280.Idx → EReal) :
    Ideal.hostReduceAdd h v b (ix1 c) = b + ∑ r : Fin 8192, v (ix2 r c) :=
  congrArg (b + ·) (Finset.sum_filter_eq_sum_of_fiber _ (fun r : Fin 8192 => (ix2 r c : S8192x1280.Idx))
    (fun _ _ e => congrFun e 0) (fun y => by
      constructor
      · intro e
        refine ⟨y 0, funext fun k => ?_⟩
        fin_cases k
        · rfl
        · exact Fin.ext (congrArg Fin.val (congrFun e 0)).symm
      · rintro ⟨u, rfl⟩
        refine funext fun k => ?_
        fin_cases k
        rfl) v)

end Cert.ReferenceIdeal.Attn

end
-- ==== Proof.Attn.RefScore.lean ====
/- The reference's forward lines read at an index: queries, keys, values, the mask, the scores and the softmax. -/
module

public import proofs.«01_k».proof.Proof.Gen.ReferenceIdeal.Run
public import proofs.«01_k».proof.Proof.Attn.Spec
public import proofs.«01_k».proof.Proof.Attn.Axes
public import proofs.«01_k».proof.Proof.Attn.Words
public import Idealize.ShloMosaic.Lib.Pointwise
public import Idealize.ShloMosaic.Lib.IdealHost
public import Idealize.ShloMosaic.Lib.Tactic.CleanTypes

@[expose] public section

set_option maxRecDepth 16384

noncomputable section

namespace Cert.ReferenceIdeal.Attn

open Cert.ReferenceIdeal Cert.ReferenceIdeal.Gen Cert.ReferenceIdeal.Value
open Idealize.ShloMosaic Idealize.ShloMosaic.TcCoe Idealize.SL.Sem Idealize.ShloMosaic.StableHlo

variable (V0 : Valuation τ sig (Elt Ideal))

/-- The three arguments' entries. -/
def X (r : Fin 8192) (c : Fin 1280) : EReal := (V0 (Proc.devRef .tc main_arg0) : S8192x1280.Idx → EReal) (ix2 r c)
def Z (h : Fin 2) (g : Fin 8) : EReal := (V0 (Proc.devRef .tc main_arg1) : S2x8.Idx → EReal) (ix2 h g)
def O (r : Fin 8192) (c : Fin 1024) : EReal := (V0 (Proc.devRef .tc main_arg2) : S8192x1024.Idx → EReal) (ix2 r c)

/-- The keys and values as the reference has them: zero where there is no block before. -/
def rk (n : Fin 64) (u : Fin 256) (h : Fin 2) (d : Fin 64) : EReal := if n.val = 0 ∧ u.val < 128 then 0 else Spec.kv (X V0) n u h d
def rv (n : Fin 64) (u : Fin 256) (h : Fin 2) (d : Fin 64) : EReal := if n.val = 0 ∧ u.val < 128 then 0 else Spec.vv (X V0) n u h d

/-- The reference's arrays, as functions of their indices. -/
def A6 : S1x64x128x2x8x64.Idx → EReal := res_main_v6 V0
def A14 : S1x64x256x2x64.Idx → EReal := res_main_v14 V0
def A20 : S1x64x256x2x64.Idx → EReal := res_main_v20 V0
def M54 : S1x64x2x8x128x256.Idx → BitVec 1 := res_main_v54_1 V0
def A54 : S1x64x2x8x128x256.Idx → EReal := res_main_v54_0 V0

theorem v6_at (n : Fin 64) (i : Fin 128) (h : Fin 2) (g : Fin 8) (d : Fin 64) :
    A6 V0 (ix6 (0 : Fin 1) n i h g d) = Spec.qv (X V0) n i h g d := by
  unfold A6 res_main_v6 res_main_v0
  clean_types
  pointwise
  rfl

theorem v14_at (n : Fin 64) (u : Fin 256) (h : Fin 2) (d : Fin 64) :
    A14 V0 (ix5 (0 : Fin 1) n u h d) = rk V0 n u h d := by
  unfold A14 res_main_v14 res_main_v7 res_main_v0
  clean_types
  pointwise
  refine Eq.trans (b := if _h : u.val < 128 then (if _h' : n.val < 1 then 0
    else X V0 ⟨(n.val - 1) * 128 + u.val, by omega⟩ ⟨1024 + (h.val * 64 + d.val), by omega⟩)
    else X V0 ⟨n.val * 128 + (u.val - 128), by omega⟩ ⟨1024 + (h.val * 64 + d.val), by omega⟩) rfl ?_
  unfold rk Spec.kv Spec.krow
  have hm (hu : u.val < 128) : u.val % 128 = u.val := Nat.mod_eq_of_lt hu
  by_cases hu : u.val < 128
  · by_cases hn : n.val < 1
    · rw [dif_pos hu, dif_pos hn, if_pos ⟨by omega, hu⟩]
    · rw [dif_pos hu, dif_neg hn, if_neg (fun hh : n.val = 0 ∧ u.val < 128 => hn (by omega)), if_pos hu]
      simp only [hm hu]
  · rw [dif_neg hu, if_neg (fun hh : n.val = 0 ∧ u.val < 128 => hu hh.2), if_neg hu]

theorem v20_at (n : Fin 64) (u : Fin 256) (h : Fin 2) (d : Fin 64) :
    A20 V0 (ix5 (0 : Fin 1) n u h d) = rv V0 n u h d := by
  unfold A20 res_main_v20 res_main_v8 res_main_v0
  clean_types
  pointwise
  refine Eq.trans (b := if _h : u.val < 128 then (if _h' : n.val < 1 then 0
    else X V0 ⟨(n.val - 1) * 128 + u.val, by omega⟩ ⟨1152 + (h.val * 64 + d.val), by omega⟩)
    else X V0 ⟨n.val * 128 + (u.val - 128), by omega⟩ ⟨1152 + (h.val * 64 + d.val), by omega⟩) rfl ?_
  unfold rv Spec.vv Spec.krow
  have hm (hu : u.val < 128) : u.val % 128 = u.val := Nat.mod_eq_of_lt hu
  by_cases hu : u.val < 128
  · by_cases hn : n.val < 1
    · rw [dif_pos hu, dif_pos hn, if_pos ⟨by omega, hu⟩]
    · rw [dif_pos hu, dif_neg hn, if_neg (fun hh : n.val = 0 ∧ u.val < 128 => hn (by omega)), if_pos hu]
      simp only [hm hu]
  · rw [dif_neg hu, if_neg (fun hh : n.val = 0 ∧ u.val < 128 => hu hh.2), if_neg hu]

theorem mask_at (n : Fin 64) (h : Fin 2) (g : Fin 8) (i : Fin 128) (u : Fin 256) :
    M54 V0 (ix6 (0 : Fin 1) n h g i u) = BitVec.ofBool (decide (Spec.keep n i u)) := by
  unfold M54 res_main_v54_1 res_main_v31 res_main_v26
  clean_types
  pointwise
  have e0 : (0#32 : BitVec 32) = BitVec.ofNat 32 0 := rfl
  have e1 : IntOp.cmpi .slt (BitVec.ofNat 32 (i.val + 128) - BitVec.ofNat 32 u.val) (128#32) = BitVec.ofBool (decide (i.val + 128 < u.val + 128)) :=
    Words.diff_lt _ _ 128 (by omega) (by omega) (by omega)
  rw [Words.behind, Words.place, e1, e0, Words.diff_ge _ _ _ (by omega) (by omega) (by omega),
    Words.diff_ge _ _ _ (by omega) (by omega) (by omega), Words.and_bit, Words.and_bit]
  congr 1
  apply decide_eq_decide.2
  unfold Spec.keep
  omega

/-- A bit chooses as its proposition does. -/
theorem choose {α : Type} (p : Prop) [Decidable p] (x y : α) : Scalar.select (BitVec.ofBool (decide p)) x y = if p then x else y := by
  by_cases hp : p <;> simp [hp, Scalar.select]

theorem v54_at (n : Fin 64) (h : Fin 2) (g : Fin 8) (i : Fin 128) (u : Fin 256) :
    A54 V0 (ix6 (0 : Fin 1) n h g i u) = Spec.sc (X V0) n h g i u := by
  unfold A54 res_main_v54_0
  clean_types
  pointwise
  refine Eq.trans (b := Scalar.select (M54 V0 (ix6 (0 : Fin 1) n h g i u))
    (∑ d, A14 V0 (ix5 (0 : Fin 1) n u h d) * A6 V0 (ix6 (0 : Fin 1) n i h g d)) (Ideal.ofBits .f32 0xFF800000#32)) rfl ?_
  rw [mask_at, choose]
  unfold Spec.sc
  by_cases hk : Spec.keep n i u
  · rw [if_pos hk, if_pos hk]
    refine Finset.sum_congr rfl fun d _ => ?_
    rw [v14_at, v6_at]
    unfold rk
    rw [if_neg (fun hh : n.val = 0 ∧ u.val < 128 => absurd (hk.2.2 hh.1) (by omega)), mul_comm]
  · rw [if_neg hk, if_neg hk]
    exact Spec.bot_word

/-- The softmax's arrays. -/
def A55 : S1x1x2x8x1x1.Idx → EReal := res_main_v55 V0
def A56 : S1x64x2x8x128.Idx → EReal := res_main_v56 V0
def A60 : S1x64x2x8x128x256.Idx → EReal := res_main_v60 V0
def A62 : S1x64x2x8x128x1.Idx → EReal := res_main_v62 V0
def A64 : S1x64x2x8x128x1.Idx → EReal := res_main_v64 V0
def A85 : S1x64x2x8x128x256.Idx → EReal := res_main_v85 V0
def A90 : S1x64x2x8x128x1.Idx → EReal := res_main_v90 V0
def A91 : S1x64x2x8x128x1.Idx → EReal := res_main_v91 V0
def A93 : S1x64x2x8x128x256.Idx → EReal := res_main_v93 V0
def A102 : S1x64x2x64x8x128.Idx → EReal := res_main_v102 V0
def A103 : S1x64x2x8x128x256.Idx → EReal := res_main_v103 V0
def A105 : S1x64x256x2x64.Idx → EReal := res_main_v105 V0

/-- A row's scores and its sink. -/
abbrev sr (n : Fin 64) (h : Fin 2) (g : Fin 8) (i : Fin 128) : Fin 256 → EReal := Spec.sc (X V0) n h g i
/-- The gradients of a row's weights, with the reference's values. -/
def dr (n : Fin 64) (h : Fin 2) (g : Fin 8) (i : Fin 128) (u : Fin 256) : EReal := ∑ d, Spec.ov (O V0) n i h g d * rv V0 n u h d

theorem v55_at (h : Fin 2) (g : Fin 8) : A55 V0 (ix6 (0 : Fin 1) (0 : Fin 1) h g (0 : Fin 1) (0 : Fin 1)) = Z V0 h g := by
  unfold A55 res_main_v55
  clean_types
  pointwise
  rfl

theorem v56_at (n : Fin 64) (h : Fin 2) (g : Fin 8) (i : Fin 128) :
    A56 V0 (ix5 (0 : Fin 1) n h g i) = Finset.univ.fold max ⊥ (sr V0 n h g i) := by
  unfold A56 res_main_v56
  clean_types
  pointwise
  refine (row_fold _ n h g i (Ideal.ofBits .f32 0xFF800000#32) (A54 V0)).trans ?_
  rw [Spec.bot_word]
  exact congrArg (Finset.fold max ⊥ · Finset.univ) (funext fun u => v54_at V0 n h g i u)

theorem v62_at (n : Fin 64) (h : Fin 2) (g : Fin 8) (i : Fin 128) :
    A62 V0 (ix6 (0 : Fin 1) n h g i (0 : Fin 1)) = Finset.univ.fold max ⊥ (sr V0 n h g i) := by
  unfold A62 res_main_v62
  clean_types
  pointwise
  exact v56_at V0 n h g i

theorem v60_at (n : Fin 64) (h : Fin 2) (g : Fin 8) (i : Fin 128) (u : Fin 256) :
    A60 V0 (ix6 (0 : Fin 1) n h g i u)
      = (((BitVec.ofBool (decide (sr V0 n h g i u = Finset.univ.fold max ⊥ (sr V0 n h g i)))).toNat : ℝ) : EReal) := by
  unfold A60 res_main_v60
  clean_types
  pointwise
  refine Eq.trans (b := (((BitVec.ofBool (decide (A54 V0 (ix6 (0 : Fin 1) n h g i u) = A56 V0 (ix5 (0 : Fin 1) n h g i)))).toNat : ℝ) : EReal)) rfl ?_
  rw [v54_at, v56_at]

end Cert.ReferenceIdeal.Attn

end
-- ==== Proof.Attn.RefSoft.lean ====
/- The reference's softmax and the gradients of its weights and values, read at an index. -/
module

public import proofs.«01_k».proof.Proof.Attn.RefScore

@[expose] public section

set_option maxRecDepth 16384

noncomputable section

namespace Cert.ReferenceIdeal.Attn

open Cert.ReferenceIdeal Cert.ReferenceIdeal.Gen Cert.ReferenceIdeal.Value
open Idealize.ShloMosaic Idealize.ShloMosaic.TcCoe Idealize.SL.Sem Idealize.ShloMosaic.StableHlo

variable (V0 : Valuation τ sig (Elt Ideal))

theorem max_at {s : Shape} {φ : FTy} (x y : FVec Ideal s φ) (j : s.Idx) (a b : EReal) (ha : x j = a) (hb : y j = b) :
    maximumf x y j = max a b := by
  rw [← ha, ← hb]; rfl

theorem v64_at (n : Fin 64) (h : Fin 2) (g : Fin 8) (i : Fin 128) :
    A64 V0 (ix6 (0 : Fin 1) n h g i (0 : Fin 1)) = Row.top (sr V0 n h g i) (Z V0 h g) := by
  have e : (broadcastInDim S1x64x2x8x128x1 ![0, 1, 2, 3, 4, 5] bcast_S1x1x2x8x1x1_S1x64x2x8x128x1_0_1_2_3_4_5 (A55 V0))
      (ix6 (0 : Fin 1) n h g i (0 : Fin 1)) = Z V0 h g := by
    pointwise
    exact v55_at V0 h g
  rw [Row.top]
  exact max_at (φ := .f32) (A62 V0) _ _ _ _ (v62_at V0 n h g i) e

theorem v85_at (n : Fin 64) (h : Fin 2) (g : Fin 8) (i : Fin 128) (u : Fin 256) :
    A85 V0 (ix6 (0 : Fin 1) n h g i u) = Row.ex (sr V0 n h g i) (Z V0 h g) u := by
  refine Eq.trans (b := Ideal.exp (A54 V0 (ix6 (0 : Fin 1) n h g i u) - A64 V0 (ix6 (0 : Fin 1) n h g i (0 : Fin 1)))) ?_ ?_
  · unfold A85 res_main_v85
    clean_types
    pointwise <;> rfl
  · rw [v54_at, v64_at, Row.ex]

theorem v90_at (n : Fin 64) (h : Fin 2) (g : Fin 8) (i : Fin 128) :
    A90 V0 (ix6 (0 : Fin 1) n h g i (0 : Fin 1)) = Row.exz (sr V0 n h g i) (Z V0 h g) := by
  refine Eq.trans (b := Ideal.exp (A55 V0 (ix6 (0 : Fin 1) (0 : Fin 1) h g (0 : Fin 1) (0 : Fin 1)) - A64 V0 (ix6 (0 : Fin 1) n h g i (0 : Fin 1)))) ?_ ?_
  · unfold A90 res_main_v90
    clean_types
    pointwise <;> rfl
  · rw [v55_at, v64_at, Row.exz]

theorem v91_at (n : Fin 64) (h : Fin 2) (g : Fin 8) (i : Fin 128) :
    A91 V0 (ix6 (0 : Fin 1) n h g i (0 : Fin 1)) = Row.den (sr V0 n h g i) (Z V0 h g) := by
  refine Eq.trans (b := Ideal.hostReduceAdd reducesTo_S1x64x2x8x128x256_S1x64x2x8x128_d5 (A85 V0) 0 (ix5 (0 : Fin 1) n h g i) + A90 V0 (ix6 (0 : Fin 1) n h g i (0 : Fin 1))) ?_ ?_
  · unfold A91 res_main_v91
    clean_types
    pointwise <;> rfl
  · rw [row_sum, zero_add, v90_at, Row.den]
    exact congrArg (· + _) (Finset.sum_congr rfl fun u _ => v85_at V0 n h g i u)

theorem v93_at (n : Fin 64) (h : Fin 2) (g : Fin 8) (i : Fin 128) (u : Fin 256) :
    A93 V0 (ix6 (0 : Fin 1) n h g i u) = Row.quot (sr V0 n h g i) (Z V0 h g) u := by
  refine Eq.trans (b := Ideal.div (A85 V0 (ix6 (0 : Fin 1) n h g i u)) (A91 V0 (ix6 (0 : Fin 1) n h g i (0 : Fin 1)))) ?_ ?_
  · unfold A93 res_main_v93
    clean_types
    pointwise <;> rfl
  · rw [v85_at, v91_at, Row.quot]

theorem v102_at (n : Fin 64) (h : Fin 2) (d : Fin 64) (g : Fin 8) (i : Fin 128) :
    A102 V0 (ix6 (0 : Fin 1) n h d g i) = Spec.ov (O V0) n i h g d := by
  unfold A102 res_main_v102
  clean_types
  pointwise <;> rfl

theorem v103_at (n : Fin 64) (h : Fin 2) (g : Fin 8) (i : Fin 128) (u : Fin 256) :
    A103 V0 (ix6 (0 : Fin 1) n h g i u) = dr V0 n h g i u := by
  refine Eq.trans (b := ∑ d, A102 V0 (ix6 (0 : Fin 1) n h d g i) * A20 V0 (ix5 (0 : Fin 1) n u h d)) ?_ ?_
  · unfold A103 res_main_v103
    clean_types
    pointwise <;> rfl
  · exact Finset.sum_congr rfl fun d _ => by rw [v102_at, v20_at]

theorem v105_at (n : Fin 64) (u : Fin 256) (h : Fin 2) (d : Fin 64) :
    A105 V0 (ix5 (0 : Fin 1) n u h d) = ∑ g, ∑ i, Spec.ov (O V0) n i h g d * Row.quot (sr V0 n h g i) (Z V0 h g) u := by
  refine Eq.trans (b := ∑ g, ∑ i, A102 V0 (ix6 (0 : Fin 1) n h d g i) * A93 V0 (ix6 (0 : Fin 1) n h g i u)) ?_ ?_
  · unfold A105 res_main_v105
    clean_types
    pointwise <;> rfl
  · exact Finset.sum_congr rfl fun g _ => Finset.sum_congr rfl fun i _ => by rw [v102_at, v93_at]

end Cert.ReferenceIdeal.Attn

end
-- ==== Proof.Attn.RefGrad.lean ====
/- The reference's gradients of the scores, of the sinks, of the keys and of the queries, read at an index. -/
module

public import proofs.«01_k».proof.Proof.Attn.RefSoft

@[expose] public section

set_option maxRecDepth 16384

noncomputable section

namespace Cert.ReferenceIdeal.Attn

open Cert.ReferenceIdeal Cert.ReferenceIdeal.Gen Cert.ReferenceIdeal.Value
open Idealize.ShloMosaic Idealize.ShloMosaic.TcCoe Idealize.SL.Sem Idealize.ShloMosaic.StableHlo

variable (V0 : Valuation τ sig (Elt Ideal))

/-- The arrays of the gradient. -/
def A111 : S1x64x2x8x128x1.Idx → EReal := res_main_v111 V0
def A114 : S1x64x2x8x128x1.Idx → EReal := res_main_v114 V0
def A122 : S1x64x2x8x128x256.Idx → EReal := res_main_v122 V0
def A126 : S1x64x2x8x128x1.Idx → EReal := res_main_v126 V0
def A140 : S1x64x2x256x128x8.Idx → EReal := res_main_v140 V0
def A144 : S1x64x256x2x64.Idx → EReal := res_main_v144 V0
def A145 : S1x64x128x2x64.Idx → EReal := res_main_v145 V0
def A151 : S1x64x128x2x64.Idx → EReal := res_main_v151 V0

/-- The products summed into the denominator's gradient. -/
def B111 : FVec Ideal S1x64x2x8x128x256 .f32 :=
  mulf (mulf (A103 V0) (broadcastInDim S1x64x2x8x128x256 ![0, 1, 2, 3, 4, 5] bcast_S1x64x2x8x128x1_S1x64x2x8x128x256_0_1_2_3_4_5 (Host.divf (F := Ideal) (φ := .f32) (broadcastInDim S1x64x2x8x128x1 ![] bcast_S_S1x64x2x8x128x1 (constant S_ .f32 0x3F800000#32)) (mulf (A91 V0) (A91 V0))))) (A85 V0)

theorem b111_at (n : Fin 64) (h : Fin 2) (g : Fin 8) (i : Fin 128) (u : Fin 256) :
    B111 V0 (ix6 (0 : Fin 1) n h g i u) = dr V0 n h g i u * Ideal.div 1 (Row.den (sr V0 n h g i) (Z V0 h g) * Row.den (sr V0 n h g i) (Z V0 h g)) * Row.ex (sr V0 n h g i) (Z V0 h g) u := by
  refine Eq.trans (b := A103 V0 (ix6 (0 : Fin 1) n h g i u) * Ideal.div 1 (A91 V0 (ix6 (0 : Fin 1) n h g i (0 : Fin 1)) * A91 V0 (ix6 (0 : Fin 1) n h g i (0 : Fin 1))) * A85 V0 (ix6 (0 : Fin 1) n h g i u)) ?_ ?_
  · unfold B111
    pointwise
  · rw [v103_at, v91_at, v85_at]

theorem v111_at (n : Fin 64) (h : Fin 2) (g : Fin 8) (i : Fin 128) :
    A111 V0 (ix6 (0 : Fin 1) n h g i (0 : Fin 1)) = Row.back (sr V0 n h g i) (Z V0 h g) (dr V0 n h g i) := by
  refine Eq.trans (b := -(Ideal.hostReduceAdd reducesTo_S1x64x2x8x128x256_S1x64x2x8x128_d5 (B111 V0) 0 (ix5 (0 : Fin 1) n h g i))) ?_ ?_
  · unfold A111 res_main_v111
    clean_types
    pointwise <;> rfl
  · rw [row_sum, zero_add, Row.back]
    exact congrArg (-·) (Finset.sum_congr rfl fun u _ => b111_at V0 n h g i u)

theorem v114_at (n : Fin 64) (h : Fin 2) (g : Fin 8) (i : Fin 128) :
    A114 V0 (ix6 (0 : Fin 1) n h g i (0 : Fin 1)) = Row.qgradz (sr V0 n h g i) (Z V0 h g) (dr V0 n h g i) := by
  refine Eq.trans (b := A111 V0 (ix6 (0 : Fin 1) n h g i (0 : Fin 1)) * A90 V0 (ix6 (0 : Fin 1) n h g i (0 : Fin 1))) ?_ ?_
  · unfold A114 res_main_v114
    clean_types
    pointwise <;> rfl
  · rw [v111_at, v90_at, Row.qgradz]

theorem v122_at (n : Fin 64) (h : Fin 2) (g : Fin 8) (i : Fin 128) (u : Fin 256) :
    A122 V0 (ix6 (0 : Fin 1) n h g i u) = Row.qgrad (sr V0 n h g i) (Z V0 h g) (dr V0 n h g i) u := by
  refine Eq.trans (b := (Ideal.div (A103 V0 (ix6 (0 : Fin 1) n h g i u)) (A91 V0 (ix6 (0 : Fin 1) n h g i (0 : Fin 1))) + Ideal.hostReduceAdd reducesTo_S1x64x2x8x128x1_S64x2x8x128_d0_5 (A111 V0) 0 (ix4 n h g i)) * A85 V0 (ix6 (0 : Fin 1) n h g i u)) ?_ ?_
  · unfold A122 res_main_v122
    clean_types
    pointwise <;> rfl
  · rw [one_sum, zero_add, v103_at, v91_at, v111_at, v85_at, Row.qgrad]

/-- The other sides of the two gradients. -/
def N122 : FVec Ideal S1x64x2x8x128x256 .f32 := Host.negf (F := Ideal) (φ := .f32) (A122 V0)

theorem v126_at (n : Fin 64) (h : Fin 2) (g : Fin 8) (i : Fin 128) :
    A126 V0 (ix6 (0 : Fin 1) n h g i (0 : Fin 1)) = Row.rest (sr V0 n h g i) (Z V0 h g) (dr V0 n h g i) := by
  refine Eq.trans (b := -(A114 V0 (ix6 (0 : Fin 1) n h g i (0 : Fin 1))) + Ideal.hostReduceAdd reducesTo_S1x64x2x8x128x256_S1x64x2x8x128_d5 (N122 V0) 0 (ix5 (0 : Fin 1) n h g i)) ?_ ?_
  · unfold A126 res_main_v126
    clean_types
    pointwise <;> rfl
  · rw [row_sum, zero_add, v114_at, Row.rest, Row.qgradz]
    exact congrArg (_ + ·) (Finset.sum_congr rfl fun u _ => congrArg (-·) (v122_at V0 n h g i u))

/-- The weight of the maximum's gradient, by who is greater: the row or its sink. -/
def W140 : FVec Ideal S1x64x2x8x128x1 .f32 :=
  select (cmpf (F := Ideal) (φ := .f32) .ogt (A62 V0) (broadcastInDim S1x64x2x8x128x1 ![0, 1, 2, 3, 4, 5] bcast_S1x1x2x8x1x1_S1x64x2x8x128x1_0_1_2_3_4_5 (A55 V0))) (broadcastInDim S1x64x2x8x128x1 ![] bcast_S_S1x64x2x8x128x1 (constant S_ .f32 0x3F800000#32)) (select (cmpf (F := Ideal) (φ := .f32) .oeq (A62 V0) (broadcastInDim S1x64x2x8x128x1 ![0, 1, 2, 3, 4, 5] bcast_S1x1x2x8x1x1_S1x64x2x8x128x1_0_1_2_3_4_5 (A55 V0))) (broadcastInDim S1x64x2x8x128x1 ![] bcast_S_S1x64x2x8x128x1 (constant S_ .f32 0x3F000000#32)) (broadcastInDim S1x64x2x8x128x1 ![] bcast_S_S1x64x2x8x128x1 (constant S_ .f32 0x00000000#32)))

def B140 : FVec Ideal S1x64x2x8x128x1 .f32 := mulf (A126 V0) (W140 V0)

theorem v140_at (n : Fin 64) (h : Fin 2) (g : Fin 8) (i : Fin 128) (u : Fin 256) (hr : Row.rest (sr V0 n h g i) (Z V0 h g) (dr V0 n h g i) = 0) :
    A140 V0 (ix6 (0 : Fin 1) n h u i g) = if Spec.keep n i u then Row.qgrad (sr V0 n h g i) (Z V0 h g) (dr V0 n h g i) u else 0 := by
  refine Eq.trans (b := Scalar.select (M54 V0 (ix6 (0 : Fin 1) n h g i u)) (A122 V0 (ix6 (0 : Fin 1) n h g i u)
    + Ideal.div (Ideal.hostReduceAdd reducesTo_S1x64x2x8x128x1_S64x2x8x128_d0_5 (B140 V0) 0 (ix4 n h g i)) (Ideal.hostReduceAdd reducesTo_S1x64x2x8x128x256_S1x64x2x8x128_d5 (A60 V0) 0 (ix5 (0 : Fin 1) n h g i)) * A60 V0 (ix6 (0 : Fin 1) n h g i u)) 0) ?_ ?_
  · unfold A140 res_main_v140
    clean_types
    pointwise <;> rfl
  · have eb : B140 V0 (ix6 (0 : Fin 1) n h g i (0 : Fin 1)) = 0 := by
      refine Eq.trans (b := A126 V0 (ix6 (0 : Fin 1) n h g i (0 : Fin 1)) * W140 V0 (ix6 (0 : Fin 1) n h g i (0 : Fin 1))) rfl ?_
      rw [v126_at, hr, zero_mul]
    have ec : Ideal.hostReduceAdd reducesTo_S1x64x2x8x128x256_S1x64x2x8x128_d5 (A60 V0) 0 (ix5 (0 : Fin 1) n h g i) ≠ 0 := by
      rw [row_sum, zero_add]
      have e : ∀ u, A60 V0 (ix6 (0 : Fin 1) n h g i u) = _ := fun u => v60_at V0 n h g i u
      rw [Finset.sum_congr rfl fun u _ => e u]
      exact Row.count_ne_zero (sr V0 n h g i)
    rw [mask_at, choose, one_sum, eb, zero_add, Row.div_zero_of_ne ec, zero_mul, add_zero, v122_at]

end Cert.ReferenceIdeal.Attn

end
-- ==== Proof.Attn.RefAgree.lean ====
/- The reference's gradients are the plain sums, where every argument is real. -/
module

public import proofs.«01_k».proof.Proof.Attn.RefGrad

@[expose] public section

set_option maxRecDepth 16384

noncomputable section

namespace Cert.Row

theorem fin_c8 : Fin' Spec.c8 := by
  unfold Spec.c8 Idealize.ShloMosaic.Ideal.ofBits Idealize.ShloMosaic.Ideal.ieee
  simp
  exact ⟨_, rfl⟩

end Cert.Row

namespace Cert.ReferenceIdeal.Attn

open Cert.ReferenceIdeal Cert.ReferenceIdeal.Gen Cert.ReferenceIdeal.Value
open Idealize.ShloMosaic Idealize.ShloMosaic.TcCoe Idealize.SL.Sem Idealize.ShloMosaic.StableHlo

variable (V0 : Valuation τ sig (Elt Ideal))
variable (hX : ∀ r c, Row.Fin' (X V0 r c)) (hZ : ∀ h g, Row.Fin' (Z V0 h g)) (hO : ∀ r c, Row.Fin' (O V0 r c))

theorem sc_bot (n : Fin 64) (h : Fin 2) (g : Fin 8) (i : Fin 128) (u : Fin 256) (hk : ¬ Spec.keep n i u) : sr V0 n h g i u = ⊥ :=
  if_neg hk

include hX in
theorem sc_low (n : Fin 64) (h : Fin 2) (g : Fin 8) (i : Fin 128) (u : Fin 256) : Row.Low (sr V0 n h g i u) := by
  by_cases hk : Spec.keep n i u
  · refine .inr ?_
    have e : sr V0 n h g i u = ∑ d, Spec.qv (X V0) n i h g d * Spec.kv (X V0) n u h d := if_pos hk
    rw [e]
    exact Row.fin_sum _ _ fun d => Row.fin_mul (Row.fin_mul (hX _ _) Row.fin_c8) (hX _ _)
  · exact .inl (sc_bot V0 n h g i u hk)

include hX in
theorem rv_fin (n : Fin 64) (u : Fin 256) (h : Fin 2) (d : Fin 64) : Row.Fin' (rv V0 n u h d) := by
  unfold rv
  split
  · exact Row.fin_zero
  · exact hX _ _

include hX hO in
theorem dr_fin (n : Fin 64) (h : Fin 2) (g : Fin 8) (i : Fin 128) (u : Fin 256) : Row.Fin' (dr V0 n h g i u) :=
  Row.fin_sum _ _ fun _ => Row.fin_mul (hO _ _) (rv_fin V0 hX _ _ _ _)

/-- Where the mask keeps a key, there is a block before it. -/
theorem not_first {n : Fin 64} {i : Fin 128} {u : Fin 256} (hk : Spec.keep n i u) : ¬ (n.val = 0 ∧ u.val < 128) := fun hh => by
  have := hk.2.2 hh.1
  omega

theorem dr_dp (n : Fin 64) (h : Fin 2) (g : Fin 8) (i : Fin 128) (u : Fin 256) (hs : sr V0 n h g i u ≠ ⊥) :
    dr V0 n h g i u = Spec.dp (X V0) (O V0) n h g i u := by
  by_cases hk : Spec.keep n i u
  · exact Finset.sum_congr rfl fun d _ => congrArg (_ * ·) (if_neg (not_first hk))
  · exact absurd (sc_bot V0 n h g i u hk) hs

include hX hZ hO in
theorem rest_zero (n : Fin 64) (h : Fin 2) (g : Fin 8) (i : Fin 128) : Row.rest (sr V0 n h g i) (Z V0 h g) (dr V0 n h g i) = 0 :=
  (Row.agree _ _ _ (sc_low V0 hX n h g i) (hZ h g) (dr_fin V0 hX hO n h g i)).2.2

include hX hZ hO in
theorem gz_eq (n : Fin 64) (h : Fin 2) (g : Fin 8) (i : Fin 128) :
    A114 V0 (ix6 (0 : Fin 1) n h g i (0 : Fin 1)) = Spec.gz (X V0) (Z V0) (O V0) n h g i := by
  rw [v114_at, (Row.agree _ _ _ (sc_low V0 hX n h g i) (hZ h g) (dr_fin V0 hX hO n h g i)).2.1]
  exact congrArg (_ * ·) (Row.mean_congr _ _ _ _ (sc_low V0 hX n h g i) (hZ h g) (dr_dp V0 n h g i))

include hX hZ hO in
theorem gr_eq (n : Fin 64) (h : Fin 2) (g : Fin 8) (i : Fin 128) (u : Fin 256) :
    A140 V0 (ix6 (0 : Fin 1) n h u i g) = Spec.gr (X V0) (Z V0) (O V0) n h g i u := by
  rw [v140_at V0 n h g i u (rest_zero V0 hX hZ hO n h g i), (Row.agree _ _ _ (sc_low V0 hX n h g i) (hZ h g) (dr_fin V0 hX hO n h g i)).1,
    Row.grad_congr _ _ _ _ (sc_low V0 hX n h g i) (hZ h g) (dr_dp V0 n h g i)]
  by_cases hk : Spec.keep n i u
  · exact if_pos hk
  · rw [if_neg hk]
    exact (Row.grad_bot _ _ _ (sc_low V0 hX n h g i) (hZ h g) u (sc_bot V0 n h g i u hk)).symm

include hX hZ in
theorem gr_zero (n : Fin 64) (h : Fin 2) (g : Fin 8) (i : Fin 128) (u : Fin 256) (hk : ¬ Spec.keep n i u) :
    Spec.gr (X V0) (Z V0) (O V0) n h g i u = 0 :=
  Row.grad_bot _ _ _ (sc_low V0 hX n h g i) (hZ h g) u (sc_bot V0 n h g i u hk)

include hX hZ in
theorem dv_eq (n : Fin 64) (u : Fin 256) (h : Fin 2) (d : Fin 64) :
    A105 V0 (ix5 (0 : Fin 1) n u h d) = Spec.dv (X V0) (Z V0) (O V0) n u h d := by
  rw [v105_at]
  refine Finset.sum_congr rfl fun g _ => Finset.sum_congr rfl fun i _ => ?_
  rw [Row.quot_eq _ _ (sc_low V0 hX n h g i) (hZ h g)]
  exact mul_comm _ _

include hX hZ hO in
theorem dk_eq (n : Fin 64) (u : Fin 256) (h : Fin 2) (d : Fin 64) :
    A144 V0 (ix5 (0 : Fin 1) n u h d) = Spec.dk (X V0) (Z V0) (O V0) n u h d := by
  refine Eq.trans (b := ∑ i, ∑ g, A140 V0 (ix6 (0 : Fin 1) n h u i g) * A6 V0 (ix6 (0 : Fin 1) n i h g d)) ?_ ?_
  · unfold A144 res_main_v144
    clean_types
    pointwise <;> rfl
  · rw [Finset.sum_comm]
    refine Finset.sum_congr rfl fun g _ => Finset.sum_congr rfl fun i _ => ?_
    rw [gr_eq V0 hX hZ hO, v6_at]

/-- The queries' gradient of the reference. -/
def Dq : FVec Ideal S1x64x2x128x8x64 .f32 :=
  Host.dotGeneral (F := Ideal) (φ₁ := .f32) (φ₂ := .f32) dot_S1x64x2x256x128x8_S1x64x256x2x64_S1x64x2x128x8x64_3_2_45_4_012_013 none (A140 V0) (A14 V0)

include hX hZ hO in
theorem dq_eq (n : Fin 64) (i : Fin 128) (h : Fin 2) (g : Fin 8) (d : Fin 64) :
    Dq V0 (ix6 (0 : Fin 1) n h i g d) * Spec.c8 = Spec.dq (X V0) (Z V0) (O V0) n i h g d := by
  refine congrArg (· * Spec.c8) (Eq.trans (b := ∑ u, A140 V0 (ix6 (0 : Fin 1) n h u i g) * A14 V0 (ix5 (0 : Fin 1) n u h d)) ?_ ?_)
  · unfold Dq
    pointwise <;> rfl
  · refine Finset.sum_congr rfl fun u _ => ?_
    rw [gr_eq V0 hX hZ hO, v14_at]
    by_cases hk : Spec.keep n i u
    · exact congrArg (_ * ·) (if_neg (not_first hk))
    · rw [gr_zero V0 hX hZ n h g i u hk, zero_mul, zero_mul]

end Cert.ReferenceIdeal.Attn

end
-- ==== Proof.Attn.RefOut.lean ====
/- The reference's five results at an index: the plain sums. -/
module

public import proofs.«01_k».proof.Proof.Attn.RefAgree

@[expose] public section

set_option maxRecDepth 16384

noncomputable section

namespace Cert.ReferenceIdeal.Attn

open Cert.ReferenceIdeal Cert.ReferenceIdeal.Gen Cert.ReferenceIdeal.Value
open Idealize.ShloMosaic Idealize.ShloMosaic.TcCoe Idealize.SL.Sem Idealize.ShloMosaic.StableHlo

variable (V0 : Valuation τ sig (Elt Ideal))
variable (hX : ∀ r c, Row.Fin' (X V0 r c)) (hZ : ∀ h g, Row.Fin' (Z V0 h g)) (hO : ∀ r c, Row.Fin' (O V0 r c))

/-- The gradient of the projection, a stack of one. -/
def B163 : FVec Ideal S1x8192x1280 .f32 :=
  concatenate S1x8192x1280 2 [⟨S1x8192x1024, ((shapeCast _ (mulf (transpose S1x64x128x2x8x64 [0, 1, 3, 2, 4, 5] (Dq V0) transposes_S1x64x2x128x8x64_S1x64x128x2x8x64_0_1_3_2_4_5) (broadcastInDim S1x64x128x2x8x64 ![] bcast_S_S1x64x128x2x8x64 (constant S_ .f32 0x3E000000#32))) shapeCasts_S1x64x128x2x8x64_S1x8192x1024) : FVec Ideal S1x8192x1024 .f32)⟩, ⟨S1x8192x128, ((shapeCast _ (addf (extractStridedSlice S1x64x128x2x64 ![0, 0, 128, 0, 0] (A144 V0) slices_S1x64x256x2x64_S1x64x128x2x64_0_0_128_0_0) (pad S1x64x128x2x64 ![0, 0, 0, 0, 0] ![0, 1, 0, 0, 0] ![0, 0, 0, 0, 0] (extractStridedSlice S1x63x128x2x64 ![0, 1, 0, 0, 0] (A151 V0) slices_S1x64x128x2x64_S1x63x128x2x64_0_1_0_0_0) (constant S_ .f32 0x00000000#32) pads_S1x63x128x2x64_S1x64x128x2x64_000_010_000_000_000 h_S_)) shapeCasts_S1x64x128x2x64_S1x8192x128) : FVec Ideal S1x8192x128 .f32)⟩, ⟨S1x8192x128, ((shapeCast _ (addf (extractStridedSlice S1x64x128x2x64 ![0, 0, 128, 0, 0] (A105 V0) slices_S1x64x256x2x64_S1x64x128x2x64_0_0_128_0_0) (pad S1x64x128x2x64 ![0, 0, 0, 0, 0] ![0, 1, 0, 0, 0] ![0, 0, 0, 0, 0] (extractStridedSlice S1x63x128x2x64 ![0, 1, 0, 0, 0] (A145 V0) slices_S1x64x128x2x64_S1x63x128x2x64_0_1_0_0_0) (constant S_ .f32 0x00000000#32) pads_S1x63x128x2x64_S1x64x128x2x64_000_010_000_000_000 h_S_)) shapeCasts_S1x64x128x2x64_S1x8192x128) : FVec Ideal S1x8192x128 .f32)⟩] concatenates_S1x8192x1024_S1x8192x128_S1x8192x128_S1x8192x1280_d2

def A163 : S8192x1280.Idx → EReal := res_main_v163 V0
def A165 : S1x1280.Idx → EReal := res_main_v165 V0

theorem zero_word : (constant S_ .f32 0x00000000#32 : FVec Ideal S_ .f32) (Shape.Idx.first h_S_) = 0 := by
  pointwise

theorem v163_at (r : Fin 8192) (c : Fin 1280) : A163 V0 (ix2 r c) = B163 V0 (ix3 (0 : Fin 1) r c) := by
  refine Eq.trans (b := Ideal.hostReduceAdd reducesTo_S1x8192x1280_S8192x1280_d0 (B163 V0)
    ((constant S_ .f32 0x00000000#32 : FVec Ideal S_ .f32) (Shape.Idx.first h_S_)) (ix2 r c)) rfl ?_
  rw [member_sum, zero_word, zero_add]

theorem v165_at (c : Fin 1280) : A165 V0 (ix2 (0 : Fin 1) c) = ∑ r, A163 V0 (ix2 r c) := by
  refine Eq.trans (b := Ideal.hostReduceAdd reducesTo_S8192x1280_S1280_d0 (A163 V0) 0 (ix1 c)) ?_ ?_
  · unfold A165 res_main_v165
    clean_types
    pointwise <;> rfl
  · rw [col_sum, zero_add]

/-- The row of query `i` of block `n`, and a row's block and place. -/
theorem row_block (r : Fin 8192) : r = Spec.row ⟨r.val / 128, by omega⟩ ⟨r.val % 128, by omega⟩ := by
  refine Fin.ext ?_
  show r.val = r.val / 128 * 128 + r.val % 128
  omega

include hX hZ hO in
theorem queries_at (n : Fin 64) (i : Fin 128) (h : Fin 2) (g : Fin 8) (d : Fin 64) :
    A163 V0 (ix2 (Spec.row n i) (⟨(Spec.col h g d).val, by have := (Spec.col h g d).isLt; omega⟩ : Fin 1280))
      = Spec.dq (X V0) (Z V0) (O V0) n i h g d := by
  rw [v163_at]
  refine Eq.trans (b := Dq V0 (ix6 (0 : Fin 1) n h i g d) * Spec.c8) ?_ (dq_eq V0 hX hZ hO n i h g d)
  unfold B163 Spec.row Spec.col
  pointwise
  rw [dif_pos (show h.val * 512 + g.val * 64 + d.val < 1024 by omega)]
  rfl

theorem v151_at (n : Fin 64) (j : Fin 128) (h : Fin 2) (d : Fin 64) :
    A151 V0 (ix5 (0 : Fin 1) n j h d) = A144 V0 (ix5 (0 : Fin 1) n (⟨j.val, by omega⟩ : Fin 256) h d) := by
  unfold A151 res_main_v151
  clean_types
  pointwise <;> rfl

theorem v145_at (n : Fin 64) (j : Fin 128) (h : Fin 2) (d : Fin 64) :
    A145 V0 (ix5 (0 : Fin 1) n j h d) = A105 V0 (ix5 (0 : Fin 1) n (⟨j.val, by omega⟩ : Fin 256) h d) := by
  unfold A145 res_main_v145
  clean_types
  pointwise <;> rfl

theorem keys_at (b : Fin 64) (j : Fin 128) (h : Fin 2) (d : Fin 64) :
    A163 V0 (ix2 (Spec.row b j) (⟨1024 + (h.val * 64 + d.val), by omega⟩ : Fin 1280))
      = A144 V0 (ix5 (0 : Fin 1) b (⟨128 + j.val, by omega⟩ : Fin 256) h d)
        + (if hb : b.val < 63 then A144 V0 (ix5 (0 : Fin 1) (⟨1 + b.val, by omega⟩ : Fin 64) (⟨j.val, by omega⟩ : Fin 256) h d) else 0) := by
  rw [v163_at]
  unfold B163 Spec.row
  pointwise
  rw [dif_pos (show h.val * 64 + d.val < 128 by omega)]
  refine congrArg (_ + ·) ?_
  by_cases hb : b.val < 63
  · rw [dif_pos hb, dif_pos hb]
    exact v151_at V0 _ _ _ _
  · rw [dif_neg hb, dif_neg hb]

theorem values_at (b : Fin 64) (j : Fin 128) (h : Fin 2) (d : Fin 64) :
    A163 V0 (ix2 (Spec.row b j) (⟨1024 + (128 + (h.val * 64 + d.val)), by omega⟩ : Fin 1280))
      = A105 V0 (ix5 (0 : Fin 1) b (⟨128 + j.val, by omega⟩ : Fin 256) h d)
        + (if hb : b.val < 63 then A105 V0 (ix5 (0 : Fin 1) (⟨1 + b.val, by omega⟩ : Fin 64) (⟨j.val, by omega⟩ : Fin 256) h d) else 0) := by
  rw [v163_at]
  unfold B163 Spec.row
  pointwise
  refine congrArg (_ + ·) ?_
  by_cases hb : b.val < 63
  · rw [dif_pos hb, dif_pos hb]
    exact v145_at V0 _ _ _ _
  · rw [dif_neg hb, dif_neg hb]

include hX hZ hO in
theorem dq_at (r : Fin 8192) (c : Fin 1024) :
    A163 V0 (ix2 r (⟨c.val, by omega⟩ : Fin 1280)) = Spec.dqAt (X V0) (Z V0) (O V0) r c := by
  refine Eq.trans (b := A163 V0 (ix2 (Spec.row ⟨r.val / 128, by omega⟩ ⟨r.val % 128, by omega⟩)
    (⟨(Spec.col ⟨c.val / 512, by omega⟩ ⟨c.val / 64 % 8, by omega⟩ ⟨c.val % 64, by omega⟩).val, by
      have := (Spec.col ⟨c.val / 512, by omega⟩ ⟨c.val / 64 % 8, by omega⟩ ⟨c.val % 64, by omega⟩).isLt; omega⟩ : Fin 1280))) ?_
    (queries_at V0 hX hZ hO _ _ _ _ _)
  refine congrArg₂ (fun a b => A163 V0 (ix2 a b)) (row_block r) (Fin.ext ?_)
  show c.val = c.val / 512 * 512 + c.val / 64 % 8 * 64 + c.val % 64
  omega

include hX hZ hO in
theorem gkv_at (r : Fin 8192) (c : Fin 256) :
    A163 V0 (ix2 r (⟨1024 + c.val, by omega⟩ : Fin 1280)) = Spec.gkvAt (X V0) (Z V0) (O V0) r c := by
  by_cases hc : c.val < 128
  · refine Eq.trans (b := A163 V0 (ix2 (Spec.row ⟨r.val / 128, by omega⟩ ⟨r.val % 128, by omega⟩)
      (⟨1024 + ((⟨c.val / 64, by omega⟩ : Fin 2).val * 64 + (⟨c.val % 64, by omega⟩ : Fin 64).val), by
        show 1024 + (c.val / 64 * 64 + c.val % 64) < 1280; omega⟩ : Fin 1280))) ?_ ?_
    · refine congrArg₂ (fun a b => A163 V0 (ix2 a b)) (row_block r) (Fin.ext ?_)
      show 1024 + c.val = 1024 + (c.val / 64 * 64 + c.val % 64)
      omega
    · rw [keys_at]
      unfold Spec.gkvAt Spec.gkv Spec.dkv
      simp only [dif_pos hc, dk_eq V0 hX hZ hO]
  · refine Eq.trans (b := A163 V0 (ix2 (Spec.row ⟨r.val / 128, by omega⟩ ⟨r.val % 128, by omega⟩)
      (⟨1024 + (128 + ((⟨(c.val - 128) / 64, by omega⟩ : Fin 2).val * 64 + (⟨c.val % 64, by omega⟩ : Fin 64).val)), by
        show 1024 + (128 + ((c.val - 128) / 64 * 64 + c.val % 64)) < 1280; omega⟩ : Fin 1280))) ?_ ?_
    · refine congrArg₂ (fun a b => A163 V0 (ix2 a b)) (row_block r) (Fin.ext ?_)
      show 1024 + c.val = 1024 + (128 + ((c.val - 128) / 64 * 64 + c.val % 64))
      omega
    · rw [values_at]
      unfold Spec.gkvAt Spec.gkv Spec.dkv
      simp only [dif_neg hc, dv_eq V0 hX hZ]

/-- The reference's results. -/
def R167 : FVec Ideal S8192x1024 .bf16 := truncf .bf16 (extractStridedSlice S8192x1024 ![0, 0] (A163 V0) slices_S8192x1280_S8192x1024_0_0 : FVec Ideal S8192x1024 .f32) bitsLt_bf16_f32
def R169 : FVec Ideal S8192x256 .bf16 := truncf .bf16 (extractStridedSlice S8192x256 ![0, 1024] (A163 V0) slices_S8192x1280_S8192x256_0_1024 : FVec Ideal S8192x256 .f32) bitsLt_bf16_f32
def R170 : FVec Ideal S1x1024 .f32 := extractStridedSlice S1x1024 ![0, 0] (A165 V0) slices_S1x1280_S1x1024_0_0
def R171 : FVec Ideal S1x256 .f32 := extractStridedSlice S1x256 ![0, 1024] (A165 V0) slices_S1x1280_S1x256_0_1024
def B138 (w : FVec Ideal S1x64x2x8x128x1 .f32) : FVec Ideal S1x64x2x8x128x1 .f32 := mulf (A126 V0) w
def R138 (w : FVec Ideal S1x64x2x8x128x1 .f32) : FVec Ideal S2x8 .f32 :=
  shapeCast _ (addf (F := Ideal) (φ := .f32) (shapeCast _ (Host.reduceAdd (F := Ideal) (φ := .f32) (A114 V0) (constant S_ .f32 0x00000000#32) reducesTo_S1x64x2x8x128x1_S1x2x8x1_d1_4 h_S_) shapeCasts_S1x2x8x1_S1x1x2x8x1x1) (shapeCast _ (Host.reduceAdd (B138 V0 w) (constant S_ .f32 0x00000000#32) reducesTo_S1x64x2x8x128x1_S1x2x8x1_d1_4 h_S_) shapeCasts_S1x2x8x1_S1x1x2x8x1x1)) shapeCasts_S1x1x2x8x1x1_S2x8

include hX hZ hO in
theorem r167_at (r : Fin 8192) (c : Fin 1024) : R167 V0 (ix2 r c) = Spec.dqAt (X V0) (Z V0) (O V0) r c := by
  refine Eq.trans ?_ (dq_at V0 hX hZ hO r c)
  unfold R167
  pointwise <;> rfl

include hX hZ hO in
theorem r169_at (r : Fin 8192) (c : Fin 256) : R169 V0 (ix2 r c) = Spec.gkvAt (X V0) (Z V0) (O V0) r c := by
  refine Eq.trans ?_ (gkv_at V0 hX hZ hO r c)
  unfold R169
  pointwise <;> rfl

include hX hZ hO in
theorem r170_at (c : Fin 1024) : R170 V0 (ix2 (0 : Fin 1) c) = ∑ r, Spec.dqAt (X V0) (Z V0) (O V0) r c := by
  refine Eq.trans (b := A165 V0 (ix2 (0 : Fin 1) (⟨c.val, by omega⟩ : Fin 1280))) ?_ ?_
  · unfold R170
    pointwise <;> rfl
  · rw [v165_at]
    exact Finset.sum_congr rfl fun r _ => dq_at V0 hX hZ hO r c

include hX hZ hO in
theorem r171_at (c : Fin 256) : R171 V0 (ix2 (0 : Fin 1) c) = ∑ r, Spec.gkvAt (X V0) (Z V0) (O V0) r c := by
  refine Eq.trans (b := A165 V0 (ix2 (0 : Fin 1) (⟨1024 + c.val, by omega⟩ : Fin 1280))) ?_ ?_
  · unfold R171
    pointwise <;> rfl
  · rw [v165_at]
    exact Finset.sum_congr rfl fun r _ => gkv_at V0 hX hZ hO r c

include hX hZ hO in
theorem r138_at (w : FVec Ideal S1x64x2x8x128x1 .f32) (h : Fin 2) (g : Fin 8) :
    R138 V0 w (ix2 h g) = Spec.ds (X V0) (Z V0) (O V0) h g := by
  refine Eq.trans (b := Ideal.hostReduceAdd reducesTo_S1x64x2x8x128x1_S1x2x8x1_d1_4 (A114 V0) 0 (ix4 (0 : Fin 1) h g (0 : Fin 1))
    + Ideal.hostReduceAdd reducesTo_S1x64x2x8x128x1_S1x2x8x1_d1_4 (B138 V0 w) 0 (ix4 (0 : Fin 1) h g (0 : Fin 1))) ?_ ?_
  · unfold R138
    pointwise <;> rfl
  · have z : ∀ n i, B138 V0 w (ix6 (0 : Fin 1) n h g i (0 : Fin 1)) = 0 := fun n i => by
      refine Eq.trans (b := A126 V0 (ix6 (0 : Fin 1) n h g i (0 : Fin 1)) * w (ix6 (0 : Fin 1) n h g i (0 : Fin 1))) rfl ?_
      rw [v126_at, rest_zero V0 hX hZ hO, zero_mul]
    rw [head_sum, head_sum]
    simp only [z, Finset.sum_const_zero, zero_add, add_zero]
    exact Finset.sum_congr rfl fun n _ => Finset.sum_congr rfl fun i _ => gz_eq V0 hX hZ hO n h g i

end Cert.ReferenceIdeal.Attn

end
-- ==== Proof.Attn.Equation.lean ====
/- The kernel's and the reference's results are the same sums of the same arguments. -/
module

public import proofs.«01_k».proof.Defs
public import proofs.«01_k».proof.Proof.Gen.KernelIdeal
public import proofs.«01_k».proof.Proof.Gen.ReferenceIdeal
public import proofs.«01_k».proof.Proof.Gen.Pre_finite
public import proofs.«01_k».proof.Proof.Gen.ReferenceIdeal.Run
public import proofs.«01_k».proof.Proof.Attn.Arrays
public import proofs.«01_k».proof.Proof.Attn.RefOut
public import proofs.«01_k».proof.Proof.Attn.Finite

@[expose] public section

set_option maxRecDepth 16384

noncomputable section

namespace Cert.Attn

open Idealize.ShloMosaic Idealize.ShloMosaic.TcCoe Idealize.SL.Sem Idealize.ShloMosaic.StableHlo

abbrev MemK := (ℓ : Loc KernelIdeal.nD KernelIdeal.τ KernelIdeal.sig) → Buf (Elt Ideal) ℓ
abbrev MemR := (ℓ : Loc ReferenceIdeal.nD ReferenceIdeal.τ ReferenceIdeal.sig) → Buf (Elt Ideal) ℓ

/-- The launch, with its results. -/
theorem kernel_run (m : MemK) (ρ : Dev KernelIdeal.nD → PrngReg) :
    θ_run (KernelIdeal.defs (F := Ideal)) (onTc (τ := KernelIdeal.τ) (KernelIdeal.main (F := Ideal))) ⟨m, fun _ => 0, ρ⟩ (fun r => ∀ c : Dev KernelIdeal.nD,
      r.2.mem ((c.tc : Thread KernelIdeal.nD KernelIdeal.τ).loc KernelIdeal.main_v20_0) = KernelIdeal.Attn.outQ m c
      ∧ r.2.mem ((c.tc : Thread KernelIdeal.nD KernelIdeal.τ).loc KernelIdeal.main_v20_1) = KernelIdeal.Attn.outKV m c
      ∧ r.2.mem ((c.tc : Thread KernelIdeal.nD KernelIdeal.τ).loc KernelIdeal.main_v20_2) = KernelIdeal.Attn.outS m c
      ∧ r.2.mem ((c.tc : Thread KernelIdeal.nD KernelIdeal.τ).loc KernelIdeal.main_v20_3) = KernelIdeal.Attn.outCQ m c
      ∧ r.2.mem ((c.tc : Thread KernelIdeal.nD KernelIdeal.τ).loc KernelIdeal.main_v20_4) = KernelIdeal.Attn.outCKV m c
      ∧ r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)) := by
  refine (θ_run _ _ _).mono (fun r h c => ?_) (θ_run_and (KernelIdeal.Attn.run_main (F := Ideal) m ρ) (KernelIdeal.Attn.frame (F := Ideal) m ρ))
  obtain ⟨⟨hp, -⟩, hf, -⟩ := h
  exact ⟨(hp.out_eq c 6).trans (KernelIdeal.Attn.arr6 m c), (hp.out_eq c 7).trans (KernelIdeal.Attn.arr7 m c),
    (hp.out_eq c 8).trans (KernelIdeal.Attn.arr8 m c), (hp.out_eq c 9).trans (KernelIdeal.Attn.arr9 m c),
    (hp.out_eq c 10).trans (KernelIdeal.Attn.arr10 m c), hf c⟩

section

variable (m : MemK) (m' : MemR) (c : Dev KernelIdeal.nD) (hm : Pre_KernelIdeal_finite m)
variable (h0 : m' ((c.tc : Thread ReferenceIdeal.nD ReferenceIdeal.τ).loc ReferenceIdeal.main_arg0) = m ((c.tc : Thread KernelIdeal.nD KernelIdeal.τ).loc KernelIdeal.main_arg0))
variable (h1 : m' ((c.tc : Thread ReferenceIdeal.nD ReferenceIdeal.τ).loc ReferenceIdeal.main_arg1) = m ((c.tc : Thread KernelIdeal.nD KernelIdeal.τ).loc KernelIdeal.main_arg1))
variable (h2 : m' ((c.tc : Thread ReferenceIdeal.nD ReferenceIdeal.τ).loc ReferenceIdeal.main_arg2) = m ((c.tc : Thread KernelIdeal.nD KernelIdeal.τ).loc KernelIdeal.main_arg2))

include h0 in
theorem same_x : ReferenceIdeal.Attn.X (launchContents m' c) = KernelIdeal.Attn.argX m c :=
  funext fun r => funext fun k => congrFun h0 (ix2 r k)
include h1 in
theorem same_z : ReferenceIdeal.Attn.Z (launchContents m' c) = KernelIdeal.Attn.argZ m c :=
  funext fun r => funext fun k => congrFun h1 (ix2 r k)
include h2 in
theorem same_o : ReferenceIdeal.Attn.O (launchContents m' c) = KernelIdeal.Attn.argO m c :=
  funext fun r => funext fun k => congrFun h2 (ix2 r k)

include hm in
theorem fin_x (r : Fin 8192) (k : Fin 1280) : Row.Fin' (KernelIdeal.Attn.argX m c r k) := (Pre_finite.Attn.reals _ _ _ (hm c)).1 (ix2 r k)
include hm in
theorem fin_z (h : Fin 2) (g : Fin 8) : Row.Fin' (KernelIdeal.Attn.argZ m c h g) := (Pre_finite.Attn.reals _ _ _ (hm c)).2.1 (ix2 h g)
include hm in
theorem fin_o (r : Fin 8192) (k : Fin 1024) : Row.Fin' (KernelIdeal.Attn.argO m c r k) := (Pre_finite.Attn.reals _ _ _ (hm c)).2.2 (ix2 r k)

include hm h0 in
theorem fin_x' (r : Fin 8192) (k : Fin 1280) : Row.Fin' (ReferenceIdeal.Attn.X (launchContents m' c) r k) := by
  rw [same_x m m' c h0]; exact fin_x m c hm r k
include hm h1 in
theorem fin_z' (h : Fin 2) (g : Fin 8) : Row.Fin' (ReferenceIdeal.Attn.Z (launchContents m' c) h g) := by
  rw [same_z m m' c h1]; exact fin_z m c hm h g
include hm h2 in
theorem fin_o' (r : Fin 8192) (k : Fin 1024) : Row.Fin' (ReferenceIdeal.Attn.O (launchContents m' c) r k) := by
  rw [same_o m m' c h2]; exact fin_o m c hm r k

include hm h0 h1 h2

theorem eq_q : ReferenceIdeal.Attn.R167 (launchContents m' c) = KernelIdeal.Attn.outQ m c := by
  funext j
  rw [eq_ix2 j]
  refine (ReferenceIdeal.Attn.r167_at _ (fin_x' m m' c hm h0) (fin_z' m m' c hm h1) (fin_o' m m' c hm h2) (j 0) (j 1)).trans ?_
  rw [same_x m m' c h0, same_z m m' c h1, same_o m m' c h2]
  rfl

theorem eq_kv : ReferenceIdeal.Attn.R169 (launchContents m' c) = KernelIdeal.Attn.outKV m c := by
  funext j
  rw [eq_ix2 j]
  refine (ReferenceIdeal.Attn.r169_at _ (fin_x' m m' c hm h0) (fin_z' m m' c hm h1) (fin_o' m m' c hm h2) (j 0) (j 1)).trans ?_
  rw [same_x m m' c h0, same_z m m' c h1, same_o m m' c h2]
  rfl

theorem eq_s (w : FVec Ideal ReferenceIdeal.S1x64x2x8x128x1 .f32) : ReferenceIdeal.Attn.R138 (launchContents m' c) w = KernelIdeal.Attn.outS m c := by
  funext j
  rw [eq_ix2 j]
  refine (ReferenceIdeal.Attn.r138_at _ (fin_x' m m' c hm h0) (fin_z' m m' c hm h1) (fin_o' m m' c hm h2) w (j 0) (j 1)).trans ?_
  rw [same_x m m' c h0, same_z m m' c h1, same_o m m' c h2]
  rfl

theorem eq_cq : ReferenceIdeal.Attn.R170 (launchContents m' c) = KernelIdeal.Attn.outCQ m c := by
  funext j
  have e : j = ix2 (0 : Fin 1) (j 1) := (eq_ix2 j).trans (congrArg (ix2 · (j 1)) (Subsingleton.elim _ _))
  rw [e]
  refine (ReferenceIdeal.Attn.r170_at _ (fin_x' m m' c hm h0) (fin_z' m m' c hm h1) (fin_o' m m' c hm h2) (j 1)).trans ?_
  rw [same_x m m' c h0, same_z m m' c h1, same_o m m' c h2]
  rfl

theorem eq_ckv : ReferenceIdeal.Attn.R171 (launchContents m' c) = KernelIdeal.Attn.outCKV m c := by
  funext j
  have e : j = ix2 (0 : Fin 1) (j 1) := (eq_ix2 j).trans (congrArg (ix2 · (j 1)) (Subsingleton.elim _ _))
  rw [e]
  refine (ReferenceIdeal.Attn.r171_at _ (fin_x' m m' c hm h0) (fin_z' m m' c hm h1) (fin_o' m m' c hm h2) (j 1)).trans ?_
  rw [same_x m m' c h0, same_z m m' c h1, same_o m m' c h2]
  rfl

end

theorem algebraic : Cert.algebraic_KernelIdeal_ReferenceIdeal_pre_finite := fun m ρ m' ρ' hm ha =>
  ⟨KernelIdeal.Attn.outQ m, KernelIdeal.Attn.outKV m, KernelIdeal.Attn.outS m, KernelIdeal.Attn.outCQ m, KernelIdeal.Attn.outCKV m,
    kernel_run m ρ,
    (θ_run ReferenceIdeal.defs _ _).mono (fun r h c =>
      ⟨(h c).1.trans (eq_q m m' c hm (ha c).1 (ha c).2.1 (ha c).2.2),
        (h c).2.1.trans (eq_kv m m' c hm (ha c).1 (ha c).2.1 (ha c).2.2),
        (h c).2.2.1.trans (eq_s m m' c hm (ha c).1 (ha c).2.1 (ha c).2.2 _),
        (h c).2.2.2.1.trans (eq_cq m m' c hm (ha c).1 (ha c).2.1 (ha c).2.2),
        (h c).2.2.2.2.1.trans (eq_ckv m m' c hm (ha c).1 (ha c).2.1 (ha c).2.2),
        (h c).2.2.2.2.2⟩) (ReferenceIdeal.Value.run (F := Ideal) m' ρ')⟩

end Cert.Attn

end
-- ==== Proof.Attn.SameText.lean ====
/- The kernel's frame over bit patterns, from the idealized program's run: the two programs are one text. -/
module

public import proofs.«01_k».proof.Defs
public import proofs.«01_k».proof.Proof.Gen.Kernel
public import proofs.«01_k».proof.Proof.Gen.KernelIdeal
public import proofs.«01_k».proof.Proof.Attn.Run

@[expose] public section

noncomputable section

namespace Cert.Kernel.Attn

open Idealize.ShloMosaic Idealize.SL.Sem Cert.Kernel

/-- The two programs' bodies are one table. -/
theorem same_body [h : Cert.Kernel.Facts] [h' : Cert.KernelIdeal.Facts] :
    Cert.Kernel.defs₀ (F := Bits) = Cert.KernelIdeal.defs₀ (F := Bits) := by
  unfold Cert.Kernel.defs₀ Cert.KernelIdeal.defs₀
  refine congrArg Defs.onTc (funext fun ℓ => funext fun a => ?_)
  match ℓ, a with
  | ⟨0, _⟩, (t, s) => rfl

/-- They leave the same windows alone at the same points. -/
theorem same_idle [h : Cert.Kernel.Facts] [h' : Cert.KernelIdeal.Facts] :
    Cert.Kernel.idle0 = Cert.KernelIdeal.idle0 := funext fun w => by fin_cases w <;> rfl

theorem same_loose [h : Cert.Kernel.Facts] [h' : Cert.KernelIdeal.Facts] :
    Cert.Kernel.cfg0.loose = Cert.KernelIdeal.cfg0.loose := funext fun w => by fin_cases w <;> rfl

/-- Their pipelines are one. -/
theorem same_cfg [h : Cert.Kernel.Facts] [h' : Cert.KernelIdeal.Facts] :
    Cert.Kernel.cfg0 = Cert.KernelIdeal.cfg0 :=
  congrArg₂ (fun l i => ({ Cert.KernelIdeal.cfg0 with loose := l, idle := i } : Pipeline.Cfg Cert.KernelIdeal.sig Cert.KernelIdeal.Λ₀)) same_loose same_idle

/-- The statement of the frame at a pipeline and a body table. -/
def FrameAt [h : Cert.Kernel.Facts] (m : (ℓ : Loc nD τ sig) → Buf (Elt Bits) ℓ) (ρ : Dev nD → PrngReg)
    (cfg : Pipeline.Cfg sig Λ₀) (d : Defs nD τ sig (Elt Bits) Λ₀) : Prop :=
  θ_run (Pipeline.defs (fun _ => cfg.toPCfg) d : Defs nD τ sig (Elt Bits) (Pipeline.Sig Λ₀ (Fin 1) fun p => (pcfgs (F := Bits) p).Adm))
    (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

/-- The kernel's frame is the idealized program's run, read at bit patterns. -/
theorem frame_kernel : Cert.quiescent_Kernel := fun m ρ _ =>
  (congrArg₂ (FrameAt m ρ) same_cfg same_body).mpr (Cert.KernelIdeal.Attn.frame (F := Bits) m ρ)

end Cert.Kernel.Attn

end
-- ==== Proof.lean ====
/- The assembly of the certificate: the frames from the runs, the equation, and the claim. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.Gen.Pre_finite15
public import proofs.«01_k».proof.Proof.Attn.Run
public import proofs.«01_k».proof.Proof.Mm.UpDw
public import proofs.«01_k».proof.Proof.Mm.DownDw
public import proofs.«01_k».proof.Proof.Mm.DownDx
public import proofs.«01_k».proof.Proof.Mm.Up0
public import proofs.«01_k».proof.Proof.Mm.Up1
public import proofs.«01_k».proof.Proof.Mm.ProjFwd
public import proofs.«01_k».proof.Proof.Mm.ProjDw
public import proofs.«01_k».proof.Proof.Mm.OutDx
public import proofs.«01_k».proof.Proof.Mm.OutDw
public import proofs.«01_k».proof.Proof.Mm.AttnProj
public import proofs.«01_k».proof.Proof.Mm.FfnDown
public import proofs.«01_k».proof.Proof.Mm.MlstmOut
public import proofs.«01_k».proof.Proof.Mm.AttnOut
public import proofs.«01_k».proof.Proof.Mm.LossClaims
public import proofs.«01_k».proof.Proof.Attn.Equation
public import proofs.«01_k».proof.Proof.Attn.SameText
public import Idealize.ShloMosaic.Adequacy
public import Idealize.ShloMosaic.Init

@[expose] public section

noncomputable section

namespace Cert.Proof

open Idealize.ShloMosaic Idealize.SL.Sem Cert.Kernel

/-- The kernel over bit patterns. -/
theorem frame_kernel : Cert.quiescent_Kernel := Cert.Kernel.Attn.frame_kernel

/-- The kernel over the extended reals. -/
theorem frame_ideal : Cert.quiescent_KernelIdeal := fun m ρ _ => Cert.KernelIdeal.Attn.frame (F := Ideal) m ρ

/-- The reference over the extended reals. -/
theorem frame_reference : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Pre_finite.Gen.facts, Cert.Pre_finite15.Gen.facts,
  frame_kernel, frame_ideal, fun m ρ _ => frame_ideal m ρ trivial, frame_reference, fun m ρ _ => frame_reference m ρ trivial,
  Cert.Mm.UpDw.frame_kernel, Cert.Mm.UpDw.frame_ideal, Cert.Mm.UpDw.frame_reference,
  Cert.Mm.DownDw.frame_kernel, Cert.Mm.DownDw.frame_ideal, Cert.Mm.DownDw.frame_reference,
  Cert.Mm.DownDx.frame_kernel, Cert.Mm.DownDx.frame_ideal, Cert.Mm.DownDx.frame_reference,
  Cert.Mm.Up0.frame_kernel, Cert.Mm.Up0.frame_ideal, Cert.Mm.Up0.frame_reference,
  Cert.Mm.Up1.frame_kernel, Cert.Mm.Up1.frame_ideal, Cert.Mm.Up1.frame_reference,
  Cert.Mm.ProjFwd.frame_kernel, Cert.Mm.ProjFwd.frame_ideal, Cert.Mm.ProjFwd.frame_reference,
  Cert.Mm.ProjDw.frame_kernel, Cert.Mm.ProjDw.frame_ideal, Cert.Mm.ProjDw.frame_reference,
  Cert.Mm.OutDx.frame_kernel, Cert.Mm.OutDx.frame_ideal, Cert.Mm.OutDx.frame_reference,
  Cert.Mm.OutDw.frame_kernel, Cert.Mm.OutDw.frame_ideal, Cert.Mm.OutDw.frame_reference,
  Cert.Mm.AttnProj.frame_kernel, Cert.Mm.AttnProj.frame_ideal, Cert.Mm.AttnProj.frame_reference,
  Cert.Mm.FfnDown.frame_kernel, Cert.Mm.FfnDown.frame_ideal, Cert.Mm.FfnDown.frame_reference,
  Cert.Mm.MlstmOut.frame_kernel, Cert.Mm.MlstmOut.frame_ideal, Cert.Mm.MlstmOut.frame_reference,
  Cert.Mm.AttnOut.frame_kernel, Cert.Mm.AttnOut.frame_ideal, Cert.Mm.AttnOut.frame_reference,
  Cert.Mm.LossEnd.frame_kernel, Cert.Mm.LossEnd.frame_ideal, Cert.Mm.LossEnd.frame_ideal_pre, Cert.Mm.LossEnd.frame_reference, Cert.Mm.LossEnd.frame_reference_pre,
  trivial, Cert.Attn.algebraic,
  trivial, Cert.Mm.UpDw.algebraic,
  trivial, Cert.Mm.DownDw.algebraic,
  trivial, Cert.Mm.DownDx.algebraic,
  trivial, Cert.Mm.Up0.algebraic,
  trivial, Cert.Mm.Up1.algebraic,
  trivial, Cert.Mm.ProjFwd.algebraic,
  trivial, Cert.Mm.ProjDw.algebraic,
  trivial, Cert.Mm.OutDx.algebraic,
  trivial, Cert.Mm.OutDw.algebraic,
  trivial, Cert.Mm.AttnProj.algebraic,
  trivial, Cert.Mm.FfnDown.algebraic,
  trivial, Cert.Mm.MlstmOut.algebraic,
  trivial, Cert.Mm.AttnOut.algebraic,
  trivial, Cert.Mm.LossEnd.algebraic⟩

end Cert.Proof

end
